-- ==== Defs.lean ====
def Pre_Kernel [hPre_pre_rows : Cert.Pre_pre_rows.Facts] (m : (ℓ : Loc Cert.Kernel.nD Cert.Kernel.τ Cert.Kernel.sig) → Buf (Elt Bits) ℓ) : Prop :=
  ∀ c : Dev Cert.Kernel.nD,
    (Cert.Pre_pre_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_pre_rows : Cert.Pre_pre_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pre_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_pre_idx [hPre_pre_idx : Cert.Pre_pre_idx.Facts] (m : (ℓ : Loc Cert.KernelIdeal.nD Cert.KernelIdeal.τ Cert.KernelIdeal.sig) → Buf (Elt Ideal) ℓ) : Prop :=
  ∀ c : Dev Cert.KernelIdeal.nD,
    (Cert.Pre_pre_idx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_idx [hPre_pre_idx : Cert.Pre_pre_idx.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_idx.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_pre_rows : Cert.Pre_pre_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_pre_rows : Cert.Pre_pre_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_pre_idx [hKernelIdeal : Cert.KernelIdeal.Facts] [hPre_pre_idx : Cert.Pre_pre_idx.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_idx m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_pre_idx [hReferenceIdeal : Cert.ReferenceIdeal.Facts] [hPre_pre_idx : Cert.Pre_pre_idx.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_idx m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "fifth" .f32 0x3E4CCCCD#32 ((1 / 5 : ℝ) : EReal)

def algebraic_KernelIdeal_ReferenceIdeal_pre_pre_idx [hKernelIdeal : Cert.KernelIdeal.Facts] [hReferenceIdeal : Cert.ReferenceIdeal.Facts] [hPre_pre_idx : Cert.Pre_pre_idx.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_idx m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v476) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_pre_rows : Cert.Pre_pre_rows.Facts) (hPre_pre_idx : Cert.Pre_pre_idx.Facts),
    quiescent_Kernel (hKernel := hKernel) (hPre_pre_rows := hPre_pre_rows)
    ∧ quiescent_KernelIdeal (hKernelIdeal := hKernelIdeal) (hPre_pre_rows := hPre_pre_rows)
    ∧ quiescent_KernelIdeal_pre_pre_idx (hKernelIdeal := hKernelIdeal) (hPre_pre_idx := hPre_pre_idx)
    ∧ quiescent_ReferenceIdeal (hReferenceIdeal := hReferenceIdeal)
    ∧ quiescent_ReferenceIdeal_pre_pre_idx (hReferenceIdeal := hReferenceIdeal) (hPre_pre_idx := hPre_pre_idx)
    ∧ preserves_Kernel_KernelIdeal
    ∧ algebraic_KernelIdeal_ReferenceIdeal_pre_pre_idx (hKernelIdeal := hKernelIdeal) (hReferenceIdeal := hReferenceIdeal) (hPre_pre_idx := hPre_pre_idx)
-- ==== Pre_pre_idx.lean ====
abbrev S100000x128 : Shape := ⟨2, ![100000, 128]⟩
abbrev S4096 : Shape := ⟨1, ![4096]⟩
abbrev S5x4096x5 : Shape := ⟨3, ![5, 4096, 5]⟩
abbrev S5x20480x2 : Shape := ⟨3, ![5, 20480, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S8x4 : Shape := ⟨2, ![8, 4]⟩
abbrev S64x5 : Shape := ⟨2, ![64, 5]⟩
abbrev S64x64 : Shape := ⟨2, ![64, 64]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S5x4096x5 : S_.BroadcastsInDim S5x4096x5 (![] : Fin 0 → Fin S5x4096x5.rank)
  reducesTo_S5x4096x5_S_d0_1_2 : S5x4096x5.ReducesTo [0, 1, 2] S_
  bcast_S_S5x20480x2 : S_.BroadcastsInDim S5x20480x2 (![] : Fin 0 → Fin S5x20480x2.rank)
  reducesTo_S5x20480x2_S_d0_1_2 : S5x20480x2.ReducesTo [0, 1, 2] S_
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S8x4 : S_.BroadcastsInDim S8x4 (![] : Fin 0 → Fin S8x4.rank)
  reducesTo_S8x4_S_d0_1 : S8x4.ReducesTo [0, 1] S_

variable [Facts]

def fn_part3 {F : FTy → Type} [FloatOps F] (main_arg10 : FVec F S8x4 .f32) (main_v49 : IVec S_ 1) (main_v50 : FVec F S64 .f32) : IVec S_ 1 :=
  let main_cst_19 : FVec F S_ .f32 := constant S_ .f32 0x7F800000#32
  let main_v51 : FVec F S64 .f32 := broadcastInDim S64 ![] bcast_S_S64 main_cst_19
  let main_v52 : IVec S64 1 := cmpf .olt main_v50 main_v51
  let main_c_20 : IVec S_ 1 := constantI S_ 1 1#1
  let main_v53 : IVec S_ 1 := (fun x v => Host.reduce IntOp.andi x v reducesTo_S64_S_d0 h_S_) main_v52 main_c_20
  let main_v54 : IVec S_ 1 := andi main_v49 main_v53
  let main_v55 : FVec F S8x4 .f32 := Host.absf main_arg10
  let main_cst_21 : FVec F S_ .f32 := constant S_ .f32 0x7F800000#32
  let main_v56 : FVec F S8x4 .f32 := broadcastInDim S8x4 ![] bcast_S_S8x4 main_cst_21
  let main_v57 : IVec S8x4 1 := cmpf .olt main_v55 main_v56
  let main_c_22 : IVec S_ 1 := constantI S_ 1 1#1
  let main_v58 : IVec S_ 1 := (fun x v => Host.reduce IntOp.andi x v reducesTo_S8x4_S_d0_1 h_S_) main_v57 main_c_22
  let main_v59 : IVec S_ 1 := andi main_v54 main_v58
  main_v59

def fn_part2 {F : FTy → Type} [FloatOps F] (main_arg6 : FVec F S128 .f32) (main_arg7 : FVec F S128x64 .f32) (main_arg8 : FVec F S128x64 .f32) (main_arg9 : FVec F S64 .f32) (main_arg10 : FVec F S8x4 .f32) (main_v29 : IVec S_ 1) (main_v32 : IVec S128x128 1) (main_c_12 : IVec S_ 1) : IVec S_ 1 :=
  let main_v33 : IVec S_ 1 := (fun x v => Host.reduce IntOp.andi x v reducesTo_S128x128_S_d0_1 h_S_) main_v32 main_c_12
  let main_v34 : IVec S_ 1 := andi main_v29 main_v33
  let main_v35 : FVec F S128 .f32 := Host.absf main_arg6
  let main_cst_13 : FVec F S_ .f32 := constant S_ .f32 0x7F800000#32
  let main_v36 : FVec F S128 .f32 := broadcastInDim S128 ![] bcast_S_S128 main_cst_13
  let main_v37 : IVec S128 1 := cmpf .olt main_v35 main_v36
  let main_c_14 : IVec S_ 1 := constantI S_ 1 1#1
  let main_v38 : IVec S_ 1 := (fun x v => Host.reduce IntOp.andi x v reducesTo_S128_S_d0 h_S_) main_v37 main_c_14
  let main_v39 : IVec S_ 1 := andi main_v34 main_v38
  let main_v40 : FVec F S128x64 .f32 := Host.absf main_arg7
  let main_cst_15 : FVec F S_ .f32 := constant S_ .f32 0x7F800000#32
  let main_v41 : FVec F S128x64 .f32 := broadcastInDim S128x64 ![] bcast_S_S128x64 main_cst_15
  let main_v42 : IVec S128x64 1 := cmpf .olt main_v40 main_v41
  let main_c_16 : IVec S_ 1 := constantI S_ 1 1#1
  let main_v43 : IVec S_ 1 := (fun x v => Host.reduce IntOp.andi x v reducesTo_S128x64_S_d0_1 h_S_) main_v42 main_c_16
  let main_v44 : IVec S_ 1 := andi main_v39 main_v43
  let main_v45 : FVec F S128x64 .f32 := Host.absf main_arg8
  let main_cst_17 : FVec F S_ .f32 := constant S_ .f32 0x7F800000#32
  let main_v46 : FVec F S128x64 .f32 := broadcastInDim S128x64 ![] bcast_S_S128x64 main_cst_17
  let main_v47 : IVec S128x64 1 := cmpf .olt main_v45 main_v46
  let main_c_18 : IVec S_ 1 := constantI S_ 1 1#1
  let main_v48 : IVec S_ 1 := (fun x v => Host.reduce IntOp.andi x v reducesTo_S128x64_S_d0_1 h_S_) main_v47 main_c_18
  let main_v49 : IVec S_ 1 := andi main_v44 main_v48
  let main_v50 : FVec F S64 .f32 := Host.absf main_arg9
  fn_part3 (F := F) main_arg10 main_v49 main_v50

def fn_part1 {F : FTy → Type} [FloatOps F] (main_arg0 : FVec F S100000x128 .f32) (main_arg3 : IVec S5x20480x2 32) (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_arg10 : FVec F S8x4 .f32) (main_v12 : IVec S_ 1) (main_v14 : IVec S5x20480x2 1) (main_v15 : IVec S5x20480x2 32) : IVec S_ 1 :=
  let main_v16 : IVec S5x20480x2 1 := cmpi .slt main_arg3 main_v15
  let main_v17 : IVec S5x20480x2 1 := andi main_v14 main_v16
  let main_c_7 : IVec S_ 1 := constantI S_ 1 1#1
  let main_v18 : IVec S_ 1 := (fun x v => Host.reduce IntOp.andi x v reducesTo_S5x20480x2_S_d0_1_2 h_S_) main_v17 main_c_7
  let main_v19 : IVec S_ 1 := andi main_v12 main_v18
  let main_v20 : FVec F S100000x128 .f32 := Host.absf main_arg0
  let main_cst : FVec F S_ .f32 := constant S_ .f32 0x7F800000#32
  let main_v21 : FVec F S100000x128 .f32 := broadcastInDim S100000x128 ![] bcast_S_S100000x128 main_cst
  let main_v22 : IVec S100000x128 1 := cmpf .olt main_v20 main_v21
  let main_c_8 : IVec S_ 1 := constantI S_ 1 1#1
  let main_v23 : IVec S_ 1 := (fun x v => Host.reduce IntOp.andi x v reducesTo_S100000x128_S_d0_1 h_S_) main_v22 main_c_8
  let main_v24 : IVec S_ 1 := andi main_v19 main_v23
  let main_v25 : FVec F S128x128 .f32 := Host.absf main_arg4
  let main_cst_9 : FVec F S_ .f32 := constant S_ .f32 0x7F800000#32
  let main_v26 : FVec F S128x128 .f32 := broadcastInDim S128x128 ![] bcast_S_S128x128 main_cst_9
  let main_v27 : IVec S128x128 1 := cmpf .olt main_v25 main_v26
  let main_c_10 : IVec S_ 1 := constantI S_ 1 1#1
  let main_v28 : IVec S_ 1 := (fun x v => Host.reduce IntOp.andi x v reducesTo_S128x128_S_d0_1 h_S_) main_v27 main_c_10
  let main_v29 : IVec S_ 1 := andi main_v24 main_v28
  let main_v30 : FVec F S128x128 .f32 := Host.absf main_arg5
  let main_cst_11 : FVec F S_ .f32 := constant S_ .f32 0x7F800000#32
  let main_v31 : FVec F S128x128 .f32 := broadcastInDim S128x128 ![] bcast_S_S128x128 main_cst_11
  let main_v32 : IVec S128x128 1 := cmpf .olt main_v30 main_v31
  let main_c_12 : IVec S_ 1 := constantI S_ 1 1#1
  fn_part2 (F := F) main_arg6 main_arg7 main_arg8 main_arg9 main_arg10 main_v29 main_v32 main_c_12

def fn {F : FTy → Type} [FloatOps F] (main_arg0 : FVec F S100000x128 .f32) (main_arg1 : IVec S4096 32) (main_arg2 : IVec S5x4096x5 32) (main_arg3 : IVec S5x20480x2 32) (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_arg10 : FVec F S8x4 .f32) (main_arg11 : FVec F S64x5 .f32) (main_arg12 : FVec F S64x64 .f32) (main_arg13 : FVec F S64 .f32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 100000#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S5x4096x5 32 := broadcastInDim S5x4096x5 ![] bcast_S_S5x4096x5 main_c_2
  let main_v7 : IVec S5x4096x5 1 := cmpi .sge main_arg2 main_v6
  let main_c_3 : IVec S_ 32 := constantI S_ 32 100000#32
  let main_v8 : IVec S5x4096x5 32 := broadcastInDim S5x4096x5 ![] bcast_S_S5x4096x5 main_c_3
  let main_v9 : IVec S5x4096x5 1 := cmpi .slt main_arg2 main_v8
  let main_v10 : IVec S5x4096x5 1 := andi main_v7 main_v9
  let main_c_4 : IVec S_ 1 := constantI S_ 1 1#1
  let main_v11 : IVec S_ 1 := (fun x v => Host.reduce IntOp.andi x v reducesTo_S5x4096x5_S_d0_1_2 h_S_) main_v10 main_c_4
  let main_v12 : IVec S_ 1 := andi main_v5 main_v11
  let main_c_5 : IVec S_ 32 := constantI S_ 32 0#32
  let main_v13 : IVec S5x20480x2 32 := broadcastInDim S5x20480x2 ![] bcast_S_S5x20480x2 main_c_5
  let main_v14 : IVec S5x20480x2 1 := cmpi .sge main_arg3 main_v13
  let main_c_6 : IVec S_ 32 := constantI S_ 32 100000#32
  let main_v15 : IVec S5x20480x2 32 := broadcastInDim S5x20480x2 ![] bcast_S_S5x20480x2 main_c_6
  fn_part1 (F := F) main_arg0 main_arg3 main_arg4 main_arg5 main_arg6 main_arg7 main_arg8 main_arg9 main_arg10 main_v12 main_v14 main_v15
-- ==== Pre_pre_rows.lean ====
abbrev S100000x128 : Shape := ⟨2, ![100000, 128]⟩
abbrev S4096 : Shape := ⟨1, ![4096]⟩
abbrev S5x4096x5 : Shape := ⟨3, ![5, 4096, 5]⟩
abbrev S5x20480x2 : Shape := ⟨3, ![5, 20480, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S8x4 : Shape := ⟨2, ![8, 4]⟩
abbrev S64x5 : Shape := ⟨2, ![64, 5]⟩
abbrev S64x64 : Shape := ⟨2, ![64, 64]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S5x4096x5 : S_.BroadcastsInDim S5x4096x5 (![] : Fin 0 → Fin S5x4096x5.rank)
  reducesTo_S5x4096x5_S_d0_1_2 : S5x4096x5.ReducesTo [0, 1, 2] S_
  bcast_S_S5x20480x2 : S_.BroadcastsInDim S5x20480x2 (![] : Fin 0 → Fin S5x20480x2.rank)
  reducesTo_S5x20480x2_S_d0_1_2 : S5x20480x2.ReducesTo [0, 1, 2] S_

variable [Facts]

def fn_part1 {F : FTy → Type} [FloatOps F] (main_arg3 : IVec S5x20480x2 32) (main_v12 : IVec S_ 1) (main_v14 : IVec S5x20480x2 1) (main_v15 : IVec S5x20480x2 32) : IVec S_ 1 :=
  let main_v16 : IVec S5x20480x2 1 := cmpi .slt main_arg3 main_v15
  let main_v17 : IVec S5x20480x2 1 := andi main_v14 main_v16
  let main_c_7 : IVec S_ 1 := constantI S_ 1 1#1
  let main_v18 : IVec S_ 1 := (fun x v => Host.reduce IntOp.andi x v reducesTo_S5x20480x2_S_d0_1_2 h_S_) main_v17 main_c_7
  let main_v19 : IVec S_ 1 := andi main_v12 main_v18
  main_v19

def fn {F : FTy → Type} [FloatOps F] (main_arg0 : FVec F S100000x128 .f32) (main_arg1 : IVec S4096 32) (main_arg2 : IVec S5x4096x5 32) (main_arg3 : IVec S5x20480x2 32) (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_arg10 : FVec F S8x4 .f32) (main_arg11 : FVec F S64x5 .f32) (main_arg12 : FVec F S64x64 .f32) (main_arg13 : FVec F S64 .f32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 100000#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S5x4096x5 32 := broadcastInDim S5x4096x5 ![] bcast_S_S5x4096x5 main_c_2
  let main_v7 : IVec S5x4096x5 1 := cmpi .sge main_arg2 main_v6
  let main_c_3 : IVec S_ 32 := constantI S_ 32 100000#32
  let main_v8 : IVec S5x4096x5 32 := broadcastInDim S5x4096x5 ![] bcast_S_S5x4096x5 main_c_3
  let main_v9 : IVec S5x4096x5 1 := cmpi .slt main_arg2 main_v8
  let main_v10 : IVec S5x4096x5 1 := andi main_v7 main_v9
  let main_c_4 : IVec S_ 1 := constantI S_ 1 1#1
  let main_v11 : IVec S_ 1 := (fun x v => Host.reduce IntOp.andi x v reducesTo_S5x4096x5_S_d0_1_2 h_S_) main_v10 main_c_4
  let main_v12 : IVec S_ 1 := andi main_v5 main_v11
  let main_c_5 : IVec S_ 32 := constantI S_ 32 0#32
  let main_v13 : IVec S5x20480x2 32 := broadcastInDim S5x20480x2 ![] bcast_S_S5x20480x2 main_c_5
  let main_v14 : IVec S5x20480x2 1 := cmpi .sge main_arg3 main_v13
  let main_c_6 : IVec S_ 32 := constantI S_ 32 100000#32
  let main_v15 : IVec S5x20480x2 32 := broadcastInDim S5x20480x2 ![] bcast_S_S5x20480x2 main_c_6
  fn_part1 (F := F) main_arg3 main_v12 main_v14 main_v15
-- ==== Kernel.lean ====
abbrev S100000x128 : Shape := ⟨2, ![100000, 128]⟩
abbrev S4096 : Shape := ⟨1, ![4096]⟩
abbrev S5x4096x5 : Shape := ⟨3, ![5, 4096, 5]⟩
abbrev S5x20480x2 : Shape := ⟨3, ![5, 20480, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S8x4 : Shape := ⟨2, ![8, 4]⟩
abbrev S64x5 : Shape := ⟨2, ![64, 5]⟩
abbrev S64x64 : Shape := ⟨2, ![64, 64]⟩
abbrev S5x5x4096 : Shape := ⟨3, ![5, 5, 4096]⟩
abbrev S102400 : Shape := ⟨1, ![102400]⟩
abbrev S5x4096x5x2 : Shape := ⟨4, ![5, 4096, 5, 2]⟩
abbrev S5x5x4096x2 : Shape := ⟨4, ![5, 5, 4096, 2]⟩
abbrev S102400x2 : Shape := ⟨2, ![102400, 2]⟩
abbrev S102400x1 : Shape := ⟨2, ![102400, 1]⟩
abbrev S4096x128 : Shape := ⟨2, ![4096, 128]⟩
abbrev S5x20480x128 : Shape := ⟨3, ![5, 20480, 128]⟩
abbrev S_ : Shape := ⟨0, ![]⟩
abbrev S1x128x128 : Shape := ⟨3, ![1, 128, 128]⟩
abbrev S1x16 : Shape := ⟨2, ![1, 16]⟩
abbrev S16 : Shape := ⟨1, ![16]⟩
abbrev S5x5x4096x128 : Shape := ⟨4, ![5, 5, 4096, 128]⟩
abbrev S8x8x4 : Shape := ⟨3, ![8, 8, 4]⟩
abbrev S64x4 : Shape := ⟨2, ![64, 4]⟩
abbrev S4x64 : Shape := ⟨2, ![4, 64]⟩
abbrev S5x64 : Shape := ⟨2, ![5, 64]⟩
abbrev S1x128 : Shape := ⟨2, ![1, 128]⟩
abbrev S1x64 : Shape := ⟨2, ![1, 64]⟩
abbrev S4096x64 : Shape := ⟨2, ![4096, 64]⟩
abbrev S2048x128 : Shape := ⟨2, ![2048, 128]⟩
abbrev S1x5x2048x128 : Shape := ⟨4, ![1, 5, 2048, 128]⟩
abbrev S2048x64 : Shape := ⟨2, ![2048, 64]⟩
abbrev S5x2048x128 : Shape := ⟨3, ![5, 2048, 128]⟩
abbrev S1x2048x128 : Shape := ⟨3, ![1, 2048, 128]⟩
abbrev S10240x128 : Shape := ⟨2, ![10240, 128]⟩
abbrev S3x64 : Shape := ⟨2, ![3, 64]⟩

abbrev nBuf : Table → Nat
  | .hbm => 36
  | .local .tc .vmem => 19
  | .local .scVector .vmem => 14
  | _ => 0

abbrev bufTy : (tb : Table) → Fin (nBuf tb) → BufTy
  | .hbm, ⟨0, _⟩ => ⟨S100000x128, .f32⟩
  | .hbm, ⟨1, _⟩ => ⟨S4096, .i32⟩
  | .hbm, ⟨2, _⟩ => ⟨S5x4096x5, .i32⟩
  | .hbm, ⟨3, _⟩ => ⟨S5x20480x2, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S8x4, .f32⟩
  | .hbm, ⟨11, _⟩ => ⟨S64x5, .f32⟩
  | .hbm, ⟨12, _⟩ => ⟨S64x64, .f32⟩
  | .hbm, ⟨13, _⟩ => ⟨S64, .f32⟩
  | .hbm, ⟨14, _⟩ => ⟨S5x5x4096, .i32⟩
  | .hbm, ⟨15, _⟩ => ⟨S102400, .i32⟩
  | .hbm, ⟨16, _⟩ => ⟨S5x4096x5x2, .i32⟩
  | .hbm, ⟨17, _⟩ => ⟨S5x5x4096x2, .i32⟩
  | .hbm, ⟨18, _⟩ => ⟨S102400x2, .i32⟩
  | .hbm, ⟨19, _⟩ => ⟨S102400x1, .i32⟩
  | .hbm, ⟨20, _⟩ => ⟨S102400, .i32⟩
  | .hbm, ⟨21, _⟩ => ⟨S102400x1, .i32⟩
  | .hbm, ⟨22, _⟩ => ⟨S102400, .i32⟩
  | .hbm, ⟨23, _⟩ => ⟨S4096x128, .f32⟩
  | .hbm, ⟨24, _⟩ => ⟨S5x20480x128, .f32⟩
  | .hbm, ⟨25, _⟩ => ⟨S5x20480x128, .f32⟩
  | .hbm, ⟨26, _⟩ => ⟨S5x5x4096x128, .f32⟩
  | .hbm, ⟨27, _⟩ => ⟨S5x5x4096x128, .f32⟩
  | .hbm, ⟨28, _⟩ => ⟨S8x8x4, .f32⟩
  | .hbm, ⟨29, _⟩ => ⟨S64x4, .f32⟩
  | .hbm, ⟨30, _⟩ => ⟨S4x64, .f32⟩
  | .hbm, ⟨31, _⟩ => ⟨S5x64, .f32⟩
  | .hbm, ⟨32, _⟩ => ⟨S1x128, .f32⟩
  | .hbm, ⟨33, _⟩ => ⟨S1x64, .f32⟩
  | .hbm, ⟨34, _⟩ => ⟨S1x64, .f32⟩
  | .hbm, ⟨35, _⟩ => ⟨S4096x64, .f32⟩
  | .local .tc .vmem, ⟨0, _⟩ => ⟨S2048x128, .f32⟩
  | .local .tc .vmem, ⟨1, _⟩ => ⟨S2048x128, .f32⟩
  | .local .tc .vmem, ⟨2, _⟩ => ⟨S1x5x2048x128, .f32⟩
  | .local .tc .vmem, ⟨3, _⟩ => ⟨S1x5x2048x128, .f32⟩
  | .local .tc .vmem, ⟨4, _⟩ => ⟨S1x5x2048x128, .f32⟩
  | .local .tc .vmem, ⟨5, _⟩ => ⟨S1x5x2048x128, .f32⟩
  | .local .tc .vmem, ⟨6, _⟩ => ⟨S128x128, .f32⟩
  | .local .tc .vmem, ⟨7, _⟩ => ⟨S128x128, .f32⟩
  | .local .tc .vmem, ⟨8, _⟩ => ⟨S1x128, .f32⟩
  | .local .tc .vmem, ⟨9, _⟩ => ⟨S128x64, .f32⟩
  | .local .tc .vmem, ⟨10, _⟩ => ⟨S128x64, .f32⟩
  | .local .tc .vmem, ⟨11, _⟩ => ⟨S1x64, .f32⟩
  | .local .tc .vmem, ⟨12, _⟩ => ⟨S4x64, .f32⟩
  | .local .tc .vmem, ⟨13, _⟩ => ⟨S5x64, .f32⟩
  | .local .tc .vmem, ⟨14, _⟩ => ⟨S64x64, .f32⟩
  | .local .tc .vmem, ⟨15, _⟩ => ⟨S1x64, .f32⟩
  | .local .tc .vmem, ⟨16, _⟩ => ⟨S2048x64, .f32⟩
  | .local .tc .vmem, ⟨17, _⟩ => ⟨S2048x64, .f32⟩
  | .local .tc .vmem, ⟨18, _⟩ => ⟨S2048x64, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128, .i32⟩
  | .local .scVector .vmem, ⟨5, _⟩ => ⟨S128, .i32⟩
  | .local .scVector .vmem, ⟨6, _⟩ => ⟨S128, .i32⟩
  | .local .scVector .vmem, ⟨7, _⟩ => ⟨S128, .i32⟩
  | .local .scVector .vmem, ⟨8, _⟩ => ⟨S128x128, .f32⟩
  | .local .scVector .vmem, ⟨9, _⟩ => ⟨S128x128, .f32⟩
  | .local .scVector .vmem, ⟨10, _⟩ => ⟨S128x128, .f32⟩
  | .local .scVector .vmem, ⟨11, _⟩ => ⟨S128x128, .f32⟩
  | .local .scVector .vmem, ⟨12, _⟩ => ⟨S128x128, .f32⟩
  | .local .scVector .vmem, ⟨13, _⟩ => ⟨S128x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 107 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => false
  | ⟨78, _⟩ => false
  | ⟨79, _⟩ => false
  | ⟨80, _⟩ => false
  | ⟨81, _⟩ => false
  | ⟨82, _⟩ => false
  | ⟨83, _⟩ => false
  | ⟨84, _⟩ => false
  | ⟨85, _⟩ => false
  | ⟨86, _⟩ => false
  | ⟨87, _⟩ => false
  | ⟨88, _⟩ => false
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  ofTables nBuf rfl bufTy 4 107 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_arg0_scv : Ref sig .scVector := ⟨.hbm, 0, rfl⟩
abbrev main_arg1_scv : Ref sig .scVector := ⟨.hbm, 1, rfl⟩
abbrev main_v1_scv : Ref sig .scVector := ⟨.hbm, 15, rfl⟩
abbrev main_v6_scv : Ref sig .scVector := ⟨.hbm, 20, rfl⟩
abbrev main_v8_scv : Ref sig .scVector := ⟨.hbm, 22, rfl⟩
abbrev main_v9_0_scv : Ref sig .scVector := ⟨.hbm, 23, rfl⟩
abbrev main_v9_1_scv : Ref sig .scVector := ⟨.hbm, 24, rfl⟩
abbrev main_v9_2_scv : Ref sig .scVector := ⟨.hbm, 25, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg13_0 : Ref sig .tc := ⟨.vmem, 16, rfl⟩
abbrev cc1_stg13_1 : Ref sig .tc := ⟨.vmem, 17, rfl⟩
abbrev cc1_scratch0 : Ref sig .tc := ⟨.vmem, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc1_sem0_0 : DmaSem sig := 89
abbrev cc1_sem0_1 : DmaSem sig := 90
abbrev cc1_sem1_0 : DmaSem sig := 91
abbrev cc1_sem1_1 : DmaSem sig := 92
abbrev cc1_sem2_0 : DmaSem sig := 93
abbrev cc1_sem2_1 : DmaSem sig := 94
abbrev cc1_sem3_0 : DmaSem sig := 95
abbrev cc1_sem4_0 : DmaSem sig := 96
abbrev cc1_sem5_0 : DmaSem sig := 97
abbrev cc1_sem6_0 : DmaSem sig := 98
abbrev cc1_sem7_0 : DmaSem sig := 99
abbrev cc1_sem8_0 : DmaSem sig := 100
abbrev cc1_sem9_0 : DmaSem sig := 101
abbrev cc1_sem10_0 : DmaSem sig := 102
abbrev cc1_sem11_0 : DmaSem sig := 103
abbrev cc1_sem12_0 : DmaSem sig := 104
abbrev cc1_sem13_0 : DmaSem sig := 105
abbrev cc1_sem13_1 : DmaSem sig := 106
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_3 : BitVec 32 := 128#32
  let v5 : BitVec 32 := Scalar.muli v1 c128_i32_3
  let c0_i32_993_r1 : BitVec 32 := 0#32
  ![v5.toNat, 0]
def k0_off3 (i : grid0.Coords) (c0_i32_4 : BitVec 32) (c0_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v6 : BitVec 32 := Scalar.muli v1 c640_i32
  let v7 : BitVec 32 := Scalar.addi c0_i32_4 v6
  let v8 : BitVec 32 := Scalar.addi v7 c0_i32_5
  ![v8.toNat]
def k0_off4 (i : grid0.Coords) (c0_i32_34 : BitVec 32) : Fin 3 → Nat :=
  let c0_i32_37 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32_33 : BitVec 32 := 640#32
  let v30 : BitVec 32 := Scalar.muli v1 c640_i32_33
  let v31 : BitVec 32 := Scalar.addi v30 c0_i32_34
  let c0_i32_38 : BitVec 32 := 0#32
  ![0, v31.toNat, 0]
@[reducible] def k0_t1_loop : Scf.Loop 32 :=
  let c0_i32_45 : BitVec 32 := 0#32
  let c128_i32_46 : BitVec 32 := 128#32
  let v39 : BitVec 32 := Scalar.addi c0_i32_45 c128_i32_46
  let c1_i32 : BitVec 32 := 1#32
  ⟨c0_i32_45, v39, c1_i32⟩
def k0_off5 (k0_t1 : Fin k0_t1_loop.trips) : Fin 2 → Nat :=
  let c0_i32_45 : BitVec 32 := 0#32
  let c1_i32 : BitVec 32 := 1#32
  let arg36 : BitVec 32 := Scf.iv c0_i32_45 c1_i32 k0_t1
  let v881 : Index := Scalar.indexCast arg36
  let c0 : Index := 0#32
  ![v881.toNat, 0]
def k0_off6 (k0_t1 : Fin k0_t1_loop.trips) : Fin 2 → Nat :=
  let c0_i32_45 : BitVec 32 := 0#32
  let c1_i32 : BitVec 32 := 1#32
  let arg36 : BitVec 32 := Scf.iv c0_i32_45 c1_i32 k0_t1
  let v892 : Index := Scalar.indexCast arg36
  let c16 : Index := 16#32
  ![v892.toNat, 16]
def k0_off7 (k0_t1 : Fin k0_t1_loop.trips) : Fin 2 → Nat :=
  let c0_i32_45 : BitVec 32 := 0#32
  let c1_i32 : BitVec 32 := 1#32
  let arg36 : BitVec 32 := Scf.iv c0_i32_45 c1_i32 k0_t1
  let v903 : Index := Scalar.indexCast arg36
  let c32 : Index := 32#32
  ![v903.toNat, 32]
def k0_off8 (k0_t1 : Fin k0_t1_loop.trips) : Fin 2 → Nat :=
  let c0_i32_45 : BitVec 32 := 0#32
  let c1_i32 : BitVec 32 := 1#32
  let arg36 : BitVec 32 := Scf.iv c0_i32_45 c1_i32 k0_t1
  let v914 : Index := Scalar.indexCast arg36
  let c48 : Index := 48#32
  ![v914.toNat, 48]
def k0_off9 (k0_t1 : Fin k0_t1_loop.trips) : Fin 2 → Nat :=
  let c0_i32_45 : BitVec 32 := 0#32
  let c1_i32 : BitVec 32 := 1#32
  let arg36 : BitVec 32 := Scf.iv c0_i32_45 c1_i32 k0_t1
  let v925 : Index := Scalar.indexCast arg36
  let c64 : Index := 64#32
  ![v925.toNat, 64]
def k0_off10 (k0_t1 : Fin k0_t1_loop.trips) : Fin 2 → Nat :=
  let c0_i32_45 : BitVec 32 := 0#32
  let c1_i32 : BitVec 32 := 1#32
  let arg36 : BitVec 32 := Scf.iv c0_i32_45 c1_i32 k0_t1
  let v936 : Index := Scalar.indexCast arg36
  let c80 : Index := 80#32
  ![v936.toNat, 80]
def k0_off11 (k0_t1 : Fin k0_t1_loop.trips) : Fin 2 → Nat :=
  let c0_i32_45 : BitVec 32 := 0#32
  let c1_i32 : BitVec 32 := 1#32
  let arg36 : BitVec 32 := Scf.iv c0_i32_45 c1_i32 k0_t1
  let v947 : Index := Scalar.indexCast arg36
  let c96 : Index := 96#32
  ![v947.toNat, 96]
def k0_off12 (k0_t1 : Fin k0_t1_loop.trips) : Fin 2 → Nat :=
  let c0_i32_45 : BitVec 32 := 0#32
  let c1_i32 : BitVec 32 := 1#32
  let arg36 : BitVec 32 := Scf.iv c0_i32_45 c1_i32 k0_t1
  let v958 : Index := Scalar.indexCast arg36
  let c112 : Index := 112#32
  ![v958.toNat, 112]
@[reducible] def k0_t2_loop : Scf.Loop 32 :=
  let c0_i32_83 : BitVec 32 := 0#32
  let c128_i32_84 : BitVec 32 := 128#32
  let v74 : BitVec 32 := Scalar.addi c0_i32_83 c128_i32_84
  let c1_i32_85 : BitVec 32 := 1#32
  ⟨c0_i32_83, v74, c1_i32_85⟩
def k0_off13 (k0_t2 : Fin k0_t2_loop.trips) : Fin 2 → Nat :=
  let c0_i32_83 : BitVec 32 := 0#32
  let c1_i32_85 : BitVec 32 := 1#32
  let arg36 : BitVec 32 := Scf.iv c0_i32_83 c1_i32_85 k0_t2
  let v881 : Index := Scalar.indexCast arg36
  let c0 : Index := 0#32
  ![v881.toNat, 0]
def k0_off14 (k0_t2 : Fin k0_t2_loop.trips) : Fin 2 → Nat :=
  let c0_i32_83 : BitVec 32 := 0#32
  let c1_i32_85 : BitVec 32 := 1#32
  let arg36 : BitVec 32 := Scf.iv c0_i32_83 c1_i32_85 k0_t2
  let v892 : Index := Scalar.indexCast arg36
  let c16 : Index := 16#32
  ![v892.toNat, 16]
def k0_off15 (k0_t2 : Fin k0_t2_loop.trips) : Fin 2 → Nat :=
  let c0_i32_83 : BitVec 32 := 0#32
  let c1_i32_85 : BitVec 32 := 1#32
  let arg36 : BitVec 32 := Scf.iv c0_i32_83 c1_i32_85 k0_t2
  let v903 : Index := Scalar.indexCast arg36
  let c32 : Index := 32#32
  ![v903.toNat, 32]
def k0_off16 (k0_t2 : Fin k0_t2_loop.trips) : Fin 2 → Nat :=
  let c0_i32_83 : BitVec 32 := 0#32
  let c1_i32_85 : BitVec 32 := 1#32
  let arg36 : BitVec 32 := Scf.iv c0_i32_83 c1_i32_85 k0_t2
  let v914 : Index := Scalar.indexCast arg36
  let c48 : Index := 48#32
  ![v914.toNat, 48]
def k0_off17 (k0_t2 : Fin k0_t2_loop.trips) : Fin 2 → Nat :=
  let c0_i32_83 : BitVec 32 := 0#32
  let c1_i32_85 : BitVec 32 := 1#32
  let arg36 : BitVec 32 := Scf.iv c0_i32_83 c1_i32_85 k0_t2
  let v925 : Index := Scalar.indexCast arg36
  let c64 : Index := 64#32
  ![v925.toNat, 64]
def k0_off18 (k0_t2 : Fin k0_t2_loop.trips) : Fin 2 → Nat :=
  let c0_i32_83 : BitVec 32 := 0#32
  let c1_i32_85 : BitVec 32 := 1#32
  let arg36 : BitVec 32 := Scf.iv c0_i32_83 c1_i32_85 k0_t2
  let v936 : Index := Scalar.indexCast arg36
  let c80 : Index := 80#32
  ![v936.toNat, 80]
def k0_off19 (k0_t2 : Fin k0_t2_loop.trips) : Fin 2 → Nat :=
  let c0_i32_83 : BitVec 32 := 0#32
  let c1_i32_85 : BitVec 32 := 1#32
  let arg36 : BitVec 32 := Scf.iv c0_i32_83 c1_i32_85 k0_t2
  let v947 : Index := Scalar.indexCast arg36
  let c96 : Index := 96#32
  ![v947.toNat, 96]
def k0_off20 (k0_t2 : Fin k0_t2_loop.trips) : Fin 2 → Nat :=
  let c0_i32_83 : BitVec 32 := 0#32
  let c1_i32_85 : BitVec 32 := 1#32
  let arg36 : BitVec 32 := Scf.iv c0_i32_83 c1_i32_85 k0_t2
  let v958 : Index := Scalar.indexCast arg36
  let c112 : Index := 112#32
  ![v958.toNat, 112]
@[reducible] def k0_t3_loop : Scf.Loop 32 :=
  let c0_i32_122 : BitVec 32 := 0#32
  let c128_i32_123 : BitVec 32 := 128#32
  let v109 : BitVec 32 := Scalar.addi c0_i32_122 c128_i32_123
  let c1_i32_124 : BitVec 32 := 1#32
  ⟨c0_i32_122, v109, c1_i32_124⟩
def k0_off21 (k0_t3 : Fin k0_t3_loop.trips) : Fin 2 → Nat :=
  let c0_i32_122 : BitVec 32 := 0#32
  let c1_i32_124 : BitVec 32 := 1#32
  let arg36 : BitVec 32 := Scf.iv c0_i32_122 c1_i32_124 k0_t3
  let v881 : Index := Scalar.indexCast arg36
  let c0 : Index := 0#32
  ![v881.toNat, 0]
def k0_off22 (k0_t3 : Fin k0_t3_loop.trips) : Fin 2 → Nat :=
  let c0_i32_122 : BitVec 32 := 0#32
  let c1_i32_124 : BitVec 32 := 1#32
  let arg36 : BitVec 32 := Scf.iv c0_i32_122 c1_i32_124 k0_t3
  let v892 : Index := Scalar.indexCast arg36
  let c16 : Index := 16#32
  ![v892.toNat, 16]
def k0_off23 (k0_t3 : Fin k0_t3_loop.trips) : Fin 2 → Nat :=
  let c0_i32_122 : BitVec 32 := 0#32
  let c1_i32_124 : BitVec 32 := 1#32
  let arg36 : BitVec 32 := Scf.iv c0_i32_122 c1_i32_124 k0_t3
  let v903 : Index := Scalar.indexCast arg36
  let c32 : Index := 32#32
  ![v903.toNat, 32]
def k0_off24 (k0_t3 : Fin k0_t3_loop.trips) : Fin 2 → Nat :=
  let c0_i32_122 : BitVec 32 := 0#32
  let c1_i32_124 : BitVec 32 := 1#32
  let arg36 : BitVec 32 := Scf.iv c0_i32_122 c1_i32_124 k0_t3
  let v914 : Index := Scalar.indexCast arg36
  let c48 : Index := 48#32
  ![v914.toNat, 48]
def k0_off25 (k0_t3 : Fin k0_t3_loop.trips) : Fin 2 → Nat :=
  let c0_i32_122 : BitVec 32 := 0#32
  let c1_i32_124 : BitVec 32 := 1#32
  let arg36 : BitVec 32 := Scf.iv c0_i32_122 c1_i32_124 k0_t3
  let v925 : Index := Scalar.indexCast arg36
  let c64 : Index := 64#32
  ![v925.toNat, 64]
def k0_off26 (k0_t3 : Fin k0_t3_loop.trips) : Fin 2 → Nat :=
  let c0_i32_122 : BitVec 32 := 0#32
  let c1_i32_124 : BitVec 32 := 1#32
  let arg36 : BitVec 32 := Scf.iv c0_i32_122 c1_i32_124 k0_t3
  let v936 : Index := Scalar.indexCast arg36
  let c80 : Index := 80#32
  ![v936.toNat, 80]
def k0_off27 (k0_t3 : Fin k0_t3_loop.trips) : Fin 2 → Nat :=
  let c0_i32_122 : BitVec 32 := 0#32
  let c1_i32_124 : BitVec 32 := 1#32
  let arg36 : BitVec 32 := Scf.iv c0_i32_122 c1_i32_124 k0_t3
  let v947 : Index := Scalar.indexCast arg36
  let c96 : Index := 96#32
  ![v947.toNat, 96]
def k0_off28 (k0_t3 : Fin k0_t3_loop.trips) : Fin 2 → Nat :=
  let c0_i32_122 : BitVec 32 := 0#32
  let c1_i32_124 : BitVec 32 := 1#32
  let arg36 : BitVec 32 := Scf.iv c0_i32_122 c1_i32_124 k0_t3
  let v958 : Index := Scalar.indexCast arg36
  let c112 : Index := 112#32
  ![v958.toNat, 112]
@[reducible] def k0_t4_loop : Scf.Loop 32 :=
  let c0_i32_161 : BitVec 32 := 0#32
  let c128_i32_162 : BitVec 32 := 128#32
  let v144 : BitVec 32 := Scalar.addi c0_i32_161 c128_i32_162
  let c1_i32_163 : BitVec 32 := 1#32
  ⟨c0_i32_161, v144, c1_i32_163⟩
def k0_off29 (k0_t4 : Fin k0_t4_loop.trips) : Fin 2 → Nat :=
  let c0_i32_161 : BitVec 32 := 0#32
  let c1_i32_163 : BitVec 32 := 1#32
  let arg36 : BitVec 32 := Scf.iv c0_i32_161 c1_i32_163 k0_t4
  let v881 : Index := Scalar.indexCast arg36
  let c0 : Index := 0#32
  ![v881.toNat, 0]
def k0_off30 (k0_t4 : Fin k0_t4_loop.trips) : Fin 2 → Nat :=
  let c0_i32_161 : BitVec 32 := 0#32
  let c1_i32_163 : BitVec 32 := 1#32
  let arg36 : BitVec 32 := Scf.iv c0_i32_161 c1_i32_163 k0_t4
  let v892 : Index := Scalar.indexCast arg36
  let c16 : Index := 16#32
  ![v892.toNat, 16]
def k0_off31 (k0_t4 : Fin k0_t4_loop.trips) : Fin 2 → Nat :=
  let c0_i32_161 : BitVec 32 := 0#32
  let c1_i32_163 : BitVec 32 := 1#32
  let arg36 : BitVec 32 := Scf.iv c0_i32_161 c1_i32_163 k0_t4
  let v903 : Index := Scalar.indexCast arg36
  let c32 : Index := 32#32
  ![v903.toNat, 32]
def k0_off32 (k0_t4 : Fin k0_t4_loop.trips) : Fin 2 → Nat :=
  let c0_i32_161 : BitVec 32 := 0#32
  let c1_i32_163 : BitVec 32 := 1#32
  let arg36 : BitVec 32 := Scf.iv c0_i32_161 c1_i32_163 k0_t4
  let v914 : Index := Scalar.indexCast arg36
  let c48 : Index := 48#32
  ![v914.toNat, 48]
def k0_off33 (k0_t4 : Fin k0_t4_loop.trips) : Fin 2 → Nat :=
  let c0_i32_161 : BitVec 32 := 0#32
  let c1_i32_163 : BitVec 32 := 1#32
  let arg36 : BitVec 32 := Scf.iv c0_i32_161 c1_i32_163 k0_t4
  let v925 : Index := Scalar.indexCast arg36
  let c64 : Index := 64#32
  ![v925.toNat, 64]
def k0_off34 (k0_t4 : Fin k0_t4_loop.trips) : Fin 2 → Nat :=
  let c0_i32_161 : BitVec 32 := 0#32
  let c1_i32_163 : BitVec 32 := 1#32
  let arg36 : BitVec 32 := Scf.iv c0_i32_161 c1_i32_163 k0_t4
  let v936 : Index := Scalar.indexCast arg36
  let c80 : Index := 80#32
  ![v936.toNat, 80]
def k0_off35 (k0_t4 : Fin k0_t4_loop.trips) : Fin 2 → Nat :=
  let c0_i32_161 : BitVec 32 := 0#32
  let c1_i32_163 : BitVec 32 := 1#32
  let arg36 : BitVec 32 := Scf.iv c0_i32_161 c1_i32_163 k0_t4
  let v947 : Index := Scalar.indexCast arg36
  let c96 : Index := 96#32
  ![v947.toNat, 96]
def k0_off36 (k0_t4 : Fin k0_t4_loop.trips) : Fin 2 → Nat :=
  let c0_i32_161 : BitVec 32 := 0#32
  let c1_i32_163 : BitVec 32 := 1#32
  let arg36 : BitVec 32 := Scf.iv c0_i32_161 c1_i32_163 k0_t4
  let v958 : Index := Scalar.indexCast arg36
  let c112 : Index := 112#32
  ![v958.toNat, 112]
@[reducible] def k0_t5_loop : Scf.Loop 32 :=
  let c0_i32_200 : BitVec 32 := 0#32
  let c128_i32_201 : BitVec 32 := 128#32
  let v179 : BitVec 32 := Scalar.addi c0_i32_200 c128_i32_201
  let c1_i32_202 : BitVec 32 := 1#32
  ⟨c0_i32_200, v179, c1_i32_202⟩
def k0_off37 (k0_t5 : Fin k0_t5_loop.trips) : Fin 2 → Nat :=
  let c0_i32_200 : BitVec 32 := 0#32
  let c1_i32_202 : BitVec 32 := 1#32
  let arg36 : BitVec 32 := Scf.iv c0_i32_200 c1_i32_202 k0_t5
  let v881 : Index := Scalar.indexCast arg36
  let c0 : Index := 0#32
  ![v881.toNat, 0]
def k0_off38 (k0_t5 : Fin k0_t5_loop.trips) : Fin 2 → Nat :=
  let c0_i32_200 : BitVec 32 := 0#32
  let c1_i32_202 : BitVec 32 := 1#32
  let arg36 : BitVec 32 := Scf.iv c0_i32_200 c1_i32_202 k0_t5
  let v892 : Index := Scalar.indexCast arg36
  let c16 : Index := 16#32
  ![v892.toNat, 16]
def k0_off39 (k0_t5 : Fin k0_t5_loop.trips) : Fin 2 → Nat :=
  let c0_i32_200 : BitVec 32 := 0#32
  let c1_i32_202 : BitVec 32 := 1#32
  let arg36 : BitVec 32 := Scf.iv c0_i32_200 c1_i32_202 k0_t5
  let v903 : Index := Scalar.indexCast arg36
  let c32 : Index := 32#32
  ![v903.toNat, 32]
def k0_off40 (k0_t5 : Fin k0_t5_loop.trips) : Fin 2 → Nat :=
  let c0_i32_200 : BitVec 32 := 0#32
  let c1_i32_202 : BitVec 32 := 1#32
  let arg36 : BitVec 32 := Scf.iv c0_i32_200 c1_i32_202 k0_t5
  let v914 : Index := Scalar.indexCast arg36
  let c48 : Index := 48#32
  ![v914.toNat, 48]
def k0_off41 (k0_t5 : Fin k0_t5_loop.trips) : Fin 2 → Nat :=
  let c0_i32_200 : BitVec 32 := 0#32
  let c1_i32_202 : BitVec 32 := 1#32
  let arg36 : BitVec 32 := Scf.iv c0_i32_200 c1_i32_202 k0_t5
  let v925 : Index := Scalar.indexCast arg36
  let c64 : Index := 64#32
  ![v925.toNat, 64]
def k0_off42 (k0_t5 : Fin k0_t5_loop.trips) : Fin 2 → Nat :=
  let c0_i32_200 : BitVec 32 := 0#32
  let c1_i32_202 : BitVec 32 := 1#32
  let arg36 : BitVec 32 := Scf.iv c0_i32_200 c1_i32_202 k0_t5
  let v936 : Index := Scalar.indexCast arg36
  let c80 : Index := 80#32
  ![v936.toNat, 80]
def k0_off43 (k0_t5 : Fin k0_t5_loop.trips) : Fin 2 → Nat :=
  let c0_i32_200 : BitVec 32 := 0#32
  let c1_i32_202 : BitVec 32 := 1#32
  let arg36 : BitVec 32 := Scf.iv c0_i32_200 c1_i32_202 k0_t5
  let v947 : Index := Scalar.indexCast arg36
  let c96 : Index := 96#32
  ![v947.toNat, 96]
def k0_off44 (k0_t5 : Fin k0_t5_loop.trips) : Fin 2 → Nat :=
  let c0_i32_200 : BitVec 32 := 0#32
  let c1_i32_202 : BitVec 32 := 1#32
  let arg36 : BitVec 32 := Scf.iv c0_i32_200 c1_i32_202 k0_t5
  let v958 : Index := Scalar.indexCast arg36
  let c112 : Index := 112#32
  ![v958.toNat, 112]
def k0_off45 (i : grid0.Coords) (c0_i32_229 : BitVec 32) : Fin 3 → Nat :=
  let c1_i32_232 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32_228 : BitVec 32 := 640#32
  let v205 : BitVec 32 := Scalar.muli v1 c640_i32_228
  let v206 : BitVec 32 := Scalar.addi v205 c0_i32_229
  let c0_i32_233 : BitVec 32 := 0#32
  ![1, v206.toNat, 0]
@[reducible] def k0_t6_loop : Scf.Loop 32 :=
  let c0_i32_240 : BitVec 32 := 0#32
  let c128_i32_241 : BitVec 32 := 128#32
  let v214 : BitVec 32 := Scalar.addi c0_i32_240 c128_i32_241
  let c1_i32_242 : BitVec 32 := 1#32
  ⟨c0_i32_240, v214, c1_i32_242⟩
def k0_off46 (k0_t6 : Fin k0_t6_loop.trips) : Fin 2 → Nat :=
  let c0_i32_240 : BitVec 32 := 0#32
  let c1_i32_242 : BitVec 32 := 1#32
  let arg36 : BitVec 32 := Scf.iv c0_i32_240 c1_i32_242 k0_t6
  let v881 : Index := Scalar.indexCast arg36
  let c0 : Index := 0#32
  ![v881.toNat, 0]
def k0_off47 (k0_t6 : Fin k0_t6_loop.trips) : Fin 2 → Nat :=
  let c0_i32_240 : BitVec 32 := 0#32
  let c1_i32_242 : BitVec 32 := 1#32
  let arg36 : BitVec 32 := Scf.iv c0_i32_240 c1_i32_242 k0_t6
  let v892 : Index := Scalar.indexCast arg36
  let c16 : Index := 16#32
  ![v892.toNat, 16]
def k0_off48 (k0_t6 : Fin k0_t6_loop.trips) : Fin 2 → Nat :=
  let c0_i32_240 : BitVec 32 := 0#32
  let c1_i32_242 : BitVec 32 := 1#32
  let arg36 : BitVec 32 := Scf.iv c0_i32_240 c1_i32_242 k0_t6
  let v903 : Index := Scalar.indexCast arg36
  let c32 : Index := 32#32
  ![v903.toNat, 32]
def k0_off49 (k0_t6 : Fin k0_t6_loop.trips) : Fin 2 → Nat :=
  let c0_i32_240 : BitVec 32 := 0#32
  let c1_i32_242 : BitVec 32 := 1#32
  let arg36 : BitVec 32 := Scf.iv c0_i32_240 c1_i32_242 k0_t6
  let v914 : Index := Scalar.indexCast arg36
  let c48 : Index := 48#32
  ![v914.toNat, 48]
def k0_off50 (k0_t6 : Fin k0_t6_loop.trips) : Fin 2 → Nat :=
  let c0_i32_240 : BitVec 32 := 0#32
  let c1_i32_242 : BitVec 32 := 1#32
  let arg36 : BitVec 32 := Scf.iv c0_i32_240 c1_i32_242 k0_t6
  let v925 : Index := Scalar.indexCast arg36
  let c64 : Index := 64#32
  ![v925.toNat, 64]
def k0_off51 (k0_t6 : Fin k0_t6_loop.trips) : Fin 2 → Nat :=
  let c0_i32_240 : BitVec 32 := 0#32
  let c1_i32_242 : BitVec 32 := 1#32
  let arg36 : BitVec 32 := Scf.iv c0_i32_240 c1_i32_242 k0_t6
  let v936 : Index := Scalar.indexCast arg36
  let c80 : Index := 80#32
  ![v936.toNat, 80]
def k0_off52 (k0_t6 : Fin k0_t6_loop.trips) : Fin 2 → Nat :=
  let c0_i32_240 : BitVec 32 := 0#32
  let c1_i32_242 : BitVec 32 := 1#32
  let arg36 : BitVec 32 := Scf.iv c0_i32_240 c1_i32_242 k0_t6
  let v947 : Index := Scalar.indexCast arg36
  let c96 : Index := 96#32
  ![v947.toNat, 96]
def k0_off53 (k0_t6 : Fin k0_t6_loop.trips) : Fin 2 → Nat :=
  let c0_i32_240 : BitVec 32 := 0#32
  let c1_i32_242 : BitVec 32 := 1#32
  let arg36 : BitVec 32 := Scf.iv c0_i32_240 c1_i32_242 k0_t6
  let v958 : Index := Scalar.indexCast arg36
  let c112 : Index := 112#32
  ![v958.toNat, 112]
@[reducible] def k0_t7_loop : Scf.Loop 32 :=
  let c0_i32_280 : BitVec 32 := 0#32
  let c128_i32_281 : BitVec 32 := 128#32
  let v249 : BitVec 32 := Scalar.addi c0_i32_280 c128_i32_281
  let c1_i32_282 : BitVec 32 := 1#32
  ⟨c0_i32_280, v249, c1_i32_282⟩
def k0_off54 (k0_t7 : Fin k0_t7_loop.trips) : Fin 2 → Nat :=
  let c0_i32_280 : BitVec 32 := 0#32
  let c1_i32_282 : BitVec 32 := 1#32
  let arg36 : BitVec 32 := Scf.iv c0_i32_280 c1_i32_282 k0_t7
  let v881 : Index := Scalar.indexCast arg36
  let c0 : Index := 0#32
  ![v881.toNat, 0]
def k0_off55 (k0_t7 : Fin k0_t7_loop.trips) : Fin 2 → Nat :=
  let c0_i32_280 : BitVec 32 := 0#32
  let c1_i32_282 : BitVec 32 := 1#32
  let arg36 : BitVec 32 := Scf.iv c0_i32_280 c1_i32_282 k0_t7
  let v892 : Index := Scalar.indexCast arg36
  let c16 : Index := 16#32
  ![v892.toNat, 16]
def k0_off56 (k0_t7 : Fin k0_t7_loop.trips) : Fin 2 → Nat :=
  let c0_i32_280 : BitVec 32 := 0#32
  let c1_i32_282 : BitVec 32 := 1#32
  let arg36 : BitVec 32 := Scf.iv c0_i32_280 c1_i32_282 k0_t7
  let v903 : Index := Scalar.indexCast arg36
  let c32 : Index := 32#32
  ![v903.toNat, 32]
def k0_off57 (k0_t7 : Fin k0_t7_loop.trips) : Fin 2 → Nat :=
  let c0_i32_280 : BitVec 32 := 0#32
  let c1_i32_282 : BitVec 32 := 1#32
  let arg36 : BitVec 32 := Scf.iv c0_i32_280 c1_i32_282 k0_t7
  let v914 : Index := Scalar.indexCast arg36
  let c48 : Index := 48#32
  ![v914.toNat, 48]
def k0_off58 (k0_t7 : Fin k0_t7_loop.trips) : Fin 2 → Nat :=
  let c0_i32_280 : BitVec 32 := 0#32
  let c1_i32_282 : BitVec 32 := 1#32
  let arg36 : BitVec 32 := Scf.iv c0_i32_280 c1_i32_282 k0_t7
  let v925 : Index := Scalar.indexCast arg36
  let c64 : Index := 64#32
  ![v925.toNat, 64]
def k0_off59 (k0_t7 : Fin k0_t7_loop.trips) : Fin 2 → Nat :=
  let c0_i32_280 : BitVec 32 := 0#32
  let c1_i32_282 : BitVec 32 := 1#32
  let arg36 : BitVec 32 := Scf.iv c0_i32_280 c1_i32_282 k0_t7
  let v936 : Index := Scalar.indexCast arg36
  let c80 : Index := 80#32
  ![v936.toNat, 80]
def k0_off60 (k0_t7 : Fin k0_t7_loop.trips) : Fin 2 → Nat :=
  let c0_i32_280 : BitVec 32 := 0#32
  let c1_i32_282 : BitVec 32 := 1#32
  let arg36 : BitVec 32 := Scf.iv c0_i32_280 c1_i32_282 k0_t7
  let v947 : Index := Scalar.indexCast arg36
  let c96 : Index := 96#32
  ![v947.toNat, 96]
def k0_off61 (k0_t7 : Fin k0_t7_loop.trips) : Fin 2 → Nat :=
  let c0_i32_280 : BitVec 32 := 0#32
  let c1_i32_282 : BitVec 32 := 1#32
  let arg36 : BitVec 32 := Scf.iv c0_i32_280 c1_i32_282 k0_t7
  let v958 : Index := Scalar.indexCast arg36
  let c112 : Index := 112#32
  ![v958.toNat, 112]
@[reducible] def k0_t8_loop : Scf.Loop 32 :=
  let c0_i32_320 : BitVec 32 := 0#32
  let c128_i32_321 : BitVec 32 := 128#32
  let v284 : BitVec 32 := Scalar.addi c0_i32_320 c128_i32_321
  let c1_i32_322 : BitVec 32 := 1#32
  ⟨c0_i32_320, v284, c1_i32_322⟩
def k0_off62 (k0_t8 : Fin k0_t8_loop.trips) : Fin 2 → Nat :=
  let c0_i32_320 : BitVec 32 := 0#32
  let c1_i32_322 : BitVec 32 := 1#32
  let arg36 : BitVec 32 := Scf.iv c0_i32_320 c1_i32_322 k0_t8
  let v881 : Index := Scalar.indexCast arg36
  let c0 : Index := 0#32
  ![v881.toNat, 0]
def k0_off63 (k0_t8 : Fin k0_t8_loop.trips) : Fin 2 → Nat :=
  let c0_i32_320 : BitVec 32 := 0#32
  let c1_i32_322 : BitVec 32 := 1#32
  let arg36 : BitVec 32 := Scf.iv c0_i32_320 c1_i32_322 k0_t8
  let v892 : Index := Scalar.indexCast arg36
  let c16 : Index := 16#32
  ![v892.toNat, 16]
def k0_off64 (k0_t8 : Fin k0_t8_loop.trips) : Fin 2 → Nat :=
  let c0_i32_320 : BitVec 32 := 0#32
  let c1_i32_322 : BitVec 32 := 1#32
  let arg36 : BitVec 32 := Scf.iv c0_i32_320 c1_i32_322 k0_t8
  let v903 : Index := Scalar.indexCast arg36
  let c32 : Index := 32#32
  ![v903.toNat, 32]
def k0_off65 (k0_t8 : Fin k0_t8_loop.trips) : Fin 2 → Nat :=
  let c0_i32_320 : BitVec 32 := 0#32
  let c1_i32_322 : BitVec 32 := 1#32
  let arg36 : BitVec 32 := Scf.iv c0_i32_320 c1_i32_322 k0_t8
  let v914 : Index := Scalar.indexCast arg36
  let c48 : Index := 48#32
  ![v914.toNat, 48]
def k0_off66 (k0_t8 : Fin k0_t8_loop.trips) : Fin 2 → Nat :=
  let c0_i32_320 : BitVec 32 := 0#32
  let c1_i32_322 : BitVec 32 := 1#32
  let arg36 : BitVec 32 := Scf.iv c0_i32_320 c1_i32_322 k0_t8
  let v925 : Index := Scalar.indexCast arg36
  let c64 : Index := 64#32
  ![v925.toNat, 64]
def k0_off67 (k0_t8 : Fin k0_t8_loop.trips) : Fin 2 → Nat :=
  let c0_i32_320 : BitVec 32 := 0#32
  let c1_i32_322 : BitVec 32 := 1#32
  let arg36 : BitVec 32 := Scf.iv c0_i32_320 c1_i32_322 k0_t8
  let v936 : Index := Scalar.indexCast arg36
  let c80 : Index := 80#32
  ![v936.toNat, 80]
def k0_off68 (k0_t8 : Fin k0_t8_loop.trips) : Fin 2 → Nat :=
  let c0_i32_320 : BitVec 32 := 0#32
  let c1_i32_322 : BitVec 32 := 1#32
  let arg36 : BitVec 32 := Scf.iv c0_i32_320 c1_i32_322 k0_t8
  let v947 : Index := Scalar.indexCast arg36
  let c96 : Index := 96#32
  ![v947.toNat, 96]
def k0_off69 (k0_t8 : Fin k0_t8_loop.trips) : Fin 2 → Nat :=
  let c0_i32_320 : BitVec 32 := 0#32
  let c1_i32_322 : BitVec 32 := 1#32
  let arg36 : BitVec 32 := Scf.iv c0_i32_320 c1_i32_322 k0_t8
  let v958 : Index := Scalar.indexCast arg36
  let c112 : Index := 112#32
  ![v958.toNat, 112]
@[reducible] def k0_t9_loop : Scf.Loop 32 :=
  let c0_i32_360 : BitVec 32 := 0#32
  let c128_i32_361 : BitVec 32 := 128#32
  let v319 : BitVec 32 := Scalar.addi c0_i32_360 c128_i32_361
  let c1_i32_362 : BitVec 32 := 1#32
  ⟨c0_i32_360, v319, c1_i32_362⟩
def k0_off70 (k0_t9 : Fin k0_t9_loop.trips) : Fin 2 → Nat :=
  let c0_i32_360 : BitVec 32 := 0#32
  let c1_i32_362 : BitVec 32 := 1#32
  let arg36 : BitVec 32 := Scf.iv c0_i32_360 c1_i32_362 k0_t9
  let v881 : Index := Scalar.indexCast arg36
  let c0 : Index := 0#32
  ![v881.toNat, 0]
def k0_off71 (k0_t9 : Fin k0_t9_loop.trips) : Fin 2 → Nat :=
  let c0_i32_360 : BitVec 32 := 0#32
  let c1_i32_362 : BitVec 32 := 1#32
  let arg36 : BitVec 32 := Scf.iv c0_i32_360 c1_i32_362 k0_t9
  let v892 : Index := Scalar.indexCast arg36
  let c16 : Index := 16#32
  ![v892.toNat, 16]
def k0_off72 (k0_t9 : Fin k0_t9_loop.trips) : Fin 2 → Nat :=
  let c0_i32_360 : BitVec 32 := 0#32
  let c1_i32_362 : BitVec 32 := 1#32
  let arg36 : BitVec 32 := Scf.iv c0_i32_360 c1_i32_362 k0_t9
  let v903 : Index := Scalar.indexCast arg36
  let c32 : Index := 32#32
  ![v903.toNat, 32]
def k0_off73 (k0_t9 : Fin k0_t9_loop.trips) : Fin 2 → Nat :=
  let c0_i32_360 : BitVec 32 := 0#32
  let c1_i32_362 : BitVec 32 := 1#32
  let arg36 : BitVec 32 := Scf.iv c0_i32_360 c1_i32_362 k0_t9
  let v914 : Index := Scalar.indexCast arg36
  let c48 : Index := 48#32
  ![v914.toNat, 48]
def k0_off74 (k0_t9 : Fin k0_t9_loop.trips) : Fin 2 → Nat :=
  let c0_i32_360 : BitVec 32 := 0#32
  let c1_i32_362 : BitVec 32 := 1#32
  let arg36 : BitVec 32 := Scf.iv c0_i32_360 c1_i32_362 k0_t9
  let v925 : Index := Scalar.indexCast arg36
  let c64 : Index := 64#32
  ![v925.toNat, 64]
def k0_off75 (k0_t9 : Fin k0_t9_loop.trips) : Fin 2 → Nat :=
  let c0_i32_360 : BitVec 32 := 0#32
  let c1_i32_362 : BitVec 32 := 1#32
  let arg36 : BitVec 32 := Scf.iv c0_i32_360 c1_i32_362 k0_t9
  let v936 : Index := Scalar.indexCast arg36
  let c80 : Index := 80#32
  ![v936.toNat, 80]
def k0_off76 (k0_t9 : Fin k0_t9_loop.trips) : Fin 2 → Nat :=
  let c0_i32_360 : BitVec 32 := 0#32
  let c1_i32_362 : BitVec 32 := 1#32
  let arg36 : BitVec 32 := Scf.iv c0_i32_360 c1_i32_362 k0_t9
  let v947 : Index := Scalar.indexCast arg36
  let c96 : Index := 96#32
  ![v947.toNat, 96]
def k0_off77 (k0_t9 : Fin k0_t9_loop.trips) : Fin 2 → Nat :=
  let c0_i32_360 : BitVec 32 := 0#32
  let c1_i32_362 : BitVec 32 := 1#32
  let arg36 : BitVec 32 := Scf.iv c0_i32_360 c1_i32_362 k0_t9
  let v958 : Index := Scalar.indexCast arg36
  let c112 : Index := 112#32
  ![v958.toNat, 112]
@[reducible] def k0_t10_loop : Scf.Loop 32 :=
  let c0_i32_399 : BitVec 32 := 0#32
  let c128_i32_400 : BitVec 32 := 128#32
  let v354 : BitVec 32 := Scalar.addi c0_i32_399 c128_i32_400
  let c1_i32_401 : BitVec 32 := 1#32
  ⟨c0_i32_399, v354, c1_i32_401⟩
def k0_off78 (k0_t10 : Fin k0_t10_loop.trips) : Fin 2 → Nat :=
  let c0_i32_399 : BitVec 32 := 0#32
  let c1_i32_401 : BitVec 32 := 1#32
  let arg36 : BitVec 32 := Scf.iv c0_i32_399 c1_i32_401 k0_t10
  let v881 : Index := Scalar.indexCast arg36
  let c0 : Index := 0#32
  ![v881.toNat, 0]
def k0_off79 (k0_t10 : Fin k0_t10_loop.trips) : Fin 2 → Nat :=
  let c0_i32_399 : BitVec 32 := 0#32
  let c1_i32_401 : BitVec 32 := 1#32
  let arg36 : BitVec 32 := Scf.iv c0_i32_399 c1_i32_401 k0_t10
  let v892 : Index := Scalar.indexCast arg36
  let c16 : Index := 16#32
  ![v892.toNat, 16]
def k0_off80 (k0_t10 : Fin k0_t10_loop.trips) : Fin 2 → Nat :=
  let c0_i32_399 : BitVec 32 := 0#32
  let c1_i32_401 : BitVec 32 := 1#32
  let arg36 : BitVec 32 := Scf.iv c0_i32_399 c1_i32_401 k0_t10
  let v903 : Index := Scalar.indexCast arg36
  let c32 : Index := 32#32
  ![v903.toNat, 32]
def k0_off81 (k0_t10 : Fin k0_t10_loop.trips) : Fin 2 → Nat :=
  let c0_i32_399 : BitVec 32 := 0#32
  let c1_i32_401 : BitVec 32 := 1#32
  let arg36 : BitVec 32 := Scf.iv c0_i32_399 c1_i32_401 k0_t10
  let v914 : Index := Scalar.indexCast arg36
  let c48 : Index := 48#32
  ![v914.toNat, 48]
def k0_off82 (k0_t10 : Fin k0_t10_loop.trips) : Fin 2 → Nat :=
  let c0_i32_399 : BitVec 32 := 0#32
  let c1_i32_401 : BitVec 32 := 1#32
  let arg36 : BitVec 32 := Scf.iv c0_i32_399 c1_i32_401 k0_t10
  let v925 : Index := Scalar.indexCast arg36
  let c64 : Index := 64#32
  ![v925.toNat, 64]
def k0_off83 (k0_t10 : Fin k0_t10_loop.trips) : Fin 2 → Nat :=
  let c0_i32_399 : BitVec 32 := 0#32
  let c1_i32_401 : BitVec 32 := 1#32
  let arg36 : BitVec 32 := Scf.iv c0_i32_399 c1_i32_401 k0_t10
  let v936 : Index := Scalar.indexCast arg36
  let c80 : Index := 80#32
  ![v936.toNat, 80]
def k0_off84 (k0_t10 : Fin k0_t10_loop.trips) : Fin 2 → Nat :=
  let c0_i32_399 : BitVec 32 := 0#32
  let c1_i32_401 : BitVec 32 := 1#32
  let arg36 : BitVec 32 := Scf.iv c0_i32_399 c1_i32_401 k0_t10
  let v947 : Index := Scalar.indexCast arg36
  let c96 : Index := 96#32
  ![v947.toNat, 96]
def k0_off85 (k0_t10 : Fin k0_t10_loop.trips) : Fin 2 → Nat :=
  let c0_i32_399 : BitVec 32 := 0#32
  let c1_i32_401 : BitVec 32 := 1#32
  let arg36 : BitVec 32 := Scf.iv c0_i32_399 c1_i32_401 k0_t10
  let v958 : Index := Scalar.indexCast arg36
  let c112 : Index := 112#32
  ![v958.toNat, 112]
def k0_off86 (i : grid0.Coords) (c0_i32_428 : BitVec 32) : Fin 3 → Nat :=
  let c2_i32_431 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32_427 : BitVec 32 := 640#32
  let v380 : BitVec 32 := Scalar.muli v1 c640_i32_427
  let v381 : BitVec 32 := Scalar.addi v380 c0_i32_428
  let c0_i32_432 : BitVec 32 := 0#32
  ![2, v381.toNat, 0]
@[reducible] def k0_t11_loop : Scf.Loop 32 :=
  let c0_i32_439 : BitVec 32 := 0#32
  let c128_i32_440 : BitVec 32 := 128#32
  let v389 : BitVec 32 := Scalar.addi c0_i32_439 c128_i32_440
  let c1_i32_441 : BitVec 32 := 1#32
  ⟨c0_i32_439, v389, c1_i32_441⟩
def k0_off87 (k0_t11 : Fin k0_t11_loop.trips) : Fin 2 → Nat :=
  let c0_i32_439 : BitVec 32 := 0#32
  let c1_i32_441 : BitVec 32 := 1#32
  let arg36 : BitVec 32 := Scf.iv c0_i32_439 c1_i32_441 k0_t11
  let v881 : Index := Scalar.indexCast arg36
  let c0 : Index := 0#32
  ![v881.toNat, 0]
def k0_off88 (k0_t11 : Fin k0_t11_loop.trips) : Fin 2 → Nat :=
  let c0_i32_439 : BitVec 32 := 0#32
  let c1_i32_441 : BitVec 32 := 1#32
  let arg36 : BitVec 32 := Scf.iv c0_i32_439 c1_i32_441 k0_t11
  let v892 : Index := Scalar.indexCast arg36
  let c16 : Index := 16#32
  ![v892.toNat, 16]
def k0_off89 (k0_t11 : Fin k0_t11_loop.trips) : Fin 2 → Nat :=
  let c0_i32_439 : BitVec 32 := 0#32
  let c1_i32_441 : BitVec 32 := 1#32
  let arg36 : BitVec 32 := Scf.iv c0_i32_439 c1_i32_441 k0_t11
  let v903 : Index := Scalar.indexCast arg36
  let c32 : Index := 32#32
  ![v903.toNat, 32]
def k0_off90 (k0_t11 : Fin k0_t11_loop.trips) : Fin 2 → Nat :=
  let c0_i32_439 : BitVec 32 := 0#32
  let c1_i32_441 : BitVec 32 := 1#32
  let arg36 : BitVec 32 := Scf.iv c0_i32_439 c1_i32_441 k0_t11
  let v914 : Index := Scalar.indexCast arg36
  let c48 : Index := 48#32
  ![v914.toNat, 48]
def k0_off91 (k0_t11 : Fin k0_t11_loop.trips) : Fin 2 → Nat :=
  let c0_i32_439 : BitVec 32 := 0#32
  let c1_i32_441 : BitVec 32 := 1#32
  let arg36 : BitVec 32 := Scf.iv c0_i32_439 c1_i32_441 k0_t11
  let v925 : Index := Scalar.indexCast arg36
  let c64 : Index := 64#32
  ![v925.toNat, 64]
def k0_off92 (k0_t11 : Fin k0_t11_loop.trips) : Fin 2 → Nat :=
  let c0_i32_439 : BitVec 32 := 0#32
  let c1_i32_441 : BitVec 32 := 1#32
  let arg36 : BitVec 32 := Scf.iv c0_i32_439 c1_i32_441 k0_t11
  let v936 : Index := Scalar.indexCast arg36
  let c80 : Index := 80#32
  ![v936.toNat, 80]
def k0_off93 (k0_t11 : Fin k0_t11_loop.trips) : Fin 2 → Nat :=
  let c0_i32_439 : BitVec 32 := 0#32
  let c1_i32_441 : BitVec 32 := 1#32
  let arg36 : BitVec 32 := Scf.iv c0_i32_439 c1_i32_441 k0_t11
  let v947 : Index := Scalar.indexCast arg36
  let c96 : Index := 96#32
  ![v947.toNat, 96]
def k0_off94 (k0_t11 : Fin k0_t11_loop.trips) : Fin 2 → Nat :=
  let c0_i32_439 : BitVec 32 := 0#32
  let c1_i32_441 : BitVec 32 := 1#32
  let arg36 : BitVec 32 := Scf.iv c0_i32_439 c1_i32_441 k0_t11
  let v958 : Index := Scalar.indexCast arg36
  let c112 : Index := 112#32
  ![v958.toNat, 112]
@[reducible] def k0_t12_loop : Scf.Loop 32 :=
  let c0_i32_479 : BitVec 32 := 0#32
  let c128_i32_480 : BitVec 32 := 128#32
  let v424 : BitVec 32 := Scalar.addi c0_i32_479 c128_i32_480
  let c1_i32_481 : BitVec 32 := 1#32
  ⟨c0_i32_479, v424, c1_i32_481⟩
def k0_off95 (k0_t12 : Fin k0_t12_loop.trips) : Fin 2 → Nat :=
  let c0_i32_479 : BitVec 32 := 0#32
  let c1_i32_481 : BitVec 32 := 1#32
  let arg36 : BitVec 32 := Scf.iv c0_i32_479 c1_i32_481 k0_t12
  let v881 : Index := Scalar.indexCast arg36
  let c0 : Index := 0#32
  ![v881.toNat, 0]
def k0_off96 (k0_t12 : Fin k0_t12_loop.trips) : Fin 2 → Nat :=
  let c0_i32_479 : BitVec 32 := 0#32
  let c1_i32_481 : BitVec 32 := 1#32
  let arg36 : BitVec 32 := Scf.iv c0_i32_479 c1_i32_481 k0_t12
  let v892 : Index := Scalar.indexCast arg36
  let c16 : Index := 16#32
  ![v892.toNat, 16]
def k0_off97 (k0_t12 : Fin k0_t12_loop.trips) : Fin 2 → Nat :=
  let c0_i32_479 : BitVec 32 := 0#32
  let c1_i32_481 : BitVec 32 := 1#32
  let arg36 : BitVec 32 := Scf.iv c0_i32_479 c1_i32_481 k0_t12
  let v903 : Index := Scalar.indexCast arg36
  let c32 : Index := 32#32
  ![v903.toNat, 32]
def k0_off98 (k0_t12 : Fin k0_t12_loop.trips) : Fin 2 → Nat :=
  let c0_i32_479 : BitVec 32 := 0#32
  let c1_i32_481 : BitVec 32 := 1#32
  let arg36 : BitVec 32 := Scf.iv c0_i32_479 c1_i32_481 k0_t12
  let v914 : Index := Scalar.indexCast arg36
  let c48 : Index := 48#32
  ![v914.toNat, 48]
def k0_off99 (k0_t12 : Fin k0_t12_loop.trips) : Fin 2 → Nat :=
  let c0_i32_479 : BitVec 32 := 0#32
  let c1_i32_481 : BitVec 32 := 1#32
  let arg36 : BitVec 32 := Scf.iv c0_i32_479 c1_i32_481 k0_t12
  let v925 : Index := Scalar.indexCast arg36
  let c64 : Index := 64#32
  ![v925.toNat, 64]
def k0_off100 (k0_t12 : Fin k0_t12_loop.trips) : Fin 2 → Nat :=
  let c0_i32_479 : BitVec 32 := 0#32
  let c1_i32_481 : BitVec 32 := 1#32
  let arg36 : BitVec 32 := Scf.iv c0_i32_479 c1_i32_481 k0_t12
  let v936 : Index := Scalar.indexCast arg36
  let c80 : Index := 80#32
  ![v936.toNat, 80]
def k0_off101 (k0_t12 : Fin k0_t12_loop.trips) : Fin 2 → Nat :=
  let c0_i32_479 : BitVec 32 := 0#32
  let c1_i32_481 : BitVec 32 := 1#32
  let arg36 : BitVec 32 := Scf.iv c0_i32_479 c1_i32_481 k0_t12
  let v947 : Index := Scalar.indexCast arg36
  let c96 : Index := 96#32
  ![v947.toNat, 96]
def k0_off102 (k0_t12 : Fin k0_t12_loop.trips) : Fin 2 → Nat :=
  let c0_i32_479 : BitVec 32 := 0#32
  let c1_i32_481 : BitVec 32 := 1#32
  let arg36 : BitVec 32 := Scf.iv c0_i32_479 c1_i32_481 k0_t12
  let v958 : Index := Scalar.indexCast arg36
  let c112 : Index := 112#32
  ![v958.toNat, 112]
@[reducible] def k0_t13_loop : Scf.Loop 32 :=
  let c0_i32_519 : BitVec 32 := 0#32
  let c128_i32_520 : BitVec 32 := 128#32
  let v459 : BitVec 32 := Scalar.addi c0_i32_519 c128_i32_520
  let c1_i32_521 : BitVec 32 := 1#32
  ⟨c0_i32_519, v459, c1_i32_521⟩
def k0_off103 (k0_t13 : Fin k0_t13_loop.trips) : Fin 2 → Nat :=
  let c0_i32_519 : BitVec 32 := 0#32
  let c1_i32_521 : BitVec 32 := 1#32
  let arg36 : BitVec 32 := Scf.iv c0_i32_519 c1_i32_521 k0_t13
  let v881 : Index := Scalar.indexCast arg36
  let c0 : Index := 0#32
  ![v881.toNat, 0]
def k0_off104 (k0_t13 : Fin k0_t13_loop.trips) : Fin 2 → Nat :=
  let c0_i32_519 : BitVec 32 := 0#32
  let c1_i32_521 : BitVec 32 := 1#32
  let arg36 : BitVec 32 := Scf.iv c0_i32_519 c1_i32_521 k0_t13
  let v892 : Index := Scalar.indexCast arg36
  let c16 : Index := 16#32
  ![v892.toNat, 16]
def k0_off105 (k0_t13 : Fin k0_t13_loop.trips) : Fin 2 → Nat :=
  let c0_i32_519 : BitVec 32 := 0#32
  let c1_i32_521 : BitVec 32 := 1#32
  let arg36 : BitVec 32 := Scf.iv c0_i32_519 c1_i32_521 k0_t13
  let v903 : Index := Scalar.indexCast arg36
  let c32 : Index := 32#32
  ![v903.toNat, 32]
def k0_off106 (k0_t13 : Fin k0_t13_loop.trips) : Fin 2 → Nat :=
  let c0_i32_519 : BitVec 32 := 0#32
  let c1_i32_521 : BitVec 32 := 1#32
  let arg36 : BitVec 32 := Scf.iv c0_i32_519 c1_i32_521 k0_t13
  let v914 : Index := Scalar.indexCast arg36
  let c48 : Index := 48#32
  ![v914.toNat, 48]
def k0_off107 (k0_t13 : Fin k0_t13_loop.trips) : Fin 2 → Nat :=
  let c0_i32_519 : BitVec 32 := 0#32
  let c1_i32_521 : BitVec 32 := 1#32
  let arg36 : BitVec 32 := Scf.iv c0_i32_519 c1_i32_521 k0_t13
  let v925 : Index := Scalar.indexCast arg36
  let c64 : Index := 64#32
  ![v925.toNat, 64]
def k0_off108 (k0_t13 : Fin k0_t13_loop.trips) : Fin 2 → Nat :=
  let c0_i32_519 : BitVec 32 := 0#32
  let c1_i32_521 : BitVec 32 := 1#32
  let arg36 : BitVec 32 := Scf.iv c0_i32_519 c1_i32_521 k0_t13
  let v936 : Index := Scalar.indexCast arg36
  let c80 : Index := 80#32
  ![v936.toNat, 80]
def k0_off109 (k0_t13 : Fin k0_t13_loop.trips) : Fin 2 → Nat :=
  let c0_i32_519 : BitVec 32 := 0#32
  let c1_i32_521 : BitVec 32 := 1#32
  let arg36 : BitVec 32 := Scf.iv c0_i32_519 c1_i32_521 k0_t13
  let v947 : Index := Scalar.indexCast arg36
  let c96 : Index := 96#32
  ![v947.toNat, 96]
def k0_off110 (k0_t13 : Fin k0_t13_loop.trips) : Fin 2 → Nat :=
  let c0_i32_519 : BitVec 32 := 0#32
  let c1_i32_521 : BitVec 32 := 1#32
  let arg36 : BitVec 32 := Scf.iv c0_i32_519 c1_i32_521 k0_t13
  let v958 : Index := Scalar.indexCast arg36
  let c112 : Index := 112#32
  ![v958.toNat, 112]
@[reducible] def k0_t14_loop : Scf.Loop 32 :=
  let c0_i32_559 : BitVec 32 := 0#32
  let c128_i32_560 : BitVec 32 := 128#32
  let v494 : BitVec 32 := Scalar.addi c0_i32_559 c128_i32_560
  let c1_i32_561 : BitVec 32 := 1#32
  ⟨c0_i32_559, v494, c1_i32_561⟩
def k0_off111 (k0_t14 : Fin k0_t14_loop.trips) : Fin 2 → Nat :=
  let c0_i32_559 : BitVec 32 := 0#32
  let c1_i32_561 : BitVec 32 := 1#32
  let arg36 : BitVec 32 := Scf.iv c0_i32_559 c1_i32_561 k0_t14
  let v881 : Index := Scalar.indexCast arg36
  let c0 : Index := 0#32
  ![v881.toNat, 0]
def k0_off112 (k0_t14 : Fin k0_t14_loop.trips) : Fin 2 → Nat :=
  let c0_i32_559 : BitVec 32 := 0#32
  let c1_i32_561 : BitVec 32 := 1#32
  let arg36 : BitVec 32 := Scf.iv c0_i32_559 c1_i32_561 k0_t14
  let v892 : Index := Scalar.indexCast arg36
  let c16 : Index := 16#32
  ![v892.toNat, 16]
def k0_off113 (k0_t14 : Fin k0_t14_loop.trips) : Fin 2 → Nat :=
  let c0_i32_559 : BitVec 32 := 0#32
  let c1_i32_561 : BitVec 32 := 1#32
  let arg36 : BitVec 32 := Scf.iv c0_i32_559 c1_i32_561 k0_t14
  let v903 : Index := Scalar.indexCast arg36
  let c32 : Index := 32#32
  ![v903.toNat, 32]
def k0_off114 (k0_t14 : Fin k0_t14_loop.trips) : Fin 2 → Nat :=
  let c0_i32_559 : BitVec 32 := 0#32
  let c1_i32_561 : BitVec 32 := 1#32
  let arg36 : BitVec 32 := Scf.iv c0_i32_559 c1_i32_561 k0_t14
  let v914 : Index := Scalar.indexCast arg36
  let c48 : Index := 48#32
  ![v914.toNat, 48]
def k0_off115 (k0_t14 : Fin k0_t14_loop.trips) : Fin 2 → Nat :=
  let c0_i32_559 : BitVec 32 := 0#32
  let c1_i32_561 : BitVec 32 := 1#32
  let arg36 : BitVec 32 := Scf.iv c0_i32_559 c1_i32_561 k0_t14
  let v925 : Index := Scalar.indexCast arg36
  let c64 : Index := 64#32
  ![v925.toNat, 64]
def k0_off116 (k0_t14 : Fin k0_t14_loop.trips) : Fin 2 → Nat :=
  let c0_i32_559 : BitVec 32 := 0#32
  let c1_i32_561 : BitVec 32 := 1#32
  let arg36 : BitVec 32 := Scf.iv c0_i32_559 c1_i32_561 k0_t14
  let v936 : Index := Scalar.indexCast arg36
  let c80 : Index := 80#32
  ![v936.toNat, 80]
def k0_off117 (k0_t14 : Fin k0_t14_loop.trips) : Fin 2 → Nat :=
  let c0_i32_559 : BitVec 32 := 0#32
  let c1_i32_561 : BitVec 32 := 1#32
  let arg36 : BitVec 32 := Scf.iv c0_i32_559 c1_i32_561 k0_t14
  let v947 : Index := Scalar.indexCast arg36
  let c96 : Index := 96#32
  ![v947.toNat, 96]
def k0_off118 (k0_t14 : Fin k0_t14_loop.trips) : Fin 2 → Nat :=
  let c0_i32_559 : BitVec 32 := 0#32
  let c1_i32_561 : BitVec 32 := 1#32
  let arg36 : BitVec 32 := Scf.iv c0_i32_559 c1_i32_561 k0_t14
  let v958 : Index := Scalar.indexCast arg36
  let c112 : Index := 112#32
  ![v958.toNat, 112]
@[reducible] def k0_t15_loop : Scf.Loop 32 :=
  let c0_i32_598 : BitVec 32 := 0#32
  let c128_i32_599 : BitVec 32 := 128#32
  let v529 : BitVec 32 := Scalar.addi c0_i32_598 c128_i32_599
  let c1_i32_600 : BitVec 32 := 1#32
  ⟨c0_i32_598, v529, c1_i32_600⟩
def k0_off119 (k0_t15 : Fin k0_t15_loop.trips) : Fin 2 → Nat :=
  let c0_i32_598 : BitVec 32 := 0#32
  let c1_i32_600 : BitVec 32 := 1#32
  let arg36 : BitVec 32 := Scf.iv c0_i32_598 c1_i32_600 k0_t15
  let v881 : Index := Scalar.indexCast arg36
  let c0 : Index := 0#32
  ![v881.toNat, 0]
def k0_off120 (k0_t15 : Fin k0_t15_loop.trips) : Fin 2 → Nat :=
  let c0_i32_598 : BitVec 32 := 0#32
  let c1_i32_600 : BitVec 32 := 1#32
  let arg36 : BitVec 32 := Scf.iv c0_i32_598 c1_i32_600 k0_t15
  let v892 : Index := Scalar.indexCast arg36
  let c16 : Index := 16#32
  ![v892.toNat, 16]
def k0_off121 (k0_t15 : Fin k0_t15_loop.trips) : Fin 2 → Nat :=
  let c0_i32_598 : BitVec 32 := 0#32
  let c1_i32_600 : BitVec 32 := 1#32
  let arg36 : BitVec 32 := Scf.iv c0_i32_598 c1_i32_600 k0_t15
  let v903 : Index := Scalar.indexCast arg36
  let c32 : Index := 32#32
  ![v903.toNat, 32]
def k0_off122 (k0_t15 : Fin k0_t15_loop.trips) : Fin 2 → Nat :=
  let c0_i32_598 : BitVec 32 := 0#32
  let c1_i32_600 : BitVec 32 := 1#32
  let arg36 : BitVec 32 := Scf.iv c0_i32_598 c1_i32_600 k0_t15
  let v914 : Index := Scalar.indexCast arg36
  let c48 : Index := 48#32
  ![v914.toNat, 48]
def k0_off123 (k0_t15 : Fin k0_t15_loop.trips) : Fin 2 → Nat :=
  let c0_i32_598 : BitVec 32 := 0#32
  let c1_i32_600 : BitVec 32 := 1#32
  let arg36 : BitVec 32 := Scf.iv c0_i32_598 c1_i32_600 k0_t15
  let v925 : Index := Scalar.indexCast arg36
  let c64 : Index := 64#32
  ![v925.toNat, 64]
def k0_off124 (k0_t15 : Fin k0_t15_loop.trips) : Fin 2 → Nat :=
  let c0_i32_598 : BitVec 32 := 0#32
  let c1_i32_600 : BitVec 32 := 1#32
  let arg36 : BitVec 32 := Scf.iv c0_i32_598 c1_i32_600 k0_t15
  let v936 : Index := Scalar.indexCast arg36
  let c80 : Index := 80#32
  ![v936.toNat, 80]
def k0_off125 (k0_t15 : Fin k0_t15_loop.trips) : Fin 2 → Nat :=
  let c0_i32_598 : BitVec 32 := 0#32
  let c1_i32_600 : BitVec 32 := 1#32
  let arg36 : BitVec 32 := Scf.iv c0_i32_598 c1_i32_600 k0_t15
  let v947 : Index := Scalar.indexCast arg36
  let c96 : Index := 96#32
  ![v947.toNat, 96]
def k0_off126 (k0_t15 : Fin k0_t15_loop.trips) : Fin 2 → Nat :=
  let c0_i32_598 : BitVec 32 := 0#32
  let c1_i32_600 : BitVec 32 := 1#32
  let arg36 : BitVec 32 := Scf.iv c0_i32_598 c1_i32_600 k0_t15
  let v958 : Index := Scalar.indexCast arg36
  let c112 : Index := 112#32
  ![v958.toNat, 112]
def k0_off127 (i : grid0.Coords) (c0_i32_627 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32_626 : BitVec 32 := 640#32
  let v555 : BitVec 32 := Scalar.muli v1 c640_i32_626
  let v556 : BitVec 32 := Scalar.addi v555 c0_i32_627
  let c0_i32_630 : BitVec 32 := 0#32
  ![3, v556.toNat, 0]
@[reducible] def k0_t16_loop : Scf.Loop 32 :=
  let c0_i32_637 : BitVec 32 := 0#32
  let c128_i32_638 : BitVec 32 := 128#32
  let v564 : BitVec 32 := Scalar.addi c0_i32_637 c128_i32_638
  let c1_i32_639 : BitVec 32 := 1#32
  ⟨c0_i32_637, v564, c1_i32_639⟩
def k0_off128 (k0_t16 : Fin k0_t16_loop.trips) : Fin 2 → Nat :=
  let c0_i32_637 : BitVec 32 := 0#32
  let c1_i32_639 : BitVec 32 := 1#32
  let arg36 : BitVec 32 := Scf.iv c0_i32_637 c1_i32_639 k0_t16
  let v881 : Index := Scalar.indexCast arg36
  let c0 : Index := 0#32
  ![v881.toNat, 0]
def k0_off129 (k0_t16 : Fin k0_t16_loop.trips) : Fin 2 → Nat :=
  let c0_i32_637 : BitVec 32 := 0#32
  let c1_i32_639 : BitVec 32 := 1#32
  let arg36 : BitVec 32 := Scf.iv c0_i32_637 c1_i32_639 k0_t16
  let v892 : Index := Scalar.indexCast arg36
  let c16 : Index := 16#32
  ![v892.toNat, 16]
def k0_off130 (k0_t16 : Fin k0_t16_loop.trips) : Fin 2 → Nat :=
  let c0_i32_637 : BitVec 32 := 0#32
  let c1_i32_639 : BitVec 32 := 1#32
  let arg36 : BitVec 32 := Scf.iv c0_i32_637 c1_i32_639 k0_t16
  let v903 : Index := Scalar.indexCast arg36
  let c32 : Index := 32#32
  ![v903.toNat, 32]
def k0_off131 (k0_t16 : Fin k0_t16_loop.trips) : Fin 2 → Nat :=
  let c0_i32_637 : BitVec 32 := 0#32
  let c1_i32_639 : BitVec 32 := 1#32
  let arg36 : BitVec 32 := Scf.iv c0_i32_637 c1_i32_639 k0_t16
  let v914 : Index := Scalar.indexCast arg36
  let c48 : Index := 48#32
  ![v914.toNat, 48]
def k0_off132 (k0_t16 : Fin k0_t16_loop.trips) : Fin 2 → Nat :=
  let c0_i32_637 : BitVec 32 := 0#32
  let c1_i32_639 : BitVec 32 := 1#32
  let arg36 : BitVec 32 := Scf.iv c0_i32_637 c1_i32_639 k0_t16
  let v925 : Index := Scalar.indexCast arg36
  let c64 : Index := 64#32
  ![v925.toNat, 64]
def k0_off133 (k0_t16 : Fin k0_t16_loop.trips) : Fin 2 → Nat :=
  let c0_i32_637 : BitVec 32 := 0#32
  let c1_i32_639 : BitVec 32 := 1#32
  let arg36 : BitVec 32 := Scf.iv c0_i32_637 c1_i32_639 k0_t16
  let v936 : Index := Scalar.indexCast arg36
  let c80 : Index := 80#32
  ![v936.toNat, 80]
def k0_off134 (k0_t16 : Fin k0_t16_loop.trips) : Fin 2 → Nat :=
  let c0_i32_637 : BitVec 32 := 0#32
  let c1_i32_639 : BitVec 32 := 1#32
  let arg36 : BitVec 32 := Scf.iv c0_i32_637 c1_i32_639 k0_t16
  let v947 : Index := Scalar.indexCast arg36
  let c96 : Index := 96#32
  ![v947.toNat, 96]
def k0_off135 (k0_t16 : Fin k0_t16_loop.trips) : Fin 2 → Nat :=
  let c0_i32_637 : BitVec 32 := 0#32
  let c1_i32_639 : BitVec 32 := 1#32
  let arg36 : BitVec 32 := Scf.iv c0_i32_637 c1_i32_639 k0_t16
  let v958 : Index := Scalar.indexCast arg36
  let c112 : Index := 112#32
  ![v958.toNat, 112]
@[reducible] def k0_t17_loop : Scf.Loop 32 :=
  let c0_i32_677 : BitVec 32 := 0#32
  let c128_i32_678 : BitVec 32 := 128#32
  let v599 : BitVec 32 := Scalar.addi c0_i32_677 c128_i32_678
  let c1_i32_679 : BitVec 32 := 1#32
  ⟨c0_i32_677, v599, c1_i32_679⟩
def k0_off136 (k0_t17 : Fin k0_t17_loop.trips) : Fin 2 → Nat :=
  let c0_i32_677 : BitVec 32 := 0#32
  let c1_i32_679 : BitVec 32 := 1#32
  let arg36 : BitVec 32 := Scf.iv c0_i32_677 c1_i32_679 k0_t17
  let v881 : Index := Scalar.indexCast arg36
  let c0 : Index := 0#32
  ![v881.toNat, 0]
def k0_off137 (k0_t17 : Fin k0_t17_loop.trips) : Fin 2 → Nat :=
  let c0_i32_677 : BitVec 32 := 0#32
  let c1_i32_679 : BitVec 32 := 1#32
  let arg36 : BitVec 32 := Scf.iv c0_i32_677 c1_i32_679 k0_t17
  let v892 : Index := Scalar.indexCast arg36
  let c16 : Index := 16#32
  ![v892.toNat, 16]
def k0_off138 (k0_t17 : Fin k0_t17_loop.trips) : Fin 2 → Nat :=
  let c0_i32_677 : BitVec 32 := 0#32
  let c1_i32_679 : BitVec 32 := 1#32
  let arg36 : BitVec 32 := Scf.iv c0_i32_677 c1_i32_679 k0_t17
  let v903 : Index := Scalar.indexCast arg36
  let c32 : Index := 32#32
  ![v903.toNat, 32]
def k0_off139 (k0_t17 : Fin k0_t17_loop.trips) : Fin 2 → Nat :=
  let c0_i32_677 : BitVec 32 := 0#32
  let c1_i32_679 : BitVec 32 := 1#32
  let arg36 : BitVec 32 := Scf.iv c0_i32_677 c1_i32_679 k0_t17
  let v914 : Index := Scalar.indexCast arg36
  let c48 : Index := 48#32
  ![v914.toNat, 48]
def k0_off140 (k0_t17 : Fin k0_t17_loop.trips) : Fin 2 → Nat :=
  let c0_i32_677 : BitVec 32 := 0#32
  let c1_i32_679 : BitVec 32 := 1#32
  let arg36 : BitVec 32 := Scf.iv c0_i32_677 c1_i32_679 k0_t17
  let v925 : Index := Scalar.indexCast arg36
  let c64 : Index := 64#32
  ![v925.toNat, 64]
def k0_off141 (k0_t17 : Fin k0_t17_loop.trips) : Fin 2 → Nat :=
  let c0_i32_677 : BitVec 32 := 0#32
  let c1_i32_679 : BitVec 32 := 1#32
  let arg36 : BitVec 32 := Scf.iv c0_i32_677 c1_i32_679 k0_t17
  let v936 : Index := Scalar.indexCast arg36
  let c80 : Index := 80#32
  ![v936.toNat, 80]
def k0_off142 (k0_t17 : Fin k0_t17_loop.trips) : Fin 2 → Nat :=
  let c0_i32_677 : BitVec 32 := 0#32
  let c1_i32_679 : BitVec 32 := 1#32
  let arg36 : BitVec 32 := Scf.iv c0_i32_677 c1_i32_679 k0_t17
  let v947 : Index := Scalar.indexCast arg36
  let c96 : Index := 96#32
  ![v947.toNat, 96]
def k0_off143 (k0_t17 : Fin k0_t17_loop.trips) : Fin 2 → Nat :=
  let c0_i32_677 : BitVec 32 := 0#32
  let c1_i32_679 : BitVec 32 := 1#32
  let arg36 : BitVec 32 := Scf.iv c0_i32_677 c1_i32_679 k0_t17
  let v958 : Index := Scalar.indexCast arg36
  let c112 : Index := 112#32
  ![v958.toNat, 112]
@[reducible] def k0_t18_loop : Scf.Loop 32 :=
  let c0_i32_717 : BitVec 32 := 0#32
  let c128_i32_718 : BitVec 32 := 128#32
  let v634 : BitVec 32 := Scalar.addi c0_i32_717 c128_i32_718
  let c1_i32_719 : BitVec 32 := 1#32
  ⟨c0_i32_717, v634, c1_i32_719⟩
def k0_off144 (k0_t18 : Fin k0_t18_loop.trips) : Fin 2 → Nat :=
  let c0_i32_717 : BitVec 32 := 0#32
  let c1_i32_719 : BitVec 32 := 1#32
  let arg36 : BitVec 32 := Scf.iv c0_i32_717 c1_i32_719 k0_t18
  let v881 : Index := Scalar.indexCast arg36
  let c0 : Index := 0#32
  ![v881.toNat, 0]
def k0_off145 (k0_t18 : Fin k0_t18_loop.trips) : Fin 2 → Nat :=
  let c0_i32_717 : BitVec 32 := 0#32
  let c1_i32_719 : BitVec 32 := 1#32
  let arg36 : BitVec 32 := Scf.iv c0_i32_717 c1_i32_719 k0_t18
  let v892 : Index := Scalar.indexCast arg36
  let c16 : Index := 16#32
  ![v892.toNat, 16]
def k0_off146 (k0_t18 : Fin k0_t18_loop.trips) : Fin 2 → Nat :=
  let c0_i32_717 : BitVec 32 := 0#32
  let c1_i32_719 : BitVec 32 := 1#32
  let arg36 : BitVec 32 := Scf.iv c0_i32_717 c1_i32_719 k0_t18
  let v903 : Index := Scalar.indexCast arg36
  let c32 : Index := 32#32
  ![v903.toNat, 32]
def k0_off147 (k0_t18 : Fin k0_t18_loop.trips) : Fin 2 → Nat :=
  let c0_i32_717 : BitVec 32 := 0#32
  let c1_i32_719 : BitVec 32 := 1#32
  let arg36 : BitVec 32 := Scf.iv c0_i32_717 c1_i32_719 k0_t18
  let v914 : Index := Scalar.indexCast arg36
  let c48 : Index := 48#32
  ![v914.toNat, 48]
def k0_off148 (k0_t18 : Fin k0_t18_loop.trips) : Fin 2 → Nat :=
  let c0_i32_717 : BitVec 32 := 0#32
  let c1_i32_719 : BitVec 32 := 1#32
  let arg36 : BitVec 32 := Scf.iv c0_i32_717 c1_i32_719 k0_t18
  let v925 : Index := Scalar.indexCast arg36
  let c64 : Index := 64#32
  ![v925.toNat, 64]
def k0_off149 (k0_t18 : Fin k0_t18_loop.trips) : Fin 2 → Nat :=
  let c0_i32_717 : BitVec 32 := 0#32
  let c1_i32_719 : BitVec 32 := 1#32
  let arg36 : BitVec 32 := Scf.iv c0_i32_717 c1_i32_719 k0_t18
  let v936 : Index := Scalar.indexCast arg36
  let c80 : Index := 80#32
  ![v936.toNat, 80]
def k0_off150 (k0_t18 : Fin k0_t18_loop.trips) : Fin 2 → Nat :=
  let c0_i32_717 : BitVec 32 := 0#32
  let c1_i32_719 : BitVec 32 := 1#32
  let arg36 : BitVec 32 := Scf.iv c0_i32_717 c1_i32_719 k0_t18
  let v947 : Index := Scalar.indexCast arg36
  let c96 : Index := 96#32
  ![v947.toNat, 96]
def k0_off151 (k0_t18 : Fin k0_t18_loop.trips) : Fin 2 → Nat :=
  let c0_i32_717 : BitVec 32 := 0#32
  let c1_i32_719 : BitVec 32 := 1#32
  let arg36 : BitVec 32 := Scf.iv c0_i32_717 c1_i32_719 k0_t18
  let v958 : Index := Scalar.indexCast arg36
  let c112 : Index := 112#32
  ![v958.toNat, 112]
@[reducible] def k0_t19_loop : Scf.Loop 32 :=
  let c0_i32_757 : BitVec 32 := 0#32
  let c128_i32_758 : BitVec 32 := 128#32
  let v669 : BitVec 32 := Scalar.addi c0_i32_757 c128_i32_758
  let c1_i32_759 : BitVec 32 := 1#32
  ⟨c0_i32_757, v669, c1_i32_759⟩
def k0_off152 (k0_t19 : Fin k0_t19_loop.trips) : Fin 2 → Nat :=
  let c0_i32_757 : BitVec 32 := 0#32
  let c1_i32_759 : BitVec 32 := 1#32
  let arg36 : BitVec 32 := Scf.iv c0_i32_757 c1_i32_759 k0_t19
  let v881 : Index := Scalar.indexCast arg36
  let c0 : Index := 0#32
  ![v881.toNat, 0]
def k0_off153 (k0_t19 : Fin k0_t19_loop.trips) : Fin 2 → Nat :=
  let c0_i32_757 : BitVec 32 := 0#32
  let c1_i32_759 : BitVec 32 := 1#32
  let arg36 : BitVec 32 := Scf.iv c0_i32_757 c1_i32_759 k0_t19
  let v892 : Index := Scalar.indexCast arg36
  let c16 : Index := 16#32
  ![v892.toNat, 16]
def k0_off154 (k0_t19 : Fin k0_t19_loop.trips) : Fin 2 → Nat :=
  let c0_i32_757 : BitVec 32 := 0#32
  let c1_i32_759 : BitVec 32 := 1#32
  let arg36 : BitVec 32 := Scf.iv c0_i32_757 c1_i32_759 k0_t19
  let v903 : Index := Scalar.indexCast arg36
  let c32 : Index := 32#32
  ![v903.toNat, 32]
def k0_off155 (k0_t19 : Fin k0_t19_loop.trips) : Fin 2 → Nat :=
  let c0_i32_757 : BitVec 32 := 0#32
  let c1_i32_759 : BitVec 32 := 1#32
  let arg36 : BitVec 32 := Scf.iv c0_i32_757 c1_i32_759 k0_t19
  let v914 : Index := Scalar.indexCast arg36
  let c48 : Index := 48#32
  ![v914.toNat, 48]
def k0_off156 (k0_t19 : Fin k0_t19_loop.trips) : Fin 2 → Nat :=
  let c0_i32_757 : BitVec 32 := 0#32
  let c1_i32_759 : BitVec 32 := 1#32
  let arg36 : BitVec 32 := Scf.iv c0_i32_757 c1_i32_759 k0_t19
  let v925 : Index := Scalar.indexCast arg36
  let c64 : Index := 64#32
  ![v925.toNat, 64]
def k0_off157 (k0_t19 : Fin k0_t19_loop.trips) : Fin 2 → Nat :=
  let c0_i32_757 : BitVec 32 := 0#32
  let c1_i32_759 : BitVec 32 := 1#32
  let arg36 : BitVec 32 := Scf.iv c0_i32_757 c1_i32_759 k0_t19
  let v936 : Index := Scalar.indexCast arg36
  let c80 : Index := 80#32
  ![v936.toNat, 80]
def k0_off158 (k0_t19 : Fin k0_t19_loop.trips) : Fin 2 → Nat :=
  let c0_i32_757 : BitVec 32 := 0#32
  let c1_i32_759 : BitVec 32 := 1#32
  let arg36 : BitVec 32 := Scf.iv c0_i32_757 c1_i32_759 k0_t19
  let v947 : Index := Scalar.indexCast arg36
  let c96 : Index := 96#32
  ![v947.toNat, 96]
def k0_off159 (k0_t19 : Fin k0_t19_loop.trips) : Fin 2 → Nat :=
  let c0_i32_757 : BitVec 32 := 0#32
  let c1_i32_759 : BitVec 32 := 1#32
  let arg36 : BitVec 32 := Scf.iv c0_i32_757 c1_i32_759 k0_t19
  let v958 : Index := Scalar.indexCast arg36
  let c112 : Index := 112#32
  ![v958.toNat, 112]
@[reducible] def k0_t20_loop : Scf.Loop 32 :=
  let c0_i32_796 : BitVec 32 := 0#32
  let c128_i32_797 : BitVec 32 := 128#32
  let v704 : BitVec 32 := Scalar.addi c0_i32_796 c128_i32_797
  let c1_i32_798 : BitVec 32 := 1#32
  ⟨c0_i32_796, v704, c1_i32_798⟩
def k0_off160 (k0_t20 : Fin k0_t20_loop.trips) : Fin 2 → Nat :=
  let c0_i32_796 : BitVec 32 := 0#32
  let c1_i32_798 : BitVec 32 := 1#32
  let arg36 : BitVec 32 := Scf.iv c0_i32_796 c1_i32_798 k0_t20
  let v881 : Index := Scalar.indexCast arg36
  let c0 : Index := 0#32
  ![v881.toNat, 0]
def k0_off161 (k0_t20 : Fin k0_t20_loop.trips) : Fin 2 → Nat :=
  let c0_i32_796 : BitVec 32 := 0#32
  let c1_i32_798 : BitVec 32 := 1#32
  let arg36 : BitVec 32 := Scf.iv c0_i32_796 c1_i32_798 k0_t20
  let v892 : Index := Scalar.indexCast arg36
  let c16 : Index := 16#32
  ![v892.toNat, 16]
def k0_off162 (k0_t20 : Fin k0_t20_loop.trips) : Fin 2 → Nat :=
  let c0_i32_796 : BitVec 32 := 0#32
  let c1_i32_798 : BitVec 32 := 1#32
  let arg36 : BitVec 32 := Scf.iv c0_i32_796 c1_i32_798 k0_t20
  let v903 : Index := Scalar.indexCast arg36
  let c32 : Index := 32#32
  ![v903.toNat, 32]
def k0_off163 (k0_t20 : Fin k0_t20_loop.trips) : Fin 2 → Nat :=
  let c0_i32_796 : BitVec 32 := 0#32
  let c1_i32_798 : BitVec 32 := 1#32
  let arg36 : BitVec 32 := Scf.iv c0_i32_796 c1_i32_798 k0_t20
  let v914 : Index := Scalar.indexCast arg36
  let c48 : Index := 48#32
  ![v914.toNat, 48]
def k0_off164 (k0_t20 : Fin k0_t20_loop.trips) : Fin 2 → Nat :=
  let c0_i32_796 : BitVec 32 := 0#32
  let c1_i32_798 : BitVec 32 := 1#32
  let arg36 : BitVec 32 := Scf.iv c0_i32_796 c1_i32_798 k0_t20
  let v925 : Index := Scalar.indexCast arg36
  let c64 : Index := 64#32
  ![v925.toNat, 64]
def k0_off165 (k0_t20 : Fin k0_t20_loop.trips) : Fin 2 → Nat :=
  let c0_i32_796 : BitVec 32 := 0#32
  let c1_i32_798 : BitVec 32 := 1#32
  let arg36 : BitVec 32 := Scf.iv c0_i32_796 c1_i32_798 k0_t20
  let v936 : Index := Scalar.indexCast arg36
  let c80 : Index := 80#32
  ![v936.toNat, 80]
def k0_off166 (k0_t20 : Fin k0_t20_loop.trips) : Fin 2 → Nat :=
  let c0_i32_796 : BitVec 32 := 0#32
  let c1_i32_798 : BitVec 32 := 1#32
  let arg36 : BitVec 32 := Scf.iv c0_i32_796 c1_i32_798 k0_t20
  let v947 : Index := Scalar.indexCast arg36
  let c96 : Index := 96#32
  ![v947.toNat, 96]
def k0_off167 (k0_t20 : Fin k0_t20_loop.trips) : Fin 2 → Nat :=
  let c0_i32_796 : BitVec 32 := 0#32
  let c1_i32_798 : BitVec 32 := 1#32
  let arg36 : BitVec 32 := Scf.iv c0_i32_796 c1_i32_798 k0_t20
  let v958 : Index := Scalar.indexCast arg36
  let c112 : Index := 112#32
  ![v958.toNat, 112]
def k0_off168 (i : grid0.Coords) (c0_i32_825 : BitVec 32) : Fin 3 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32_824 : BitVec 32 := 640#32
  let v730 : BitVec 32 := Scalar.muli v1 c640_i32_824
  let v731 : BitVec 32 := Scalar.addi v730 c0_i32_825
  let c0_i32_828 : BitVec 32 := 0#32
  ![4, v731.toNat, 0]
@[reducible] def k0_t21_loop : Scf.Loop 32 :=
  let c0_i32_835 : BitVec 32 := 0#32
  let c128_i32_836 : BitVec 32 := 128#32
  let v739 : BitVec 32 := Scalar.addi c0_i32_835 c128_i32_836
  let c1_i32_837 : BitVec 32 := 1#32
  ⟨c0_i32_835, v739, c1_i32_837⟩
def k0_off169 (k0_t21 : Fin k0_t21_loop.trips) : Fin 2 → Nat :=
  let c0_i32_835 : BitVec 32 := 0#32
  let c1_i32_837 : BitVec 32 := 1#32
  let arg36 : BitVec 32 := Scf.iv c0_i32_835 c1_i32_837 k0_t21
  let v881 : Index := Scalar.indexCast arg36
  let c0 : Index := 0#32
  ![v881.toNat, 0]
def k0_off170 (k0_t21 : Fin k0_t21_loop.trips) : Fin 2 → Nat :=
  let c0_i32_835 : BitVec 32 := 0#32
  let c1_i32_837 : BitVec 32 := 1#32
  let arg36 : BitVec 32 := Scf.iv c0_i32_835 c1_i32_837 k0_t21
  let v892 : Index := Scalar.indexCast arg36
  let c16 : Index := 16#32
  ![v892.toNat, 16]
def k0_off171 (k0_t21 : Fin k0_t21_loop.trips) : Fin 2 → Nat :=
  let c0_i32_835 : BitVec 32 := 0#32
  let c1_i32_837 : BitVec 32 := 1#32
  let arg36 : BitVec 32 := Scf.iv c0_i32_835 c1_i32_837 k0_t21
  let v903 : Index := Scalar.indexCast arg36
  let c32 : Index := 32#32
  ![v903.toNat, 32]
def k0_off172 (k0_t21 : Fin k0_t21_loop.trips) : Fin 2 → Nat :=
  let c0_i32_835 : BitVec 32 := 0#32
  let c1_i32_837 : BitVec 32 := 1#32
  let arg36 : BitVec 32 := Scf.iv c0_i32_835 c1_i32_837 k0_t21
  let v914 : Index := Scalar.indexCast arg36
  let c48 : Index := 48#32
  ![v914.toNat, 48]
def k0_off173 (k0_t21 : Fin k0_t21_loop.trips) : Fin 2 → Nat :=
  let c0_i32_835 : BitVec 32 := 0#32
  let c1_i32_837 : BitVec 32 := 1#32
  let arg36 : BitVec 32 := Scf.iv c0_i32_835 c1_i32_837 k0_t21
  let v925 : Index := Scalar.indexCast arg36
  let c64 : Index := 64#32
  ![v925.toNat, 64]
def k0_off174 (k0_t21 : Fin k0_t21_loop.trips) : Fin 2 → Nat :=
  let c0_i32_835 : BitVec 32 := 0#32
  let c1_i32_837 : BitVec 32 := 1#32
  let arg36 : BitVec 32 := Scf.iv c0_i32_835 c1_i32_837 k0_t21
  let v936 : Index := Scalar.indexCast arg36
  let c80 : Index := 80#32
  ![v936.toNat, 80]
def k0_off175 (k0_t21 : Fin k0_t21_loop.trips) : Fin 2 → Nat :=
  let c0_i32_835 : BitVec 32 := 0#32
  let c1_i32_837 : BitVec 32 := 1#32
  let arg36 : BitVec 32 := Scf.iv c0_i32_835 c1_i32_837 k0_t21
  let v947 : Index := Scalar.indexCast arg36
  let c96 : Index := 96#32
  ![v947.toNat, 96]
def k0_off176 (k0_t21 : Fin k0_t21_loop.trips) : Fin 2 → Nat :=
  let c0_i32_835 : BitVec 32 := 0#32
  let c1_i32_837 : BitVec 32 := 1#32
  let arg36 : BitVec 32 := Scf.iv c0_i32_835 c1_i32_837 k0_t21
  let v958 : Index := Scalar.indexCast arg36
  let c112 : Index := 112#32
  ![v958.toNat, 112]
@[reducible] def k0_t22_loop : Scf.Loop 32 :=
  let c0_i32_875 : BitVec 32 := 0#32
  let c128_i32_876 : BitVec 32 := 128#32
  let v774 : BitVec 32 := Scalar.addi c0_i32_875 c128_i32_876
  let c1_i32_877 : BitVec 32 := 1#32
  ⟨c0_i32_875, v774, c1_i32_877⟩
def k0_off177 (k0_t22 : Fin k0_t22_loop.trips) : Fin 2 → Nat :=
  let c0_i32_875 : BitVec 32 := 0#32
  let c1_i32_877 : BitVec 32 := 1#32
  let arg36 : BitVec 32 := Scf.iv c0_i32_875 c1_i32_877 k0_t22
  let v881 : Index := Scalar.indexCast arg36
  let c0 : Index := 0#32
  ![v881.toNat, 0]
def k0_off178 (k0_t22 : Fin k0_t22_loop.trips) : Fin 2 → Nat :=
  let c0_i32_875 : BitVec 32 := 0#32
  let c1_i32_877 : BitVec 32 := 1#32
  let arg36 : BitVec 32 := Scf.iv c0_i32_875 c1_i32_877 k0_t22
  let v892 : Index := Scalar.indexCast arg36
  let c16 : Index := 16#32
  ![v892.toNat, 16]
def k0_off179 (k0_t22 : Fin k0_t22_loop.trips) : Fin 2 → Nat :=
  let c0_i32_875 : BitVec 32 := 0#32
  let c1_i32_877 : BitVec 32 := 1#32
  let arg36 : BitVec 32 := Scf.iv c0_i32_875 c1_i32_877 k0_t22
  let v903 : Index := Scalar.indexCast arg36
  let c32 : Index := 32#32
  ![v903.toNat, 32]
def k0_off180 (k0_t22 : Fin k0_t22_loop.trips) : Fin 2 → Nat :=
  let c0_i32_875 : BitVec 32 := 0#32
  let c1_i32_877 : BitVec 32 := 1#32
  let arg36 : BitVec 32 := Scf.iv c0_i32_875 c1_i32_877 k0_t22
  let v914 : Index := Scalar.indexCast arg36
  let c48 : Index := 48#32
  ![v914.toNat, 48]
def k0_off181 (k0_t22 : Fin k0_t22_loop.trips) : Fin 2 → Nat :=
  let c0_i32_875 : BitVec 32 := 0#32
  let c1_i32_877 : BitVec 32 := 1#32
  let arg36 : BitVec 32 := Scf.iv c0_i32_875 c1_i32_877 k0_t22
  let v925 : Index := Scalar.indexCast arg36
  let c64 : Index := 64#32
  ![v925.toNat, 64]
def k0_off182 (k0_t22 : Fin k0_t22_loop.trips) : Fin 2 → Nat :=
  let c0_i32_875 : BitVec 32 := 0#32
  let c1_i32_877 : BitVec 32 := 1#32
  let arg36 : BitVec 32 := Scf.iv c0_i32_875 c1_i32_877 k0_t22
  let v936 : Index := Scalar.indexCast arg36
  let c80 : Index := 80#32
  ![v936.toNat, 80]
def k0_off183 (k0_t22 : Fin k0_t22_loop.trips) : Fin 2 → Nat :=
  let c0_i32_875 : BitVec 32 := 0#32
  let c1_i32_877 : BitVec 32 := 1#32
  let arg36 : BitVec 32 := Scf.iv c0_i32_875 c1_i32_877 k0_t22
  let v947 : Index := Scalar.indexCast arg36
  let c96 : Index := 96#32
  ![v947.toNat, 96]
def k0_off184 (k0_t22 : Fin k0_t22_loop.trips) : Fin 2 → Nat :=
  let c0_i32_875 : BitVec 32 := 0#32
  let c1_i32_877 : BitVec 32 := 1#32
  let arg36 : BitVec 32 := Scf.iv c0_i32_875 c1_i32_877 k0_t22
  let v958 : Index := Scalar.indexCast arg36
  let c112 : Index := 112#32
  ![v958.toNat, 112]
@[reducible] def k0_t23_loop : Scf.Loop 32 :=
  let c0_i32_915 : BitVec 32 := 0#32
  let c128_i32_916 : BitVec 32 := 128#32
  let v809 : BitVec 32 := Scalar.addi c0_i32_915 c128_i32_916
  let c1_i32_917 : BitVec 32 := 1#32
  ⟨c0_i32_915, v809, c1_i32_917⟩
def k0_off185 (k0_t23 : Fin k0_t23_loop.trips) : Fin 2 → Nat :=
  let c0_i32_915 : BitVec 32 := 0#32
  let c1_i32_917 : BitVec 32 := 1#32
  let arg36 : BitVec 32 := Scf.iv c0_i32_915 c1_i32_917 k0_t23
  let v881 : Index := Scalar.indexCast arg36
  let c0 : Index := 0#32
  ![v881.toNat, 0]
def k0_off186 (k0_t23 : Fin k0_t23_loop.trips) : Fin 2 → Nat :=
  let c0_i32_915 : BitVec 32 := 0#32
  let c1_i32_917 : BitVec 32 := 1#32
  let arg36 : BitVec 32 := Scf.iv c0_i32_915 c1_i32_917 k0_t23
  let v892 : Index := Scalar.indexCast arg36
  let c16 : Index := 16#32
  ![v892.toNat, 16]
def k0_off187 (k0_t23 : Fin k0_t23_loop.trips) : Fin 2 → Nat :=
  let c0_i32_915 : BitVec 32 := 0#32
  let c1_i32_917 : BitVec 32 := 1#32
  let arg36 : BitVec 32 := Scf.iv c0_i32_915 c1_i32_917 k0_t23
  let v903 : Index := Scalar.indexCast arg36
  let c32 : Index := 32#32
  ![v903.toNat, 32]
def k0_off188 (k0_t23 : Fin k0_t23_loop.trips) : Fin 2 → Nat :=
  let c0_i32_915 : BitVec 32 := 0#32
  let c1_i32_917 : BitVec 32 := 1#32
  let arg36 : BitVec 32 := Scf.iv c0_i32_915 c1_i32_917 k0_t23
  let v914 : Index := Scalar.indexCast arg36
  let c48 : Index := 48#32
  ![v914.toNat, 48]
def k0_off189 (k0_t23 : Fin k0_t23_loop.trips) : Fin 2 → Nat :=
  let c0_i32_915 : BitVec 32 := 0#32
  let c1_i32_917 : BitVec 32 := 1#32
  let arg36 : BitVec 32 := Scf.iv c0_i32_915 c1_i32_917 k0_t23
  let v925 : Index := Scalar.indexCast arg36
  let c64 : Index := 64#32
  ![v925.toNat, 64]
def k0_off190 (k0_t23 : Fin k0_t23_loop.trips) : Fin 2 → Nat :=
  let c0_i32_915 : BitVec 32 := 0#32
  let c1_i32_917 : BitVec 32 := 1#32
  let arg36 : BitVec 32 := Scf.iv c0_i32_915 c1_i32_917 k0_t23
  let v936 : Index := Scalar.indexCast arg36
  let c80 : Index := 80#32
  ![v936.toNat, 80]
def k0_off191 (k0_t23 : Fin k0_t23_loop.trips) : Fin 2 → Nat :=
  let c0_i32_915 : BitVec 32 := 0#32
  let c1_i32_917 : BitVec 32 := 1#32
  let arg36 : BitVec 32 := Scf.iv c0_i32_915 c1_i32_917 k0_t23
  let v947 : Index := Scalar.indexCast arg36
  let c96 : Index := 96#32
  ![v947.toNat, 96]
def k0_off192 (k0_t23 : Fin k0_t23_loop.trips) : Fin 2 → Nat :=
  let c0_i32_915 : BitVec 32 := 0#32
  let c1_i32_917 : BitVec 32 := 1#32
  let arg36 : BitVec 32 := Scf.iv c0_i32_915 c1_i32_917 k0_t23
  let v958 : Index := Scalar.indexCast arg36
  let c112 : Index := 112#32
  ![v958.toNat, 112]
@[reducible] def k0_t24_loop : Scf.Loop 32 :=
  let c0_i32_955 : BitVec 32 := 0#32
  let c128_i32_956 : BitVec 32 := 128#32
  let v844 : BitVec 32 := Scalar.addi c0_i32_955 c128_i32_956
  let c1_i32_957 : BitVec 32 := 1#32
  ⟨c0_i32_955, v844, c1_i32_957⟩
def k0_off193 (k0_t24 : Fin k0_t24_loop.trips) : Fin 2 → Nat :=
  let c0_i32_955 : BitVec 32 := 0#32
  let c1_i32_957 : BitVec 32 := 1#32
  let arg36 : BitVec 32 := Scf.iv c0_i32_955 c1_i32_957 k0_t24
  let v881 : Index := Scalar.indexCast arg36
  let c0 : Index := 0#32
  ![v881.toNat, 0]
def k0_off194 (k0_t24 : Fin k0_t24_loop.trips) : Fin 2 → Nat :=
  let c0_i32_955 : BitVec 32 := 0#32
  let c1_i32_957 : BitVec 32 := 1#32
  let arg36 : BitVec 32 := Scf.iv c0_i32_955 c1_i32_957 k0_t24
  let v892 : Index := Scalar.indexCast arg36
  let c16 : Index := 16#32
  ![v892.toNat, 16]
def k0_off195 (k0_t24 : Fin k0_t24_loop.trips) : Fin 2 → Nat :=
  let c0_i32_955 : BitVec 32 := 0#32
  let c1_i32_957 : BitVec 32 := 1#32
  let arg36 : BitVec 32 := Scf.iv c0_i32_955 c1_i32_957 k0_t24
  let v903 : Index := Scalar.indexCast arg36
  let c32 : Index := 32#32
  ![v903.toNat, 32]
def k0_off196 (k0_t24 : Fin k0_t24_loop.trips) : Fin 2 → Nat :=
  let c0_i32_955 : BitVec 32 := 0#32
  let c1_i32_957 : BitVec 32 := 1#32
  let arg36 : BitVec 32 := Scf.iv c0_i32_955 c1_i32_957 k0_t24
  let v914 : Index := Scalar.indexCast arg36
  let c48 : Index := 48#32
  ![v914.toNat, 48]
def k0_off197 (k0_t24 : Fin k0_t24_loop.trips) : Fin 2 → Nat :=
  let c0_i32_955 : BitVec 32 := 0#32
  let c1_i32_957 : BitVec 32 := 1#32
  let arg36 : BitVec 32 := Scf.iv c0_i32_955 c1_i32_957 k0_t24
  let v925 : Index := Scalar.indexCast arg36
  let c64 : Index := 64#32
  ![v925.toNat, 64]
def k0_off198 (k0_t24 : Fin k0_t24_loop.trips) : Fin 2 → Nat :=
  let c0_i32_955 : BitVec 32 := 0#32
  let c1_i32_957 : BitVec 32 := 1#32
  let arg36 : BitVec 32 := Scf.iv c0_i32_955 c1_i32_957 k0_t24
  let v936 : Index := Scalar.indexCast arg36
  let c80 : Index := 80#32
  ![v936.toNat, 80]
def k0_off199 (k0_t24 : Fin k0_t24_loop.trips) : Fin 2 → Nat :=
  let c0_i32_955 : BitVec 32 := 0#32
  let c1_i32_957 : BitVec 32 := 1#32
  let arg36 : BitVec 32 := Scf.iv c0_i32_955 c1_i32_957 k0_t24
  let v947 : Index := Scalar.indexCast arg36
  let c96 : Index := 96#32
  ![v947.toNat, 96]
def k0_off200 (k0_t24 : Fin k0_t24_loop.trips) : Fin 2 → Nat :=
  let c0_i32_955 : BitVec 32 := 0#32
  let c1_i32_957 : BitVec 32 := 1#32
  let arg36 : BitVec 32 := Scf.iv c0_i32_955 c1_i32_957 k0_t24
  let v958 : Index := Scalar.indexCast arg36
  let c112 : Index := 112#32
  ![v958.toNat, 112]
@[reducible] def k0_t25_loop : Scf.Loop 32 :=
  let c0_i32_974 : BitVec 32 := 0#32
  let c128_i32_975 : BitVec 32 := 128#32
  let v859 : BitVec 32 := Scalar.addi c0_i32_974 c128_i32_975
  let c1_i32_976 : BitVec 32 := 1#32
  ⟨c0_i32_974, v859, c1_i32_976⟩
def k0_off201 (k0_t25 : Fin k0_t25_loop.trips) : Fin 2 → Nat :=
  let c0_i32_974 : BitVec 32 := 0#32
  let c1_i32_976 : BitVec 32 := 1#32
  let arg36 : BitVec 32 := Scf.iv c0_i32_974 c1_i32_976 k0_t25
  let v881 : Index := Scalar.indexCast arg36
  let c0 : Index := 0#32
  ![v881.toNat, 0]
def k0_off202 (k0_t25 : Fin k0_t25_loop.trips) : Fin 2 → Nat :=
  let c0_i32_974 : BitVec 32 := 0#32
  let c1_i32_976 : BitVec 32 := 1#32
  let arg36 : BitVec 32 := Scf.iv c0_i32_974 c1_i32_976 k0_t25
  let v892 : Index := Scalar.indexCast arg36
  let c16 : Index := 16#32
  ![v892.toNat, 16]
def k0_off203 (k0_t25 : Fin k0_t25_loop.trips) : Fin 2 → Nat :=
  let c0_i32_974 : BitVec 32 := 0#32
  let c1_i32_976 : BitVec 32 := 1#32
  let arg36 : BitVec 32 := Scf.iv c0_i32_974 c1_i32_976 k0_t25
  let v903 : Index := Scalar.indexCast arg36
  let c32 : Index := 32#32
  ![v903.toNat, 32]
def k0_off204 (k0_t25 : Fin k0_t25_loop.trips) : Fin 2 → Nat :=
  let c0_i32_974 : BitVec 32 := 0#32
  let c1_i32_976 : BitVec 32 := 1#32
  let arg36 : BitVec 32 := Scf.iv c0_i32_974 c1_i32_976 k0_t25
  let v914 : Index := Scalar.indexCast arg36
  let c48 : Index := 48#32
  ![v914.toNat, 48]
def k0_off205 (k0_t25 : Fin k0_t25_loop.trips) : Fin 2 → Nat :=
  let c0_i32_974 : BitVec 32 := 0#32
  let c1_i32_976 : BitVec 32 := 1#32
  let arg36 : BitVec 32 := Scf.iv c0_i32_974 c1_i32_976 k0_t25
  let v925 : Index := Scalar.indexCast arg36
  let c64 : Index := 64#32
  ![v925.toNat, 64]
def k0_off206 (k0_t25 : Fin k0_t25_loop.trips) : Fin 2 → Nat :=
  let c0_i32_974 : BitVec 32 := 0#32
  let c1_i32_976 : BitVec 32 := 1#32
  let arg36 : BitVec 32 := Scf.iv c0_i32_974 c1_i32_976 k0_t25
  let v936 : Index := Scalar.indexCast arg36
  let c80 : Index := 80#32
  ![v936.toNat, 80]
def k0_off207 (k0_t25 : Fin k0_t25_loop.trips) : Fin 2 → Nat :=
  let c0_i32_974 : BitVec 32 := 0#32
  let c1_i32_976 : BitVec 32 := 1#32
  let arg36 : BitVec 32 := Scf.iv c0_i32_974 c1_i32_976 k0_t25
  let v947 : Index := Scalar.indexCast arg36
  let c96 : Index := 96#32
  ![v947.toNat, 96]
def k0_off208 (k0_t25 : Fin k0_t25_loop.trips) : Fin 2 → Nat :=
  let c0_i32_974 : BitVec 32 := 0#32
  let c1_i32_976 : BitVec 32 := 1#32
  let arg36 : BitVec 32 := Scf.iv c0_i32_974 c1_i32_976 k0_t25
  let v958 : Index := Scalar.indexCast arg36
  let c112 : Index := 112#32
  ![v958.toNat, 112]
abbrev grid1 : Pipeline.Grid := ⟨2, ![2, 5], ![false, false]⟩

def k1_cond2 (i : grid1.Coords) : BitVec 1 :=
  let arg1 : BitVec 32 := BitVec.ofNat 32 (i 1).val
  let c4_i32_64 : BitVec 32 := 4#32
  let v175 : BitVec 1 := Scalar.cmpi .eq arg1 c4_i32_64
  let v176 : BitVec 32 := Scalar.extui v175
  let c0_i32_65 : BitVec 32 := 0#32
  let v177 : BitVec 1 := Scalar.cmpi .ne v176 c0_i32_65
  v177

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x5x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x5x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S4x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S5x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 2 → Memref sig .tc .vmem S2048x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "fifth" => some ((1 / 5 : ℝ) : EReal)
  | _ => none
-- ==== ReferenceIdeal.lean ====
abbrev S100000x128 : Shape := ⟨2, ![100000, 128]⟩
abbrev S4096 : Shape := ⟨1, ![4096]⟩
abbrev S5x4096x5 : Shape := ⟨3, ![5, 4096, 5]⟩
abbrev S5x20480x2 : Shape := ⟨3, ![5, 20480, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S8x4 : Shape := ⟨2, ![8, 4]⟩
abbrev S64x5 : Shape := ⟨2, ![64, 5]⟩
abbrev S64x64 : Shape := ⟨2, ![64, 64]⟩
abbrev S_ : Shape := ⟨0, ![]⟩
abbrev S24576x128 : Shape := ⟨2, ![24576, 128]⟩
abbrev S4096x64 : Shape := ⟨2, ![4096, 64]⟩
abbrev S1x4096x5 : Shape := ⟨3, ![1, 4096, 5]⟩
abbrev S4096x5 : Shape := ⟨2, ![4096, 5]⟩
abbrev S20480 : Shape := ⟨1, ![20480]⟩
abbrev S1x20480x2 : Shape := ⟨3, ![1, 20480, 2]⟩
abbrev S20480x2 : Shape := ⟨2, ![20480, 2]⟩
abbrev S40960 : Shape := ⟨1, ![40960]⟩
abbrev S4096x1 : Shape := ⟨2, ![4096, 1]⟩
abbrev S4096x128 : Shape := ⟨2, ![4096, 128]⟩
abbrev S20480x1 : Shape := ⟨2, ![20480, 1]⟩
abbrev S20480x128 : Shape := ⟨2, ![20480, 128]⟩
abbrev S40960x1 : Shape := ⟨2, ![40960, 1]⟩
abbrev S40960x128 : Shape := ⟨2, ![40960, 128]⟩
abbrev S4096x5x128 : Shape := ⟨3, ![4096, 5, 128]⟩
abbrev S20480x2x128 : Shape := ⟨3, ![20480, 2, 128]⟩
abbrev S1x128 : Shape := ⟨2, ![1, 128]⟩
abbrev S1x64 : Shape := ⟨2, ![1, 64]⟩
abbrev S4096x1x64 : Shape := ⟨3, ![4096, 1, 64]⟩
abbrev S4096x5x64 : Shape := ⟨3, ![4096, 5, 64]⟩
abbrev S8 : Shape := ⟨1, ![8]⟩
abbrev S8x1 : Shape := ⟨2, ![8, 1]⟩
abbrev S4096x5x8x8 : Shape := ⟨4, ![4096, 5, 8, 8]⟩
abbrev S1x1x8x1 : Shape := ⟨4, ![1, 1, 8, 1]⟩
abbrev S4096x6x64 : Shape := ⟨3, ![4096, 6, 64]⟩
abbrev S4096x8x64 : Shape := ⟨3, ![4096, 8, 64]⟩
abbrev S4096x10x64 : Shape := ⟨3, ![4096, 10, 64]⟩
abbrev S4096x9x64 : Shape := ⟨3, ![4096, 9, 64]⟩
abbrev S64x1 : Shape := ⟨2, ![64, 1]⟩
abbrev S1x1x64 : Shape := ⟨3, ![1, 1, 64]⟩

abbrev nBuf : Space → Nat
  | .hbm => 598
  | .vmem => 0
  | .smem => 0
  | _ => 0

abbrev hbmTy0_0 (i : Nat) : BufTy := match i % 128 with
  | 0 => ⟨S100000x128, .f32⟩
  | 1 => ⟨S4096, .i32⟩
  | 2 => ⟨S5x4096x5, .i32⟩
  | 3 => ⟨S5x20480x2, .i32⟩
  | 4 => ⟨S128x128, .f32⟩
  | 5 => ⟨S128x128, .f32⟩
  | 6 => ⟨S128, .f32⟩
  | 7 => ⟨S128x64, .f32⟩
  | 8 => ⟨S128x64, .f32⟩
  | 9 => ⟨S64, .f32⟩
  | 10 => ⟨S8x4, .f32⟩
  | 11 => ⟨S64x5, .f32⟩
  | 12 => ⟨S64x64, .f32⟩
  | 13 => ⟨S64, .f32⟩
  | 14 => ⟨S_, .f32⟩
  | 15 => ⟨S24576x128, .f32⟩
  | 16 => ⟨S_, .f32⟩
  | 17 => ⟨S4096x64, .f32⟩
  | 18 => ⟨S1x4096x5, .i32⟩
  | 19 => ⟨S4096x5, .i32⟩
  | 20 => ⟨S20480, .i32⟩
  | 21 => ⟨S1x20480x2, .i32⟩
  | 22 => ⟨S20480x2, .i32⟩
  | 23 => ⟨S40960, .i32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096x128, .f32⟩
  | 33 => ⟨S_, .i32⟩
  | 34 => ⟨S20480, .i32⟩
  | 35 => ⟨S20480, .i1⟩
  | 36 => ⟨S_, .i32⟩
  | 37 => ⟨S20480, .i32⟩
  | 38 => ⟨S20480, .i32⟩
  | 39 => ⟨S20480, .i32⟩
  | 40 => ⟨S20480x1, .i32⟩
  | 41 => ⟨S20480x128, .f32⟩
  | 42 => ⟨S_, .i32⟩
  | 43 => ⟨S40960, .i32⟩
  | 44 => ⟨S40960, .i1⟩
  | 45 => ⟨S_, .i32⟩
  | 46 => ⟨S40960, .i32⟩
  | 47 => ⟨S40960, .i32⟩
  | 48 => ⟨S40960, .i32⟩
  | 49 => ⟨S40960x1, .i32⟩
  | 50 => ⟨S40960x128, .f32⟩
  | 51 => ⟨S4096x5x128, .f32⟩
  | 52 => ⟨S20480x2x128, .f32⟩
  | 53 => ⟨S24576x128, .f32⟩
  | 54 => ⟨S_, .f32⟩
  | 55 => ⟨S4096x128, .f32⟩
  | 56 => ⟨S_, .f32⟩
  | 57 => ⟨S4096x128, .f32⟩
  | 58 => ⟨S4096x128, .f32⟩
  | 59 => ⟨S_, .f32⟩
  | 60 => ⟨S20480x128, .f32⟩
  | 61 => ⟨S_, .f32⟩
  | 62 => ⟨S20480x128, .f32⟩
  | 63 => ⟨S20480x128, .f32⟩
  | 64 => ⟨S24576x128, .f32⟩
  | 65 => ⟨S24576x128, .f32⟩
  | 66 => ⟨S24576x128, .f32⟩
  | 67 => ⟨S24576x128, .f32⟩
  | 68 => ⟨S1x128, .f32⟩
  | 69 => ⟨S24576x128, .f32⟩
  | 70 => ⟨S24576x128, .f32⟩
  | 71 => ⟨S24576x128, .f32⟩
  | 72 => ⟨S_, .f32⟩
  | 73 => ⟨S24576x128, .f32⟩
  | 74 => ⟨S24576x128, .f32⟩
  | 75 => ⟨S24576x128, .f32⟩
  | 76 => ⟨S_, .f32⟩
  | 77 => ⟨S24576x128, .f32⟩
  | 78 => ⟨S24576x128, .i1⟩
  | 79 => ⟨S24576x128, .f32⟩
  | 80 => ⟨S_, .f32⟩
  | 81 => ⟨S24576x128, .f32⟩
  | 82 => ⟨S24576x128, .f32⟩
  | 83 => ⟨S24576x128, .f32⟩
  | 84 => ⟨S4096x128, .f32⟩
  | 85 => ⟨S20480x128, .f32⟩
  | 86 => ⟨S4096x5x128, .f32⟩
  | 87 => ⟨S_, .f32⟩
  | 88 => ⟨S4096x128, .f32⟩
  | 89 => ⟨S_, .f32⟩
  | 90 => ⟨S4096x128, .f32⟩
  | 91 => ⟨S4096x128, .f32⟩
  | 92 => ⟨S4096x64, .f32⟩
  | 93 => ⟨S4096x64, .f32⟩
  | 94 => ⟨S4096x64, .f32⟩
  | 95 => ⟨S1x64, .f32⟩
  | 96 => ⟨S4096x64, .f32⟩
  | 97 => ⟨S4096x64, .f32⟩
  | 98 => ⟨S4096x64, .f32⟩
  | 99 => ⟨S_, .f32⟩
  | 100 => ⟨S4096x64, .f32⟩
  | 101 => ⟨S4096x64, .f32⟩
  | 102 => ⟨S4096x64, .f32⟩
  | 103 => ⟨S_, .f32⟩
  | 104 => ⟨S4096x64, .f32⟩
  | 105 => ⟨S4096x64, .i1⟩
  | 106 => ⟨S4096x64, .f32⟩
  | 107 => ⟨S_, .f32⟩
  | 108 => ⟨S4096x64, .f32⟩
  | 109 => ⟨S4096x64, .f32⟩
  | 110 => ⟨S4096x64, .f32⟩
  | 111 => ⟨S1x4096x5, .i32⟩
  | 112 => ⟨S4096x5, .i32⟩
  | 113 => ⟨S20480, .i32⟩
  | 114 => ⟨S1x20480x2, .i32⟩
  | 115 => ⟨S20480x2, .i32⟩
  | 116 => ⟨S40960, .i32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096x128, .f32⟩
  | 126 => ⟨S_, .i32⟩
  | 127 => ⟨S20480, .i32⟩
  | _ => ⟨S100000x128, .f32⟩

abbrev hbmTy0_1 (i : Nat) : BufTy := match i % 128 with
  | 0 => ⟨S20480, .i1⟩
  | 1 => ⟨S_, .i32⟩
  | 2 => ⟨S20480, .i32⟩
  | 3 => ⟨S20480, .i32⟩
  | 4 => ⟨S20480, .i32⟩
  | 5 => ⟨S20480x1, .i32⟩
  | 6 => ⟨S20480x128, .f32⟩
  | 7 => ⟨S_, .i32⟩
  | 8 => ⟨S40960, .i32⟩
  | 9 => ⟨S40960, .i1⟩
  | 10 => ⟨S_, .i32⟩
  | 11 => ⟨S40960, .i32⟩
  | 12 => ⟨S40960, .i32⟩
  | 13 => ⟨S40960, .i32⟩
  | 14 => ⟨S40960x1, .i32⟩
  | 15 => ⟨S40960x128, .f32⟩
  | 16 => ⟨S4096x5x128, .f32⟩
  | 17 => ⟨S20480x2x128, .f32⟩
  | 18 => ⟨S24576x128, .f32⟩
  | 19 => ⟨S_, .f32⟩
  | 20 => ⟨S4096x128, .f32⟩
  | 21 => ⟨S_, .f32⟩
  | 22 => ⟨S4096x128, .f32⟩
  | 23 => ⟨S4096x128, .f32⟩
  | 24 => ⟨S_, .f32⟩
  | 25 => ⟨S20480x128, .f32⟩
  | 26 => ⟨S_, .f32⟩
  | 27 => ⟨S20480x128, .f32⟩
  | 28 => ⟨S20480x128, .f32⟩
  | 29 => ⟨S24576x128, .f32⟩
  | 30 => ⟨S24576x128, .f32⟩
  | 31 => ⟨S24576x128, .f32⟩
  | 32 => ⟨S24576x128, .f32⟩
  | 33 => ⟨S1x128, .f32⟩
  | 34 => ⟨S24576x128, .f32⟩
  | 35 => ⟨S24576x128, .f32⟩
  | 36 => ⟨S24576x128, .f32⟩
  | 37 => ⟨S_, .f32⟩
  | 38 => ⟨S24576x128, .f32⟩
  | 39 => ⟨S24576x128, .f32⟩
  | 40 => ⟨S24576x128, .f32⟩
  | 41 => ⟨S_, .f32⟩
  | 42 => ⟨S24576x128, .f32⟩
  | 43 => ⟨S24576x128, .i1⟩
  | 44 => ⟨S24576x128, .f32⟩
  | 45 => ⟨S_, .f32⟩
  | 46 => ⟨S24576x128, .f32⟩
  | 47 => ⟨S24576x128, .f32⟩
  | 48 => ⟨S24576x128, .f32⟩
  | 49 => ⟨S4096x128, .f32⟩
  | 50 => ⟨S20480x128, .f32⟩
  | 51 => ⟨S4096x5x128, .f32⟩
  | 52 => ⟨S_, .f32⟩
  | 53 => ⟨S4096x128, .f32⟩
  | 54 => ⟨S_, .f32⟩
  | 55 => ⟨S4096x128, .f32⟩
  | 56 => ⟨S4096x128, .f32⟩
  | 57 => ⟨S4096x64, .f32⟩
  | 58 => ⟨S4096x64, .f32⟩
  | 59 => ⟨S4096x64, .f32⟩
  | 60 => ⟨S1x64, .f32⟩
  | 61 => ⟨S4096x64, .f32⟩
  | 62 => ⟨S4096x64, .f32⟩
  | 63 => ⟨S4096x64, .f32⟩
  | 64 => ⟨S_, .f32⟩
  | 65 => ⟨S4096x64, .f32⟩
  | 66 => ⟨S4096x64, .f32⟩
  | 67 => ⟨S4096x64, .f32⟩
  | 68 => ⟨S_, .f32⟩
  | 69 => ⟨S4096x64, .f32⟩
  | 70 => ⟨S4096x64, .i1⟩
  | 71 => ⟨S4096x64, .f32⟩
  | 72 => ⟨S_, .f32⟩
  | 73 => ⟨S4096x64, .f32⟩
  | 74 => ⟨S4096x64, .f32⟩
  | 75 => ⟨S4096x64, .f32⟩
  | 76 => ⟨S1x4096x5, .i32⟩
  | 77 => ⟨S4096x5, .i32⟩
  | 78 => ⟨S20480, .i32⟩
  | 79 => ⟨S1x20480x2, .i32⟩
  | 80 => ⟨S20480x2, .i32⟩
  | 81 => ⟨S40960, .i32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S4096x1, .i32⟩
  | 90 => ⟨S4096x128, .f32⟩
  | 91 => ⟨S_, .i32⟩
  | 92 => ⟨S20480, .i32⟩
  | 93 => ⟨S20480, .i1⟩
  | 94 => ⟨S_, .i32⟩
  | 95 => ⟨S20480, .i32⟩
  | 96 => ⟨S20480, .i32⟩
  | 97 => ⟨S20480, .i32⟩
  | 98 => ⟨S20480x1, .i32⟩
  | 99 => ⟨S20480x128, .f32⟩
  | 100 => ⟨S_, .i32⟩
  | 101 => ⟨S40960, .i32⟩
  | 102 => ⟨S40960, .i1⟩
  | 103 => ⟨S_, .i32⟩
  | 104 => ⟨S40960, .i32⟩
  | 105 => ⟨S40960, .i32⟩
  | 106 => ⟨S40960, .i32⟩
  | 107 => ⟨S40960x1, .i32⟩
  | 108 => ⟨S40960x128, .f32⟩
  | 109 => ⟨S4096x5x128, .f32⟩
  | 110 => ⟨S20480x2x128, .f32⟩
  | 111 => ⟨S24576x128, .f32⟩
  | 112 => ⟨S_, .f32⟩
  | 113 => ⟨S4096x128, .f32⟩
  | 114 => ⟨S_, .f32⟩
  | 115 => ⟨S4096x128, .f32⟩
  | 116 => ⟨S4096x128, .f32⟩
  | 117 => ⟨S_, .f32⟩
  | 118 => ⟨S20480x128, .f32⟩
  | 119 => ⟨S_, .f32⟩
  | 120 => ⟨S20480x128, .f32⟩
  | 121 => ⟨S20480x128, .f32⟩
  | 122 => ⟨S24576x128, .f32⟩
  | 123 => ⟨S24576x128, .f32⟩
  | 124 => ⟨S24576x128, .f32⟩
  | 125 => ⟨S24576x128, .f32⟩
  | 126 => ⟨S1x128, .f32⟩
  | 127 => ⟨S24576x128, .f32⟩
  | _ => ⟨S100000x128, .f32⟩

abbrev hbmTy0_2 (i : Nat) : BufTy := match i % 128 with
  | 0 => ⟨S24576x128, .f32⟩
  | 1 => ⟨S24576x128, .f32⟩
  | 2 => ⟨S_, .f32⟩
  | 3 => ⟨S24576x128, .f32⟩
  | 4 => ⟨S24576x128, .f32⟩
  | 5 => ⟨S24576x128, .f32⟩
  | 6 => ⟨S_, .f32⟩
  | 7 => ⟨S24576x128, .f32⟩
  | 8 => ⟨S24576x128, .i1⟩
  | 9 => ⟨S24576x128, .f32⟩
  | 10 => ⟨S_, .f32⟩
  | 11 => ⟨S24576x128, .f32⟩
  | 12 => ⟨S24576x128, .f32⟩
  | 13 => ⟨S24576x128, .f32⟩
  | 14 => ⟨S4096x128, .f32⟩
  | 15 => ⟨S20480x128, .f32⟩
  | 16 => ⟨S4096x5x128, .f32⟩
  | 17 => ⟨S_, .f32⟩
  | 18 => ⟨S4096x128, .f32⟩
  | 19 => ⟨S_, .f32⟩
  | 20 => ⟨S4096x128, .f32⟩
  | 21 => ⟨S4096x128, .f32⟩
  | 22 => ⟨S4096x64, .f32⟩
  | 23 => ⟨S4096x64, .f32⟩
  | 24 => ⟨S4096x64, .f32⟩
  | 25 => ⟨S1x64, .f32⟩
  | 26 => ⟨S4096x64, .f32⟩
  | 27 => ⟨S4096x64, .f32⟩
  | 28 => ⟨S4096x64, .f32⟩
  | 29 => ⟨S_, .f32⟩
  | 30 => ⟨S4096x64, .f32⟩
  | 31 => ⟨S4096x64, .f32⟩
  | 32 => ⟨S4096x64, .f32⟩
  | 33 => ⟨S_, .f32⟩
  | 34 => ⟨S4096x64, .f32⟩
  | 35 => ⟨S4096x64, .i1⟩
  | 36 => ⟨S4096x64, .f32⟩
  | 37 => ⟨S_, .f32⟩
  | 38 => ⟨S4096x64, .f32⟩
  | 39 => ⟨S4096x64, .f32⟩
  | 40 => ⟨S4096x64, .f32⟩
  | 41 => ⟨S1x4096x5, .i32⟩
  | 42 => ⟨S4096x5, .i32⟩
  | 43 => ⟨S20480, .i32⟩
  | 44 => ⟨S1x20480x2, .i32⟩
  | 45 => ⟨S20480x2, .i32⟩
  | 46 => ⟨S40960, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4096x128, .f32⟩
  | 56 => ⟨S_, .i32⟩
  | 57 => ⟨S20480, .i32⟩
  | 58 => ⟨S20480, .i1⟩
  | 59 => ⟨S_, .i32⟩
  | 60 => ⟨S20480, .i32⟩
  | 61 => ⟨S20480, .i32⟩
  | 62 => ⟨S20480, .i32⟩
  | 63 => ⟨S20480x1, .i32⟩
  | 64 => ⟨S20480x128, .f32⟩
  | 65 => ⟨S_, .i32⟩
  | 66 => ⟨S40960, .i32⟩
  | 67 => ⟨S40960, .i1⟩
  | 68 => ⟨S_, .i32⟩
  | 69 => ⟨S40960, .i32⟩
  | 70 => ⟨S40960, .i32⟩
  | 71 => ⟨S40960, .i32⟩
  | 72 => ⟨S40960x1, .i32⟩
  | 73 => ⟨S40960x128, .f32⟩
  | 74 => ⟨S4096x5x128, .f32⟩
  | 75 => ⟨S20480x2x128, .f32⟩
  | 76 => ⟨S24576x128, .f32⟩
  | 77 => ⟨S_, .f32⟩
  | 78 => ⟨S4096x128, .f32⟩
  | 79 => ⟨S_, .f32⟩
  | 80 => ⟨S4096x128, .f32⟩
  | 81 => ⟨S4096x128, .f32⟩
  | 82 => ⟨S_, .f32⟩
  | 83 => ⟨S20480x128, .f32⟩
  | 84 => ⟨S_, .f32⟩
  | 85 => ⟨S20480x128, .f32⟩
  | 86 => ⟨S20480x128, .f32⟩
  | 87 => ⟨S24576x128, .f32⟩
  | 88 => ⟨S24576x128, .f32⟩
  | 89 => ⟨S24576x128, .f32⟩
  | 90 => ⟨S24576x128, .f32⟩
  | 91 => ⟨S1x128, .f32⟩
  | 92 => ⟨S24576x128, .f32⟩
  | 93 => ⟨S24576x128, .f32⟩
  | 94 => ⟨S24576x128, .f32⟩
  | 95 => ⟨S_, .f32⟩
  | 96 => ⟨S24576x128, .f32⟩
  | 97 => ⟨S24576x128, .f32⟩
  | 98 => ⟨S24576x128, .f32⟩
  | 99 => ⟨S_, .f32⟩
  | 100 => ⟨S24576x128, .f32⟩
  | 101 => ⟨S24576x128, .i1⟩
  | 102 => ⟨S24576x128, .f32⟩
  | 103 => ⟨S_, .f32⟩
  | 104 => ⟨S24576x128, .f32⟩
  | 105 => ⟨S24576x128, .f32⟩
  | 106 => ⟨S24576x128, .f32⟩
  | 107 => ⟨S4096x128, .f32⟩
  | 108 => ⟨S20480x128, .f32⟩
  | 109 => ⟨S4096x5x128, .f32⟩
  | 110 => ⟨S_, .f32⟩
  | 111 => ⟨S4096x128, .f32⟩
  | 112 => ⟨S_, .f32⟩
  | 113 => ⟨S4096x128, .f32⟩
  | 114 => ⟨S4096x128, .f32⟩
  | 115 => ⟨S4096x64, .f32⟩
  | 116 => ⟨S4096x64, .f32⟩
  | 117 => ⟨S4096x64, .f32⟩
  | 118 => ⟨S1x64, .f32⟩
  | 119 => ⟨S4096x64, .f32⟩
  | 120 => ⟨S4096x64, .f32⟩
  | 121 => ⟨S4096x64, .f32⟩
  | 122 => ⟨S_, .f32⟩
  | 123 => ⟨S4096x64, .f32⟩
  | 124 => ⟨S4096x64, .f32⟩
  | 125 => ⟨S4096x64, .f32⟩
  | 126 => ⟨S_, .f32⟩
  | 127 => ⟨S4096x64, .f32⟩
  | _ => ⟨S100000x128, .f32⟩

abbrev hbmTy0_3 (i : Nat) : BufTy := match i % 128 with
  | 0 => ⟨S4096x64, .i1⟩
  | 1 => ⟨S4096x64, .f32⟩
  | 2 => ⟨S_, .f32⟩
  | 3 => ⟨S4096x64, .f32⟩
  | 4 => ⟨S4096x64, .f32⟩
  | 5 => ⟨S4096x64, .f32⟩
  | 6 => ⟨S1x4096x5, .i32⟩
  | 7 => ⟨S4096x5, .i32⟩
  | 8 => ⟨S20480, .i32⟩
  | 9 => ⟨S1x20480x2, .i32⟩
  | 10 => ⟨S20480x2, .i32⟩
  | 11 => ⟨S40960, .i32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S4096x128, .f32⟩
  | 21 => ⟨S_, .i32⟩
  | 22 => ⟨S20480, .i32⟩
  | 23 => ⟨S20480, .i1⟩
  | 24 => ⟨S_, .i32⟩
  | 25 => ⟨S20480, .i32⟩
  | 26 => ⟨S20480, .i32⟩
  | 27 => ⟨S20480, .i32⟩
  | 28 => ⟨S20480x1, .i32⟩
  | 29 => ⟨S20480x128, .f32⟩
  | 30 => ⟨S_, .i32⟩
  | 31 => ⟨S40960, .i32⟩
  | 32 => ⟨S40960, .i1⟩
  | 33 => ⟨S_, .i32⟩
  | 34 => ⟨S40960, .i32⟩
  | 35 => ⟨S40960, .i32⟩
  | 36 => ⟨S40960, .i32⟩
  | 37 => ⟨S40960x1, .i32⟩
  | 38 => ⟨S40960x128, .f32⟩
  | 39 => ⟨S4096x5x128, .f32⟩
  | 40 => ⟨S20480x2x128, .f32⟩
  | 41 => ⟨S24576x128, .f32⟩
  | 42 => ⟨S_, .f32⟩
  | 43 => ⟨S4096x128, .f32⟩
  | 44 => ⟨S_, .f32⟩
  | 45 => ⟨S4096x128, .f32⟩
  | 46 => ⟨S4096x128, .f32⟩
  | 47 => ⟨S_, .f32⟩
  | 48 => ⟨S20480x128, .f32⟩
  | 49 => ⟨S_, .f32⟩
  | 50 => ⟨S20480x128, .f32⟩
  | 51 => ⟨S20480x128, .f32⟩
  | 52 => ⟨S24576x128, .f32⟩
  | 53 => ⟨S24576x128, .f32⟩
  | 54 => ⟨S24576x128, .f32⟩
  | 55 => ⟨S24576x128, .f32⟩
  | 56 => ⟨S1x128, .f32⟩
  | 57 => ⟨S24576x128, .f32⟩
  | 58 => ⟨S24576x128, .f32⟩
  | 59 => ⟨S24576x128, .f32⟩
  | 60 => ⟨S_, .f32⟩
  | 61 => ⟨S24576x128, .f32⟩
  | 62 => ⟨S24576x128, .f32⟩
  | 63 => ⟨S24576x128, .f32⟩
  | 64 => ⟨S_, .f32⟩
  | 65 => ⟨S24576x128, .f32⟩
  | 66 => ⟨S24576x128, .i1⟩
  | 67 => ⟨S24576x128, .f32⟩
  | 68 => ⟨S_, .f32⟩
  | 69 => ⟨S24576x128, .f32⟩
  | 70 => ⟨S24576x128, .f32⟩
  | 71 => ⟨S24576x128, .f32⟩
  | 72 => ⟨S4096x128, .f32⟩
  | 73 => ⟨S20480x128, .f32⟩
  | 74 => ⟨S4096x5x128, .f32⟩
  | 75 => ⟨S_, .f32⟩
  | 76 => ⟨S4096x128, .f32⟩
  | 77 => ⟨S_, .f32⟩
  | 78 => ⟨S4096x128, .f32⟩
  | 79 => ⟨S4096x128, .f32⟩
  | 80 => ⟨S4096x64, .f32⟩
  | 81 => ⟨S4096x64, .f32⟩
  | 82 => ⟨S4096x64, .f32⟩
  | 83 => ⟨S1x64, .f32⟩
  | 84 => ⟨S4096x64, .f32⟩
  | 85 => ⟨S4096x64, .f32⟩
  | 86 => ⟨S4096x64, .f32⟩
  | 87 => ⟨S_, .f32⟩
  | 88 => ⟨S4096x64, .f32⟩
  | 89 => ⟨S4096x64, .f32⟩
  | 90 => ⟨S4096x64, .f32⟩
  | 91 => ⟨S_, .f32⟩
  | 92 => ⟨S4096x64, .f32⟩
  | 93 => ⟨S4096x64, .i1⟩
  | 94 => ⟨S4096x64, .f32⟩
  | 95 => ⟨S_, .f32⟩
  | 96 => ⟨S4096x64, .f32⟩
  | 97 => ⟨S4096x64, .f32⟩
  | 98 => ⟨S4096x64, .f32⟩
  | 99 => ⟨S4096x1x64, .f32⟩
  | 100 => ⟨S4096x1x64, .f32⟩
  | 101 => ⟨S4096x1x64, .f32⟩
  | 102 => ⟨S4096x1x64, .f32⟩
  | 103 => ⟨S4096x1x64, .f32⟩
  | 104 => ⟨S4096x5x64, .f32⟩
  | 105 => ⟨S_, .f32⟩
  | 106 => ⟨S8, .f32⟩
  | 107 => ⟨S_, .f32⟩
  | 108 => ⟨S8, .f32⟩
  | 109 => ⟨S8, .f32⟩
  | 110 => ⟨S8x1, .f32⟩
  | 111 => ⟨S8x4, .f32⟩
  | 112 => ⟨S8x4, .f32⟩
  | 113 => ⟨S8x4, .f32⟩
  | 114 => ⟨S_, .f32⟩
  | 115 => ⟨S8, .f32⟩
  | 116 => ⟨S8x1, .f32⟩
  | 117 => ⟨S8x4, .f32⟩
  | 118 => ⟨S8x4, .f32⟩
  | 119 => ⟨S_, .f32⟩
  | 120 => ⟨S4096x5x64, .f32⟩
  | 121 => ⟨S4096x5x8x8, .f32⟩
  | 122 => ⟨S8x1, .f32⟩
  | 123 => ⟨S8, .f32⟩
  | 124 => ⟨S1x1x8x1, .f32⟩
  | 125 => ⟨S4096x5x8x8, .f32⟩
  | 126 => ⟨S4096x5x8x8, .f32⟩
  | 127 => ⟨S4096x5x64, .f32⟩
  | _ => ⟨S100000x128, .f32⟩

abbrev hbmTy0_4 (i : Nat) : BufTy := match i % 128 with
  | 0 => ⟨S4096x5x64, .f32⟩
  | 1 => ⟨S_, .i32⟩
  | 2 => ⟨S_, .f32⟩
  | 3 => ⟨S4096x6x64, .f32⟩
  | 4 => ⟨S4096x5x64, .f32⟩
  | 5 => ⟨S4096x5x8x8, .f32⟩
  | 6 => ⟨S8x1, .f32⟩
  | 7 => ⟨S8, .f32⟩
  | 8 => ⟨S1x1x8x1, .f32⟩
  | 9 => ⟨S4096x5x8x8, .f32⟩
  | 10 => ⟨S4096x5x8x8, .f32⟩
  | 11 => ⟨S4096x5x64, .f32⟩
  | 12 => ⟨S4096x5x64, .f32⟩
  | 13 => ⟨S_, .i32⟩
  | 14 => ⟨S_, .f32⟩
  | 15 => ⟨S4096x8x64, .f32⟩
  | 16 => ⟨S4096x5x64, .f32⟩
  | 17 => ⟨S4096x5x8x8, .f32⟩
  | 18 => ⟨S8x1, .f32⟩
  | 19 => ⟨S8, .f32⟩
  | 20 => ⟨S1x1x8x1, .f32⟩
  | 21 => ⟨S4096x5x8x8, .f32⟩
  | 22 => ⟨S4096x5x8x8, .f32⟩
  | 23 => ⟨S4096x5x64, .f32⟩
  | 24 => ⟨S4096x5x64, .f32⟩
  | 25 => ⟨S_, .i32⟩
  | 26 => ⟨S_, .f32⟩
  | 27 => ⟨S4096x10x64, .f32⟩
  | 28 => ⟨S4096x5x64, .f32⟩
  | 29 => ⟨S4096x5x8x8, .f32⟩
  | 30 => ⟨S8x1, .f32⟩
  | 31 => ⟨S8, .f32⟩
  | 32 => ⟨S1x1x8x1, .f32⟩
  | 33 => ⟨S4096x5x8x8, .f32⟩
  | 34 => ⟨S4096x5x8x8, .f32⟩
  | 35 => ⟨S4096x5x64, .f32⟩
  | 36 => ⟨S4096x5x64, .f32⟩
  | 37 => ⟨S_, .i32⟩
  | 38 => ⟨S_, .f32⟩
  | 39 => ⟨S4096x9x64, .f32⟩
  | 40 => ⟨S_, .f32⟩
  | 41 => ⟨S4096x5x64, .f32⟩
  | 42 => ⟨S4096x5x64, .f32⟩
  | 43 => ⟨S64x1, .f32⟩
  | 44 => ⟨S64, .f32⟩
  | 45 => ⟨S1x1x64, .f32⟩
  | 46 => ⟨S4096x5x64, .f32⟩
  | 47 => ⟨S4096x5x64, .f32⟩
  | 48 => ⟨S4096x5x64, .f32⟩
  | 49 => ⟨S4096x5x64, .f32⟩
  | 50 => ⟨S64x1, .f32⟩
  | 51 => ⟨S64, .f32⟩
  | 52 => ⟨S1x1x64, .f32⟩
  | 53 => ⟨S4096x5x64, .f32⟩
  | 54 => ⟨S4096x5x64, .f32⟩
  | 55 => ⟨S4096x5x64, .f32⟩
  | 56 => ⟨S4096x5x64, .f32⟩
  | 57 => ⟨S64x1, .f32⟩
  | 58 => ⟨S64, .f32⟩
  | 59 => ⟨S1x1x64, .f32⟩
  | 60 => ⟨S4096x5x64, .f32⟩
  | 61 => ⟨S4096x5x64, .f32⟩
  | 62 => ⟨S4096x5x64, .f32⟩
  | 63 => ⟨S4096x5x64, .f32⟩
  | 64 => ⟨S64x1, .f32⟩
  | 65 => ⟨S64, .f32⟩
  | 66 => ⟨S1x1x64, .f32⟩
  | 67 => ⟨S4096x5x64, .f32⟩
  | 68 => ⟨S4096x5x64, .f32⟩
  | 69 => ⟨S4096x5x64, .f32⟩
  | 70 => ⟨S4096x5x64, .f32⟩
  | 71 => ⟨S64x1, .f32⟩
  | 72 => ⟨S64, .f32⟩
  | 73 => ⟨S1x1x64, .f32⟩
  | 74 => ⟨S4096x5x64, .f32⟩
  | 75 => ⟨S4096x5x64, .f32⟩
  | 76 => ⟨S4096x5x64, .f32⟩
  | 77 => ⟨S_, .f32⟩
  | 78 => ⟨S4096x64, .f32⟩
  | 79 => ⟨S_, .f32⟩
  | 80 => ⟨S4096x64, .f32⟩
  | 81 => ⟨S4096x64, .f32⟩
  | 82 => ⟨S4096x64, .f32⟩
  | 83 => ⟨S1x64, .f32⟩
  | 84 => ⟨S4096x64, .f32⟩
  | 85 => ⟨S4096x64, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_cst_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_17 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_18 : Ref sig .tc := ⟨.hbm, 117, rfl⟩
abbrev main_v83 : Ref sig .tc := ⟨.hbm, 118, rfl⟩
abbrev main_v84 : Ref sig .tc := ⟨.hbm, 119, rfl⟩
abbrev main_c_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_20 : Ref sig .tc := ⟨.hbm, 126, rfl⟩
abbrev main_v90 : Ref sig .tc := ⟨.hbm, 127, rfl⟩
abbrev main_v91 : Ref sig .tc := ⟨.hbm, 128, rfl⟩
abbrev main_c_21 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_22 : Ref sig .tc := ⟨.hbm, 135, rfl⟩
abbrev main_v97 : Ref sig .tc := ⟨.hbm, 136, rfl⟩
abbrev main_v98 : Ref sig .tc := ⟨.hbm, 137, rfl⟩
abbrev main_c_23 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_24 : Ref sig .tc := ⟨.hbm, 147, rfl⟩
abbrev main_v107 : Ref sig .tc := ⟨.hbm, 148, rfl⟩
abbrev main_cst_25 : Ref sig .tc := ⟨.hbm, 149, rfl⟩
abbrev main_v108 : Ref sig .tc := ⟨.hbm, 150, rfl⟩
abbrev main_v109 : Ref sig .tc := ⟨.hbm, 151, rfl⟩
abbrev main_cst_26 : Ref sig .tc := ⟨.hbm, 152, rfl⟩
abbrev main_v110 : Ref sig .tc := ⟨.hbm, 153, rfl⟩
abbrev main_cst_27 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_28 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_29 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_30 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_31 : Ref sig .tc := ⟨.hbm, 180, rfl⟩
abbrev main_v133 : Ref sig .tc := ⟨.hbm, 181, rfl⟩
abbrev main_cst_32 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_33 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_34 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_35 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_36 : Ref sig .tc := ⟨.hbm, 210, rfl⟩
abbrev main_v158 : Ref sig .tc := ⟨.hbm, 211, rfl⟩
abbrev main_v159 : Ref sig .tc := ⟨.hbm, 212, rfl⟩
abbrev main_c_37 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_c_38 : Ref sig .tc := ⟨.hbm, 219, rfl⟩
abbrev main_v165 : Ref sig .tc := ⟨.hbm, 220, rfl⟩
abbrev main_v166 : Ref sig .tc := ⟨.hbm, 221, rfl⟩
abbrev main_c_39 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_c_40 : Ref sig .tc := ⟨.hbm, 228, rfl⟩
abbrev main_v172 : Ref sig .tc := ⟨.hbm, 229, rfl⟩
abbrev main_v173 : Ref sig .tc := ⟨.hbm, 230, rfl⟩
abbrev main_c_41 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_cst_42 : Ref sig .tc := ⟨.hbm, 240, rfl⟩
abbrev main_v182 : Ref sig .tc := ⟨.hbm, 241, rfl⟩
abbrev main_cst_43 : Ref sig .tc := ⟨.hbm, 242, rfl⟩
abbrev main_v183 : Ref sig .tc := ⟨.hbm, 243, rfl⟩
abbrev main_v184 : Ref sig .tc := ⟨.hbm, 244, rfl⟩
abbrev main_cst_44 : Ref sig .tc := ⟨.hbm, 245, rfl⟩
abbrev main_v185 : Ref sig .tc := ⟨.hbm, 246, rfl⟩
abbrev main_cst_45 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_cst_46 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_cst_47 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_cst_48 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_cst_49 : Ref sig .tc := ⟨.hbm, 273, rfl⟩
abbrev main_v208 : Ref sig .tc := ⟨.hbm, 274, rfl⟩
abbrev main_cst_50 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_cst_51 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_cst_52 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_cst_53 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_c_54 : Ref sig .tc := ⟨.hbm, 303, rfl⟩
abbrev main_v233 : Ref sig .tc := ⟨.hbm, 304, rfl⟩
abbrev main_v234 : Ref sig .tc := ⟨.hbm, 305, rfl⟩
abbrev main_c_55 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_c_56 : Ref sig .tc := ⟨.hbm, 312, rfl⟩
abbrev main_v240 : Ref sig .tc := ⟨.hbm, 313, rfl⟩
abbrev main_v241 : Ref sig .tc := ⟨.hbm, 314, rfl⟩
abbrev main_c_57 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_c_58 : Ref sig .tc := ⟨.hbm, 321, rfl⟩
abbrev main_v247 : Ref sig .tc := ⟨.hbm, 322, rfl⟩
abbrev main_v248 : Ref sig .tc := ⟨.hbm, 323, rfl⟩
abbrev main_c_59 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_cst_60 : Ref sig .tc := ⟨.hbm, 333, rfl⟩
abbrev main_v257 : Ref sig .tc := ⟨.hbm, 334, rfl⟩
abbrev main_cst_61 : Ref sig .tc := ⟨.hbm, 335, rfl⟩
abbrev main_v258 : Ref sig .tc := ⟨.hbm, 336, rfl⟩
abbrev main_v259 : Ref sig .tc := ⟨.hbm, 337, rfl⟩
abbrev main_cst_62 : Ref sig .tc := ⟨.hbm, 338, rfl⟩
abbrev main_v260 : Ref sig .tc := ⟨.hbm, 339, rfl⟩
abbrev main_cst_63 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_cst_64 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_cst_65 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_cst_66 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_cst_67 : Ref sig .tc := ⟨.hbm, 366, rfl⟩
abbrev main_v283 : Ref sig .tc := ⟨.hbm, 367, rfl⟩
abbrev main_cst_68 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_cst_69 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_cst_70 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_cst_71 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_v306 : Ref sig .tc := ⟨.hbm, 394, rfl⟩
abbrev main_v307 : Ref sig .tc := ⟨.hbm, 395, rfl⟩
abbrev main_c_72 : Ref sig .tc := ⟨.hbm, 396, rfl⟩
abbrev main_v308 : Ref sig .tc := ⟨.hbm, 397, rfl⟩
abbrev main_v309 : Ref sig .tc := ⟨.hbm, 398, rfl⟩
abbrev main_c_73 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_c_74 : Ref sig .tc := ⟨.hbm, 405, rfl⟩
abbrev main_v315 : Ref sig .tc := ⟨.hbm, 406, rfl⟩
abbrev main_v316 : Ref sig .tc := ⟨.hbm, 407, rfl⟩
abbrev main_c_75 : Ref sig .tc := ⟨.hbm, 408, rfl⟩
abbrev main_v317 : Ref sig .tc := ⟨.hbm, 409, rfl⟩
abbrev main_v318 : Ref sig .tc := ⟨.hbm, 410, rfl⟩
abbrev main_v319 : Ref sig .tc := ⟨.hbm, 411, rfl⟩
abbrev main_v320 : Ref sig .tc := ⟨.hbm, 412, rfl⟩
abbrev main_v321 : Ref sig .tc := ⟨.hbm, 413, rfl⟩
abbrev main_c_76 : Ref sig .tc := ⟨.hbm, 414, rfl⟩
abbrev main_v322 : Ref sig .tc := ⟨.hbm, 415, rfl⟩
abbrev main_v323 : Ref sig .tc := ⟨.hbm, 416, rfl⟩
abbrev main_c_77 : Ref sig .tc := ⟨.hbm, 417, rfl⟩
abbrev main_v324 : Ref sig .tc := ⟨.hbm, 418, rfl⟩
abbrev main_v325 : Ref sig .tc := ⟨.hbm, 419, rfl⟩
abbrev main_v326 : Ref sig .tc := ⟨.hbm, 420, rfl⟩
abbrev main_v327 : Ref sig .tc := ⟨.hbm, 421, rfl⟩
abbrev main_v328 : Ref sig .tc := ⟨.hbm, 422, rfl⟩
abbrev main_v329 : Ref sig .tc := ⟨.hbm, 423, rfl⟩
abbrev main_v330 : Ref sig .tc := ⟨.hbm, 424, rfl⟩
abbrev main_v331 : Ref sig .tc := ⟨.hbm, 425, rfl⟩
abbrev main_cst_78 : Ref sig .tc := ⟨.hbm, 426, rfl⟩
abbrev main_v332 : Ref sig .tc := ⟨.hbm, 427, rfl⟩
abbrev main_cst_79 : Ref sig .tc := ⟨.hbm, 428, rfl⟩
abbrev main_v333 : Ref sig .tc := ⟨.hbm, 429, rfl⟩
abbrev main_v334 : Ref sig .tc := ⟨.hbm, 430, rfl⟩
abbrev main_cst_80 : Ref sig .tc := ⟨.hbm, 431, rfl⟩
abbrev main_v335 : Ref sig .tc := ⟨.hbm, 432, rfl⟩
abbrev main_cst_81 : Ref sig .tc := ⟨.hbm, 433, rfl⟩
abbrev main_v336 : Ref sig .tc := ⟨.hbm, 434, rfl⟩
abbrev main_v337 : Ref sig .tc := ⟨.hbm, 435, rfl⟩
abbrev main_v338 : Ref sig .tc := ⟨.hbm, 436, rfl⟩
abbrev main_v339 : Ref sig .tc := ⟨.hbm, 437, rfl⟩
abbrev main_v340 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_cst_82 : Ref sig .tc := ⟨.hbm, 444, rfl⟩
abbrev main_v346 : Ref sig .tc := ⟨.hbm, 445, rfl⟩
abbrev main_v347 : Ref sig .tc := ⟨.hbm, 446, rfl⟩
abbrev main_v348 : Ref sig .tc := ⟨.hbm, 447, rfl⟩
abbrev main_cst_83 : Ref sig .tc := ⟨.hbm, 448, rfl⟩
abbrev main_v349 : Ref sig .tc := ⟨.hbm, 449, rfl⟩
abbrev main_v350 : Ref sig .tc := ⟨.hbm, 450, rfl⟩
abbrev main_v351 : Ref sig .tc := ⟨.hbm, 451, rfl⟩
abbrev main_cst_84 : Ref sig .tc := ⟨.hbm, 452, rfl⟩
abbrev main_v352 : Ref sig .tc := ⟨.hbm, 453, rfl⟩
abbrev main_v353 : Ref sig .tc := ⟨.hbm, 454, rfl⟩
abbrev main_v354 : Ref sig .tc := ⟨.hbm, 455, rfl⟩
abbrev main_v355 : Ref sig .tc := ⟨.hbm, 456, rfl⟩
abbrev main_v356 : Ref sig .tc := ⟨.hbm, 457, rfl⟩
abbrev main_v357 : Ref sig .tc := ⟨.hbm, 458, rfl⟩
abbrev main_cst_85 : Ref sig .tc := ⟨.hbm, 459, rfl⟩
abbrev main_v358 : Ref sig .tc := ⟨.hbm, 460, rfl⟩
abbrev main_cst_86 : Ref sig .tc := ⟨.hbm, 461, rfl⟩
abbrev main_v359 : Ref sig .tc := ⟨.hbm, 462, rfl⟩
abbrev main_v360 : Ref sig .tc := ⟨.hbm, 463, rfl⟩
abbrev main_v361 : Ref sig .tc := ⟨.hbm, 464, rfl⟩
abbrev main_v362 : Ref sig .tc := ⟨.hbm, 465, rfl⟩
abbrev main_v363 : Ref sig .tc := ⟨.hbm, 466, rfl⟩
abbrev main_v364 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_cst_87 : Ref sig .tc := ⟨.hbm, 471, rfl⟩
abbrev main_v368 : Ref sig .tc := ⟨.hbm, 472, rfl⟩
abbrev main_v369 : Ref sig .tc := ⟨.hbm, 473, rfl⟩
abbrev main_v370 : Ref sig .tc := ⟨.hbm, 474, rfl⟩
abbrev main_cst_88 : Ref sig .tc := ⟨.hbm, 475, rfl⟩
abbrev main_v371 : Ref sig .tc := ⟨.hbm, 476, rfl⟩
abbrev main_v372 : Ref sig .tc := ⟨.hbm, 477, rfl⟩
abbrev main_v373 : Ref sig .tc := ⟨.hbm, 478, rfl⟩
abbrev main_cst_89 : Ref sig .tc := ⟨.hbm, 479, rfl⟩
abbrev main_v374 : Ref sig .tc := ⟨.hbm, 480, rfl⟩
abbrev main_v375 : Ref sig .tc := ⟨.hbm, 481, rfl⟩
abbrev main_v376 : Ref sig .tc := ⟨.hbm, 482, rfl⟩
abbrev main_v377 : Ref sig .tc := ⟨.hbm, 483, rfl⟩
abbrev main_v378 : Ref sig .tc := ⟨.hbm, 484, rfl⟩
abbrev main_v379 : Ref sig .tc := ⟨.hbm, 485, rfl⟩
abbrev main_v380 : Ref sig .tc := ⟨.hbm, 486, rfl⟩
abbrev main_v381 : Ref sig .tc := ⟨.hbm, 487, rfl⟩
abbrev main_v382 : Ref sig .tc := ⟨.hbm, 488, rfl⟩
abbrev main_cst_90 : Ref sig .tc := ⟨.hbm, 489, rfl⟩
abbrev main_v383 : Ref sig .tc := ⟨.hbm, 490, rfl⟩
abbrev main_cst_91 : Ref sig .tc := ⟨.hbm, 491, rfl⟩
abbrev main_v384 : Ref sig .tc := ⟨.hbm, 492, rfl⟩
abbrev main_v385 : Ref sig .tc := ⟨.hbm, 493, rfl⟩
abbrev main_v386 : Ref sig .tc := ⟨.hbm, 494, rfl⟩
abbrev main_v387 : Ref sig .tc := ⟨.hbm, 495, rfl⟩
abbrev main_v388 : Ref sig .tc := ⟨.hbm, 496, rfl⟩
abbrev main_v389 : Ref sig .tc := ⟨.hbm, 497, rfl⟩
abbrev main_cst_92 : Ref sig .tc := ⟨.hbm, 498, rfl⟩
abbrev main_v390 : Ref sig .tc := ⟨.hbm, 499, rfl⟩
abbrev main_v391 : Ref sig .tc := ⟨.hbm, 500, rfl⟩
abbrev main_v392 : Ref sig .tc := ⟨.hbm, 501, rfl⟩
abbrev main_v393 : Ref sig .tc := ⟨.hbm, 502, rfl⟩
abbrev main_cst_93 : Ref sig .tc := ⟨.hbm, 503, rfl⟩
abbrev main_v394 : Ref sig .tc := ⟨.hbm, 504, rfl⟩
abbrev main_v395 : Ref sig .tc := ⟨.hbm, 505, rfl⟩
abbrev main_v396 : Ref sig .tc := ⟨.hbm, 506, rfl⟩
abbrev main_v397 : Ref sig .tc := ⟨.hbm, 507, rfl⟩
abbrev main_v398 : Ref sig .tc := ⟨.hbm, 508, rfl⟩
abbrev main_v399 : Ref sig .tc := ⟨.hbm, 509, rfl⟩
abbrev main_v400 : Ref sig .tc := ⟨.hbm, 510, rfl⟩
abbrev main_v401 : Ref sig .tc := ⟨.hbm, 511, rfl⟩
abbrev main_v402 : Ref sig .tc := ⟨.hbm, 512, rfl⟩
abbrev main_c_94 : Ref sig .tc := ⟨.hbm, 513, rfl⟩
abbrev main_call0_v0 : Ref sig .tc := ⟨.hbm, 514, rfl⟩
abbrev main_v403 : Ref sig .tc := ⟨.hbm, 515, rfl⟩
abbrev main_v404 : Ref sig .tc := ⟨.hbm, 516, rfl⟩
abbrev main_v405 : Ref sig .tc := ⟨.hbm, 517, rfl⟩
abbrev main_v406 : Ref sig .tc := ⟨.hbm, 518, rfl⟩
abbrev main_v407 : Ref sig .tc := ⟨.hbm, 519, rfl⟩
abbrev main_v408 : Ref sig .tc := ⟨.hbm, 520, rfl⟩
abbrev main_v409 : Ref sig .tc := ⟨.hbm, 521, rfl⟩
abbrev main_v410 : Ref sig .tc := ⟨.hbm, 522, rfl⟩
abbrev main_v411 : Ref sig .tc := ⟨.hbm, 523, rfl⟩
abbrev main_v412 : Ref sig .tc := ⟨.hbm, 524, rfl⟩
abbrev main_c_95 : Ref sig .tc := ⟨.hbm, 525, rfl⟩
abbrev main_call1_v0 : Ref sig .tc := ⟨.hbm, 526, rfl⟩
abbrev main_v413 : Ref sig .tc := ⟨.hbm, 527, rfl⟩
abbrev main_v414 : Ref sig .tc := ⟨.hbm, 528, rfl⟩
abbrev main_v415 : Ref sig .tc := ⟨.hbm, 529, rfl⟩
abbrev main_v416 : Ref sig .tc := ⟨.hbm, 530, rfl⟩
abbrev main_v417 : Ref sig .tc := ⟨.hbm, 531, rfl⟩
abbrev main_v418 : Ref sig .tc := ⟨.hbm, 532, rfl⟩
abbrev main_v419 : Ref sig .tc := ⟨.hbm, 533, rfl⟩
abbrev main_v420 : Ref sig .tc := ⟨.hbm, 534, rfl⟩
abbrev main_v421 : Ref sig .tc := ⟨.hbm, 535, rfl⟩
abbrev main_v422 : Ref sig .tc := ⟨.hbm, 536, rfl⟩
abbrev main_c_96 : Ref sig .tc := ⟨.hbm, 537, rfl⟩
abbrev main_call2_v0 : Ref sig .tc := ⟨.hbm, 538, rfl⟩
abbrev main_v423 : Ref sig .tc := ⟨.hbm, 539, rfl⟩
abbrev main_v424 : Ref sig .tc := ⟨.hbm, 540, rfl⟩
abbrev main_v425 : Ref sig .tc := ⟨.hbm, 541, rfl⟩
abbrev main_v426 : Ref sig .tc := ⟨.hbm, 542, rfl⟩
abbrev main_v427 : Ref sig .tc := ⟨.hbm, 543, rfl⟩
abbrev main_v428 : Ref sig .tc := ⟨.hbm, 544, rfl⟩
abbrev main_v429 : Ref sig .tc := ⟨.hbm, 545, rfl⟩
abbrev main_v430 : Ref sig .tc := ⟨.hbm, 546, rfl⟩
abbrev main_v431 : Ref sig .tc := ⟨.hbm, 547, rfl⟩
abbrev main_v432 : Ref sig .tc := ⟨.hbm, 548, rfl⟩
abbrev main_c_97 : Ref sig .tc := ⟨.hbm, 549, rfl⟩
abbrev main_call3_v0 : Ref sig .tc := ⟨.hbm, 550, rfl⟩
abbrev main_v433 : Ref sig .tc := ⟨.hbm, 551, rfl⟩
abbrev main_cst_98 : Ref sig .tc := ⟨.hbm, 552, rfl⟩
abbrev main_v434 : Ref sig .tc := ⟨.hbm, 553, rfl⟩
abbrev main_v435 : Ref sig .tc := ⟨.hbm, 554, rfl⟩
abbrev main_v436 : Ref sig .tc := ⟨.hbm, 555, rfl⟩
abbrev main_v437 : Ref sig .tc := ⟨.hbm, 556, rfl⟩
abbrev main_v438 : Ref sig .tc := ⟨.hbm, 557, rfl⟩
abbrev main_v439 : Ref sig .tc := ⟨.hbm, 558, rfl⟩
abbrev main_v440 : Ref sig .tc := ⟨.hbm, 559, rfl⟩
abbrev main_v441 : Ref sig .tc := ⟨.hbm, 560, rfl⟩
abbrev main_v442 : Ref sig .tc := ⟨.hbm, 561, rfl⟩
abbrev main_v443 : Ref sig .tc := ⟨.hbm, 562, rfl⟩
abbrev main_v444 : Ref sig .tc := ⟨.hbm, 563, rfl⟩
abbrev main_v445 : Ref sig .tc := ⟨.hbm, 564, rfl⟩
abbrev main_v446 : Ref sig .tc := ⟨.hbm, 565, rfl⟩
abbrev main_v447 : Ref sig .tc := ⟨.hbm, 566, rfl⟩
abbrev main_v448 : Ref sig .tc := ⟨.hbm, 567, rfl⟩
abbrev main_v449 : Ref sig .tc := ⟨.hbm, 568, rfl⟩
abbrev main_v450 : Ref sig .tc := ⟨.hbm, 569, rfl⟩
abbrev main_v451 : Ref sig .tc := ⟨.hbm, 570, rfl⟩
abbrev main_v452 : Ref sig .tc := ⟨.hbm, 571, rfl⟩
abbrev main_v453 : Ref sig .tc := ⟨.hbm, 572, rfl⟩
abbrev main_v454 : Ref sig .tc := ⟨.hbm, 573, rfl⟩
abbrev main_v455 : Ref sig .tc := ⟨.hbm, 574, rfl⟩
abbrev main_v456 : Ref sig .tc := ⟨.hbm, 575, rfl⟩
abbrev main_v457 : Ref sig .tc := ⟨.hbm, 576, rfl⟩
abbrev main_v458 : Ref sig .tc := ⟨.hbm, 577, rfl⟩
abbrev main_v459 : Ref sig .tc := ⟨.hbm, 578, rfl⟩
abbrev main_v460 : Ref sig .tc := ⟨.hbm, 579, rfl⟩
abbrev main_v461 : Ref sig .tc := ⟨.hbm, 580, rfl⟩
abbrev main_v462 : Ref sig .tc := ⟨.hbm, 581, rfl⟩
abbrev main_v463 : Ref sig .tc := ⟨.hbm, 582, rfl⟩
abbrev main_v464 : Ref sig .tc := ⟨.hbm, 583, rfl⟩
abbrev main_v465 : Ref sig .tc := ⟨.hbm, 584, rfl⟩
abbrev main_v466 : Ref sig .tc := ⟨.hbm, 585, rfl⟩
abbrev main_v467 : Ref sig .tc := ⟨.hbm, 586, rfl⟩
abbrev main_v468 : Ref sig .tc := ⟨.hbm, 587, rfl⟩
abbrev main_v469 : Ref sig .tc := ⟨.hbm, 588, rfl⟩
abbrev main_cst_99 : Ref sig .tc := ⟨.hbm, 589, rfl⟩
abbrev main_v470 : Ref sig .tc := ⟨.hbm, 590, rfl⟩
abbrev main_cst_100 : Ref sig .tc := ⟨.hbm, 591, rfl⟩
abbrev main_v471 : Ref sig .tc := ⟨.hbm, 592, rfl⟩
abbrev main_v472 : Ref sig .tc := ⟨.hbm, 593, rfl⟩
abbrev main_v473 : Ref sig .tc := ⟨.hbm, 594, rfl⟩
abbrev main_v474 : Ref sig .tc := ⟨.hbm, 595, rfl⟩
abbrev main_v475 : Ref sig .tc := ⟨.hbm, 596, rfl⟩
abbrev main_v476 : Ref sig .tc := ⟨.hbm, 597, rfl⟩

abbrev nD : Nat := 1
abbrev τ : Topo := Topo.v7x

variable {F : FTy → Type} [FloatOps F]
-- ==== Proof.PreFacts.lean ====
/-
  What the precondition says, element by element.
-/
module

public import proofs.«01_k».proof.Defs
public import proofs.«01_k».proof.Proof.Gen.Pre_pre_idx
public import Idealize.ShloMosaic.Lib.ReduceAll

@[expose] public section

noncomputable section

namespace Cert.Proof.Pre

open Cert.Pre_pre_idx Cert.Pre_pre_idx.Gen

open Idealize.ShloMosaic

variable {F : FTy → Type} [FloatOps F]

/-- Below infinity in magnitude, as the precondition asks. -/
def Bounded {s : Shape} (x : FVec F s .f32) : Prop :=
  ∀ i, FloatOps.cmpf (F := F) .olt (FloatOps.hostAbsf (x i)) (FloatOps.ofBits .f32 0x7F800000#32) = 1#1

theorem andi_one (x y : BitVec 1) : IntOp.andi x y = 1#1 → x = 1#1 ∧ y = 1#1 := by revert x y; decide

/-- A word between 0 and 100000 as a signed number is its own value. -/
theorem word_lt (v : BitVec 32) (e : IntOp.andi (IntOp.cmpi .sge v 0#32) (IntOp.cmpi .slt v 100000#32) = 1#1) : v.toNat < 100000 := by
  have h := andi_one _ _ e
  have h1 : 0 ≤ v.toInt := by simpa using IntOp.cmpi_sge.1 h.1
  have h2 : v.toInt < 100000 := by simpa using IntOp.cmpi_slt.1 h.2
  rw [BitVec.toInt_eq_toNat_cond] at h1 h2
  split at h1 <;> omega

theorem facts_of (x : FVec F S100000x128 .f32) (n : IVec S4096 32) (h1 : IVec S5x4096x5 32) (h2 : IVec S5x20480x2 32) (wl0 wr0 : FVec F S128x128 .f32)
    (b0 : FVec F S128 .f32) (wl1 wr1 : FVec F S128x64 .f32) (b1 : FVec F S64 .f32) (dw : FVec F S8x4 .f32) (kd : FVec F S64x5 .f32) (wp : FVec F S64x64 .f32)
    (bp : FVec F S64 .f32) (h : Cert.Pre_pre_idx.fn x n h1 h2 wl0 wr0 b0 wl1 wr1 b1 dw kd wp bp = fun _ => 1#1) :
    ((∀ i, (n i).toNat < 100000) ∧ (∀ i, (h1 i).toNat < 100000) ∧ (∀ i, (h2 i).toNat < 100000)) ∧
      Bounded x ∧ Bounded wl0 ∧ Bounded wr0 ∧ Bounded b0 ∧ Bounded wl1 ∧ Bounded wr1 ∧ Bounded b1 ∧ Bounded dw := by
  have e := congrFun h (fun a => a.elim0)
  unfold Cert.Pre_pre_idx.fn Cert.Pre_pre_idx.fn_part1 Cert.Pre_pre_idx.fn_part2 Cert.Pre_pre_idx.fn_part3 at e
  obtain ⟨e, e10⟩ := andi_one _ _ e
  obtain ⟨e, e9⟩ := andi_one _ _ e
  obtain ⟨e, e8⟩ := andi_one _ _ e
  obtain ⟨e, e7⟩ := andi_one _ _ e
  obtain ⟨e, e6⟩ := andi_one _ _ e
  obtain ⟨e, e5⟩ := andi_one _ _ e
  obtain ⟨e, e4⟩ := andi_one _ _ e
  obtain ⟨e, e0⟩ := andi_one _ _ e
  obtain ⟨e, e3⟩ := andi_one _ _ e
  obtain ⟨e1, e2⟩ := andi_one _ _ e
  haveI : Subsingleton S_.Idx := ⟨fun a b => funext fun i => i.elim0⟩
  have fin {s : Shape} {axes : List (Fin s.rank)} (y : FVec F s .f32) (hb) (hr : s.ReducesTo axes S_) (hu) (j : S_.Idx)
      (e : Host.reduce IntOp.andi (cmpf .olt (Host.absf y) (broadcastInDim s ![] hb (constant S_ .f32 0x7F800000#32))) (constantI S_ 1 1#1) hr hu j = 1#1) :
      Bounded y := fun i => by
    exact Host.reduce_andi_all _ _ _ _ j e i
  refine ⟨⟨fun i => word_lt _ (Host.reduce_andi_all _ _ _ _ _ e1 i), fun i => word_lt _ (Host.reduce_andi_all _ _ _ _ _ e2 i),
    fun i => word_lt _ (Host.reduce_andi_all _ _ _ _ _ e3 i)⟩, fin _ _ _ _ _ e0, fin _ _ _ _ _ e4, fin _ _ _ _ _ e5, fin _ _ _ _ _ e6, fin _ _ _ _ _ e7,
    fin _ _ _ _ _ e8, fin _ _ _ _ _ e9, fin _ _ _ _ _ e10⟩

/-- A number below infinity in magnitude is a real number. -/
theorem Bounded.real {s : Shape} {x : FVec Ideal s .f32} (h : Bounded x) (i : s.Idx) : ∃ r : ℝ, x i = (r : EReal) := by
  have := h i
  change Ideal.cmp .olt (max (x i) (-(x i))) (Ideal.ofBits .f32 0x7F800000#32) = 1#1 at this
  rw [show Ideal.ofBits .f32 0x7F800000#32 = ⊤ by simp [Ideal.ofBits, Ideal.ieee]] at this
  generalize x i = a at this
  induction a using EReal.rec with
  | bot => exact absurd this (by simp [Ideal.cmp])
  | top => exact absurd this (by simp [Ideal.cmp])
  | coe r => exact ⟨r, rfl⟩

end Cert.Proof.Pre
-- ==== Proof.PreRows.lean ====
/-
  What the frames' precondition says: every index names a row.
-/
module

public import proofs.«01_k».proof.Proof.PreFacts

@[expose] public section

noncomputable section

namespace Cert.Proof.Pre

open Cert.Pre_pre_rows

open Idealize.ShloMosaic

variable {F : FTy → Type} [FloatOps F]

/-- The shape relations the precondition takes. -/
instance rows_facts : Cert.Pre_pre_rows.Facts where
  bcast_S_S4096 := by decide
  reducesTo_S4096_S_d0 := by decide
  h_S_ := by decide
  bcast_S_S5x4096x5 := by decide
  reducesTo_S5x4096x5_S_d0_1_2 := by decide
  bcast_S_S5x20480x2 := by decide
  reducesTo_S5x20480x2_S_d0_1_2 := by decide

theorem rows_of (x : FVec F S100000x128 .f32) (n : IVec S4096 32) (h1 : IVec S5x4096x5 32) (h2 : IVec S5x20480x2 32) (wl0 wr0 : FVec F S128x128 .f32)
    (b0 : FVec F S128 .f32) (wl1 wr1 : FVec F S128x64 .f32) (b1 : FVec F S64 .f32) (dw : FVec F S8x4 .f32) (kd : FVec F S64x5 .f32) (wp : FVec F S64x64 .f32)
    (bp : FVec F S64 .f32) (h : Cert.Pre_pre_rows.fn x n h1 h2 wl0 wr0 b0 wl1 wr1 b1 dw kd wp bp = fun _ => 1#1) :
    (∀ i, (n i).toNat < 100000) ∧ (∀ i, (h1 i).toNat < 100000) ∧ (∀ i, (h2 i).toNat < 100000) := by
  have e := congrFun h (fun a => a.elim0)
  unfold Cert.Pre_pre_rows.fn Cert.Pre_pre_rows.fn_part1 at e
  obtain ⟨e, e3⟩ := andi_one _ _ e
  obtain ⟨e1, e2⟩ := andi_one _ _ e
  haveI : Subsingleton S_.Idx := ⟨fun a b => funext fun i => i.elim0⟩
  exact ⟨fun i => word_lt _ (Host.reduce_andi_all _ _ _ _ _ e1 i), fun i => word_lt _ (Host.reduce_andi_all _ _ _ _ _ e2 i),
    fun i => word_lt _ (Host.reduce_andi_all _ _ _ _ _ e3 i)⟩

end Cert.Proof.Pre
-- ==== Proof.TileProg.lean ====
/-
  The SparseCore task of the kernel, written as a composition of a few fragments: a row gather issued behind the fetch
  of its 128 row numbers, the wait for a gather, a write-out, the addition of two row buffers, and the two passes
  over a chunk (`issue`, `drain`) built of them. `cc0__sc_body_eq` says that the printed task is this composition.
-/
module

public import proofs.«01_k».proof.Defs
public import proofs.«01_k».proof.Proof.Gen.KernelIdeal

@[expose] public section

noncomputable section

namespace Cert.Proof.Tile

open Cert.KernelIdeal Cert.KernelIdeal.Gen

open Idealize.ShloMosaic
open Idealize.SL.Sem

variable {F : FTy → Type} [FloatOps F]

abbrev TP (F : FTy → Type) (i : grid0.Coords) (α : Type) :=
  Prog (TpuEff nD τ sig (Elt F) Λ₀ (.scVector ((i 0).castLE hcore0) ((i 1).castLE hsub0))) α

abbrev xM : Memref sig .scVector .hbm S100000x128 .f32 := Memref.whole main_arg0_scv
abbrev nodesM : Memref sig .scVector .hbm S4096 .i32 := Memref.whole main_arg1_scv
abbrev h0M : Memref sig .scVector .hbm S4096x128 .f32 := Memref.whole main_v9_0_scv

/-- All of `x`, as a gather names its source. -/
abbrev xAll : Memref sig .scVector .hbm S100000x128 .f32 :=
  xM.slice (Rect.unit (s := S100000x128) ![0, 0] S100000x128.size inb_S100000x128_S100000x128_0_0) (fun _ => rfl)

/-- The three gathers of a chunk: the first hop's rows, and the even and the odd rows of the second hop. -/
inductive Role | h | e | o
deriving DecidableEq

instance : Fintype Role := ⟨{.h, .e, .o}, by intro r; cases r <;> decide⟩

/-- The row numbers of each gather, in HBM. -/
def srcM : Role → Memref sig .scVector .hbm S102400 .i32
  | .h => Memref.whole main_v1_scv
  | .e => Memref.whole main_v6_scv
  | .o => Memref.whole main_v8_scv

/-- The scratch of the row numbers, the row buffer and the semaphore of each gather, by the chunk's parity. -/
def idxM : Role → Bool → Memref sig .scVector .vmem S128 .i32
  | .h, false => Memref.whole cc0_scratch0
  | .h, true => Memref.whole cc0_scratch1
  | .e, false => Memref.whole cc0_scratch2
  | .e, true => Memref.whole cc0_scratch3
  | .o, false => Memref.whole cc0_scratch4
  | .o, true => Memref.whole cc0_scratch5
def bufM : Role → Bool → Memref sig .scVector .vmem S128x128 .f32
  | .h, false => Memref.whole cc0_scratch8
  | .h, true => Memref.whole cc0_scratch9
  | .e, false => Memref.whole cc0_scratch10
  | .e, true => Memref.whole cc0_scratch11
  | .o, false => Memref.whole cc0_scratch12
  | .o, true => Memref.whole cc0_scratch13
def gSem : Role → Bool → DmaSem sig
  | .h, false => cc0_scratch14.sem
  | .h, true => cc0_scratch15.sem
  | .e, false => cc0_scratch16.sem
  | .e, true => cc0_scratch17.sem
  | .o, false => cc0_scratch18.sem
  | .o, true => cc0_scratch19.sem
/-- The semaphores of the write-outs: of the first hop's rows (`false`) and of the second hop's sums (`true`). -/
def wSem : Bool → Bool → DmaSem sig
  | false, false => cc0_scratch22.sem
  | false, true => cc0_scratch23.sem
  | true, false => cc0_scratch24.sem
  | true, true => cc0_scratch25.sem

/-- The semaphore of the `n`-th scoped copy. -/
def rSem (n : Fin 77) : DmaSem sig := ⟨12 + n.val, by have := n.isLt; show 12 + n.val < 107; omega⟩

theorem idxM_whole (r : Role) (p : Bool) : (idxM r p).IsWhole := by
  cases r <;> cases p <;> exact Memref.isWhole_whole _
theorem bufM_whole (r : Role) (p : Bool) : (bufM r p).IsWhole := by
  cases r <;> cases p <;> exact Memref.isWhole_whole _
theorem srcM_whole (r : Role) : (srcM r).IsWhole := by
  cases r <;> exact Memref.isWhole_whole _

/-- The tile's number. -/
def widB (i : grid0.Coords) : BitVec 32 := Scalar.addi (Scalar.muli (BitVec.ofNat 32 (i 1).val) 2#32) (BitVec.ofNat 32 (i 0).val)

/-- Where chunk `(t, k)` lies in the outputs. -/
def offOut (i : grid0.Coords) (t k : ℕ) : Fin 3 → ℕ :=
  ![t, (Scalar.addi (Scalar.muli (widB i) 640#32) (BitVec.ofNat 32 (128 * k))).toNat, 0]

theorem offOut_eq (i : grid0.Coords) (t : Fin 5) (k : Fin 5) :
    offOut i t.val k.val = ![t.val, 1280 * (i 1).val + 640 * (i 0).val + 128 * k.val, 0] := by
  have h := congrFun (k0_off4_eq i k) 1
  simp only [offOut]
  congr 2

theorem offOut_inb (i : grid0.Coords) (t k : Fin 5) (a : Fin 3) : offOut i t.val k.val a + S1x128x128.size a ≤ S5x20480x128.size a := by
  rw [offOut_eq]
  have h0 : (i 0).val < 2 := (i 0).isLt
  have h1 : (i 1).val < 16 := (i 1).isLt
  have ht := t.isLt; have hk := k.isLt
  match a with
  | 0 => show t.val + 1 ≤ 5; omega
  | 1 => show (1280 * (i 1).val + 640 * (i 0).val + 128 * k.val) + 128 ≤ 20480; omega
  | 2 => show 0 + 128 ≤ 128; omega

/-- The output of the write-outs: `false` the first hop's rows, `true` the second hop's sums. -/
def outM : Bool → Memref sig .scVector .hbm S5x20480x128 .f32
  | false => Memref.whole main_v9_1_scv
  | true => Memref.whole main_v9_2_scv

/-- Chunk `(t, k)`'s rows of an output, -/
abbrev dstM (i : grid0.Coords) (b : Bool) (t k : Fin 5) : Memref sig .scVector .hbm S128x128 .f32 :=
  ((outM b).slice (Rect.unit (s := S5x20480x128) (offOut i t.val k.val) S1x128x128.size (offOut_inb i t k)) (fun _ => rfl)).squeeze
    S128x128 squeezes_S1x128x128_S128x128
/-- its row numbers, -/
abbrev seqM (i : grid0.Coords) (r : Role) (t k : Fin 5) : Memref sig .scVector .hbm S128 .i32 :=
  (srcM r).slice (Rect.unit (s := S102400) (k0_off3 i (BitVec.ofNat 32 (20480 * t.val)) (BitVec.ofNat 32 (128 * k.val))) S128.size
    (k0_off3_inb i t k)) (fun _ => rfl)
/-- the tile's row numbers of the nodes and its rows of their output. -/
abbrev nodeM (i : grid0.Coords) : Memref sig .scVector .hbm S128 .i32 :=
  nodesM.slice (Rect.unit (s := S4096) (k0_off1 i) S128.size (k0_off1_inb i)) (fun _ => rfl)
abbrev h0dM (i : grid0.Coords) : Memref sig .scVector .hbm S128x128 .f32 :=
  h0M.slice (Rect.unit (s := S4096x128) (k0_off2 i) S128x128.size (k0_off2_inb i)) (fun _ => rfl)

section Fragments

variable (i : grid0.Coords)

/-- A copy and its wait, at once. -/
def fetch (src : Memref sig .scVector .hbm S128 .i32) (dst : Memref sig .scVector .vmem S128 .i32) (hd : dst.IsWhole) (s : DmaSem sig) : TP F i PUnit := do
  Prog.lift (.enqueueDma src (.here dst) (.dma s) (View.wordExact_bits rfl) hd.wordExact ⟨Or.inl rfl, trivial⟩)
  Prog.lift (.waitDma2 s src dst (View.wordExact_bits rfl) hd.wordExact)

/-- The gather of a list's rows of `x`, issued. -/
def gather (idx : Memref sig .scVector .vmem S128 .i32) (buf : Memref sig .scVector .vmem S128x128 .f32) (s : DmaSem sig) : TP F i PUnit :=
  SparseCore.enqueueIndirectGather rfl xAll buf gathers_S100000x128_S128x128 idx rfl s (View.wordExact_bits rfl) rfl (Or.inl rfl)

def gatherWait (buf : Memref sig .scVector .vmem S128x128 .f32) (hb : buf.IsWhole) (s : DmaSem sig) : TP F i PUnit :=
  SparseCore.waitIndirectGather s xAll buf (View.wordExact_bits rfl) hb.wordExact

/-- A row buffer's write-out, and its wait. -/
def out (buf : Memref sig .scVector .vmem S128x128 .f32) (hb : buf.IsWhole) (dst : Memref sig .scVector .hbm S128x128 .f32) (s : DmaSem sig) : TP F i PUnit :=
  Prog.lift (.enqueueDma buf (.here dst) (.dma s) hb.wordExact (View.wordExact_bits rfl) ⟨Or.inl rfl, trivial⟩)
def outWait (buf : Memref sig .scVector .vmem S128x128 .f32) (hb : buf.IsWhole) (dst : Memref sig .scVector .hbm S128x128 .f32) (s : DmaSem sig) : TP F i PUnit :=
  Prog.lift (.waitDma2 s buf dst hb.wordExact (View.wordExact_bits rfl))

/-- Sixteen lanes of a row, from lane `16 * g`. -/
def laneOff (r : Fin k0_t1_loop.trips) (g : ℕ) : Fin 2 → ℕ := ![(Scalar.indexCast (Scf.iv 0#32 1#32 r)).toNat, 16 * g]

theorem laneOff_eq (r : Fin k0_t1_loop.trips) (g : ℕ) : laneOff r g = ![r.val, 16 * g] := by
  have h := congrFun (k0_off5_eq r) 0
  simp only [laneOff]
  congr 1

theorem laneOff_inb (r : Fin k0_t1_loop.trips) (g : Fin 8) (a : Fin 2) : laneOff r g.val a + S1x16.size a ≤ S128x128.size a := by
  rw [laneOff_eq]
  have hr : r.val < 128 := r.isLt
  have hg := g.isLt
  match a with
  | 0 => show r.val + 1 ≤ 128; omega
  | 1 => show 16 * g.val + 16 ≤ 128; omega

abbrev laneRect (r : Fin k0_t1_loop.trips) (g : Fin 8) : Rect S128x128 := Rect.unit (s := S128x128) (laneOff r g.val) S1x16.size (laneOff_inb r g)

/-- The sum of two sixteen-lane pieces. -/
def laneSum (a b : Vec F S1x16 .f32) : FVec F S1x16 .f32 :=
  shapeCast S1x16 (addf (shapeCast S16 a shapeCasts_S1x16_S16) (shapeCast S16 b shapeCasts_S1x16_S16)) shapeCasts_S16_S1x16

def laneStep (e o : Memref sig .scVector .vmem S128x128 .f32) (r : Fin k0_t1_loop.trips) (g : Fin 8) : TP F i PUnit := do
  let a : Vec F S1x16 .f32 ← Prog.lift (.load e (laneRect r g).toLoadRect (View.loadsAt_vmem h_S1x16))
  let b : Vec F S1x16 .f32 ← Prog.lift (.load o (laneRect r g).toLoadRect (View.loadsAt_vmem h_S1x16))
  let _ : Vec F S1x16 .f32 ← Prog.lift (.load e (laneRect r g).toLoadRect (View.loadsAt_vmem h_S1x16))
  Prog.lift (.store e (laneRect r g) (laneSum a b) Finset.univ (View.stores_vmem_bits_univ h_S1x16 rfl) (.inl rfl))

def lanes (e o : Memref sig .scVector .vmem S128x128 .f32) (r : Fin k0_t1_loop.trips) : List (Fin 8) → TP F i PUnit
  | [] => pure ⟨⟩
  | g :: gs => do laneStep i e o r g; lanes e o r gs

/-- The addition of the odd rows to the even rows, row by row. -/
def addRows (e o : Memref sig .scVector .vmem S128x128 .f32) : TP F i PUnit := do
  let _ : BitVec 32 ← Scf.Loop.for k0_t1_loop k0_t1_ok 0#32 fun r _ => do
    lanes i e o r [0, 1, 2, 3, 4, 5, 6, 7]
    pure 0#32
  pure ⟨⟩

/-- One gather of a chunk: its row numbers fetched, the rows' gather issued. -/
def issueOne (r : Role) (p : Bool) (t k : Fin 5) (n : Fin 77) : TP F i PUnit := do
  fetch i (seqM i r t k) (idxM r p) (idxM_whole r p) (rSem n)
  gather i (idxM r p) (bufM r p) (gSem r p)

end Fragments

/-- A chunk's parity, its time step, its place in the time step, and its scoped copies' numbers. -/
def par (c : Fin 25) : Bool := c.val % 2 == 1
def tOf (c : Fin 25) : Fin 5 := ⟨c.val / 5, by have := c.isLt; omega⟩
def kOf (c : Fin 25) : Fin 5 := ⟨c.val % 5, by omega⟩
def nOf (c : Fin 25) (j : Fin 3) : Fin 77 := ⟨2 + 3 * c.val + j.val, by have := c.isLt; have := j.isLt; omega⟩

section Body

variable (i : grid0.Coords)

/-- The three gathers of chunk `c`. -/
def issue (c : Fin 25) : TP F i PUnit := do
  issueOne i .h (par c) (tOf c) (kOf c) (nOf c 0)
  issueOne i .e (par c) (tOf c) (kOf c) (nOf c 1)
  issueOne i .o (par c) (tOf c) (kOf c) (nOf c 2)

/-- Chunk `c`'s rows waited for, added and written out. -/
def drain (c : Fin 25) : TP F i PUnit := do
  gatherWait i (bufM .h (par c)) (bufM_whole _ _) (gSem .h (par c))
  out i (bufM .h (par c)) (bufM_whole _ _) (dstM i false (tOf c) (kOf c)) (wSem false (par c))
  gatherWait i (bufM .e (par c)) (bufM_whole _ _) (gSem .e (par c))
  gatherWait i (bufM .o (par c)) (bufM_whole _ _) (gSem .o (par c))
  addRows i (bufM .e (par c)) (bufM .o (par c))
  out i (bufM .e (par c)) (bufM_whole _ _) (dstM i true (tOf c) (kOf c)) (wSem true (par c))

/-- Chunk `c`'s write-outs waited for. -/
def settle (c : Fin 25) : TP F i PUnit := do
  outWait i (bufM .h (par c)) (bufM_whole _ _) (dstM i false (tOf c) (kOf c)) (wSem false (par c))
  outWait i (bufM .e (par c)) (bufM_whole _ _) (dstM i true (tOf c) (kOf c)) (wSem true (par c))

/-- The nodes' rows. -/
def nodesPart : TP F i PUnit := do
  fetch i (nodeM i) (idxM .h false) (idxM_whole _ _) (rSem 0)
  gather i (idxM .h false) (bufM .h false) (gSem .h false)
  gatherWait i (bufM .h false) (bufM_whole _ _) (gSem .h false)
  out i (bufM .h false) (bufM_whole _ _) (h0dM i) (rSem 1)
  outWait i (bufM .h false) (bufM_whole _ _) (h0dM i) (rSem 1)

/-- Chunk `c` issued and the chunk before it drained, from the third on. -/
def step (c : ℕ) (hc : c + 2 < 25) : TP F i PUnit := do
  settle i ⟨c, by omega⟩
  issue i ⟨c + 2, hc⟩
  drain i ⟨c + 1, by omega⟩

def steps : (n c : ℕ) → n + c = 23 → TP F i PUnit
  | 0, _, _ => pure ⟨⟩
  | n + 1, c, h => do
    step i c (by omega)
    steps n (c + 1) (by omega)

def task : TP F i PUnit := do
  nodesPart i
  issue i 0
  issue i 1
  drain i 0
  steps i 23 0 rfl
  drain i 24
  settle i 24
  settle i 23

end Body

end Cert.Proof.Tile
-- ==== Proof.Tile.lean ====
/-
  The fragments of the SparseCore task, one rule each, over any tile `L` of any device `d`: what each takes, what each
  gives back, and the values in the buffers.
-/
module

public import proofs.«01_k».proof.Proof.TileProg
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift

abbrev UH : Type := URounds (GSem nD τ sig) ℕ
abbrev UP : Type := URounds (GSem nD τ sig) Unit
abbrev UU : Type := UH × (UP × Counters)

local notation "𝕄" => MT nD τ sig (HIx 1) (Elt F) ℕ UU ℕ

/-! ## The values -/

/-- The row of `x` a row number names: itself where it is one. -/
def rowIx (n : BitVec 32) : Fin 100000 := ⟨min n.toNat 99999, by omega⟩

/-- The `k`-th index of a list. -/
def listAt (k : Fin 128) : S128.Idx := fun | ⟨0, _⟩ => k

/-- The rows of `x` a list names. -/
def gathered (x : S100000x128.Idx → Elt F .f32) (l : S128.Idx → Elt F .i32) : S128x128.Idx → Elt F .f32 :=
  fun j => x ((fun | ⟨0, _⟩ => rowIx (l (listAt (j 0))) | ⟨1, _⟩ => j 1) : S100000x128.Idx)

/-- The sum of two buffers' rows. -/
def rowsSum (a b : S128x128.Idx → Elt F .f32) : S128x128.Idx → Elt F .f32 := fun j => FloatOps.addf (a j) (b j)

/-! ## Holding a memref at a value -/

section Tile

variable (d : Dev nD) (L : grid0.Coords)

abbrev cV (L : grid0.Coords) : Fin τ.nSC := (L 0).castLE hcore0
abbrev jV (L : grid0.Coords) : Fin τ.nSub := (L 1).castLE hsub0

abbrev thr : Thread nD τ := V d (cV L) (jV L)

/-- The memref's elements, at share `q`, reading `v`. -/
def held {sp : Space} {s : Shape} {e : EltTy} (m : Memref sig .scVector sp s e) (q : PosShare TreeShare) (v : s.Idx → Elt F e) : sProp 𝕄 :=
  iprop(∃ f : Buf (Elt F) (m.view.loc (thr d L)), ⌜m.view.read (Elt F) f = v⌝ ∗ (m.view.loc (thr d L) ↦[m.view.set]{q} f))

/-- The memref's elements, all of each, reading anything. -/
def free {sp : Space} {s : Shape} {e : EltTy} (m : Memref sig .scVector sp s e) : sProp 𝕄 :=
  iprop(∃ f : Buf (Elt F) (m.view.loc (thr d L)), (m.view.loc (thr d L) ↦[m.view.set]{fullShare} f))

theorem held_free {sp : Space} {s : Shape} {e : EltTy} (m : Memref sig .scVector sp s e) (v : s.Idx → Elt F e) :
    (held (F := F) d L m fullShare v) ⊢ free (F := F) d L m := by
  unfold held free
  iintro ⟨%f, -, H⟩
  iexists f; iexact H

/-- A semaphore of the tile's at zero. -/
abbrev zero (s : DmaSem sig) : sProp 𝕄 := semVal (thr d L, SemLoc.dma s) 0

variable (O : CellTallies nD τ sig (HIx 1)) (W : Waits sig (HIx 1))

/-- What the tile owes, and the waits it has answered. -/
def owing : sProp 𝕄 := iprop(∃ W', ⌜∀ p ∈ W', p ∈ W ∨ p.2 = none⌝ ∗ owes (thr d L) O W')

/-- The tile may wait on any of its semaphores. -/
abbrev mayW : sProp 𝕄 := Transfers.MayWaits (thr d L) (default : HIx 1) O

abbrev WP {α : Type} (p : TP F L α) (Q : α → sProp 𝕄) : sProp 𝕄 :=
  wp frame (wpE (defs₀ (F := F)) 𝒱₀ (thr d L) none) Set.univ p Q

/-- A fragment's rule at the head of a program. -/
theorem seq {A B : sProp 𝕄} {p : TP F L PUnit} (h : A ⊢ WP (F := F) d L p (fun _ => B)) {α : Type} {k : PUnit → TP F L α} {Q : α → sProp 𝕄} :
    A ⊢ iprop((B -∗ WP (F := F) d L (k ⟨⟩) Q) -∗ WP (F := F) d L (p >>= k) Q) := by
  rw [show WP (F := F) d L (p >>= k) Q = WP (F := F) d L p (fun u => WP (F := F) d L (k u) Q) from
    wp_bind frame (wpE (defs₀ (F := F)) 𝒱₀ (thr d L) none) Set.univ p k Q]
  iintro HA HK
  iapply (wp_wand_r frame (wpE (defs₀ (F := F)) 𝒱₀ (thr d L) none) Set.univ)
  isplitl [HA]
  · iapply h; iexact HA
  · iintro %u HB
    iapply HK; iexact HB

/-- A fragment's rule at the end of a program. -/
theorem last {A B : sProp 𝕄} {p : TP F L PUnit} (h : A ⊢ WP (F := F) d L p (fun _ => B)) {Q : PUnit → sProp 𝕄} :
    A ⊢ iprop((B -∗ Q ⟨⟩) -∗ WP (F := F) d L p Q) := by
  iintro HA HK
  iapply (wp_wand_r frame (wpE (defs₀ (F := F)) 𝒱₀ (thr d L) none) Set.univ)
  isplitl [HA]
  · iapply h; iexact HA
  · iintro %u HB
    iapply HK; iexact HB

/-- A transfer in flight on semaphore `s`, delivering `R`. -/
abbrev inFlight (s : DmaSem sig) (N : ℕ) (R : sProp 𝕄) : sProp 𝕄 :=
  Transfers.Flight countersEmb (thr d L) (.dma s) (default : HIx 1) N R

/-- The wait for it. -/
theorem wait_rule (s : DmaSem sig) {N : ℕ} {R : sProp 𝕄} {sp sp' : Space} {s₀ s₁ : Shape} {e₀ e₁ : EltTy}
    (src : Memref sig .scVector sp s₀ e₀) (dst : Memref sig .scVector sp' s₁ e₁) (hs : src.view.WordExact) (hd : dst.view.WordExact)
    (hN : dst.view.dmaCredit = N) :
    iprop(mayW (F := F) d L O ∗ inFlight (F := F) d L s N R ∗ owing (F := F) d L O W)
      ⊢ WP (F := F) d L (Prog.lift (.waitDma2 s src dst hs hd)) (fun _ => iprop(R ∗ zero (F := F) d L s ∗ owing (F := F) d L O W)) := by
  unfold owing
  iintro ⟨Hmw, Hfl, %W', %hW, HO⟩
  iapply (Transfers.wp_waitLocalO countersEmb 𝒱₀ (thr d L) none (default : HIx 1) hN) $$ [Hfl HO Hmw]
  · isplitl [Hfl]; · iexact Hfl
    isplitl [HO]; · iexact HO
    iapply (Transfers.MayWaits.elim (SemLoc.dma s)); iexact Hmw
  iintro ⟨HR, Hv, HO⟩
  rw [wp_ret]
  imodintro
  isplitl [HR]; · iexact HR
  isplitl [Hv]; · iexact Hv
  iexists (insert (SemLoc.dma s, (default : HIx 1)) W'); isplitr
  · ipureintro
    intro p hp
    rcases Finset.mem_insert.mp hp with hp | hp
    · exact Or.inr (congrArg Prod.snd hp)
    · exact hW p hp
  · iexact HO

/-- A copy into a memref, issued: at the wait it reads what the source read. -/
theorem copy_rule (s : DmaSem sig) {sp sp' : Space} {s₁ : Shape} {e₁ : EltTy}
    (src : Memref sig .scVector sp s₁ e₁) (dst : Memref sig .scVector sp' s₁ e₁) (hs : src.view.WordExact) (hd : dst.view.WordExact)
    (ht : (DmaTarget.here dst : DmaTarget nD τ sig (.scVector (cV L) (jV L)) sp' s₁ e₁).Typed sp (.dma s)) (hn : 0 < s₁.numel) (q : PosShare TreeShare) (v : s₁.Idx → Elt F e₁) :
    iprop(held (F := F) d L src q v ∗ free (F := F) d L dst ∗ zero (F := F) d L s)
      ⊢ WP (F := F) d L (Prog.lift (.enqueueDma src (.here dst) (.dma s) hs hd ht))
          (fun _ => inFlight (F := F) d L s dst.view.dmaCredit iprop(held (F := F) d L dst fullShare v ∗ held (F := F) d L src q v)) := by
  unfold held free
  iintro ⟨⟨%f, %hf, Hs⟩, ⟨%g, Hd⟩, Hv⟩
  iapply (Transfers.wp_dmaLocal countersEmb 𝒱₀ (thr d L) none (default : HIx 1) dst.view.dmaCredit rfl
    (View.dmaCredit_pos _ hn) (Finset.Subset.refl _)) $$ [Hs Hd Hv]
  · isplitl [Hs]; · iexact Hs
    isplitl [Hd]; · iexact Hd
    iexact Hv
  iintro Hfl
  rw [wp_ret]
  imodintro
  iapply (Transfers.Flight_mono countersEmb (thr d L) ?_) $$ Hfl
  iintro ⟨Hd, Hs⟩
  isplitl [Hd]
  · iexists _; isplitr
    swap
    · iexact Hd
    · ipureintro
      rw [View.read_write_univ]; exact hf
  · iexists f; isplitr
    · ipureintro; exact hf
    · iexact Hs

/-! ## A fetch, a gather, a write-out -/

theorem fetch_rule (src : Memref sig .scVector .hbm S128 .i32) (dst : Memref sig .scVector .vmem S128 .i32) (hd : dst.IsWhole)
    (s : DmaSem sig) (q : PosShare TreeShare) (v : S128.Idx → Elt F .i32) :
    iprop(mayW (F := F) d L O ∗ held (F := F) d L src q v ∗ free (F := F) d L dst ∗ zero (F := F) d L s ∗ owing (F := F) d L O W)
      ⊢ WP (F := F) d L (fetch L src dst hd s)
          (fun _ => iprop(held (F := F) d L dst fullShare v ∗ held (F := F) d L src q v ∗ zero (F := F) d L s ∗ owing (F := F) d L O W)) := by
  unfold fetch
  iintro ⟨Hmw, Hs, Hd, Hv, HO⟩
  iapply (seq (F := F) d L (copy_rule (F := F) d L s src dst _ _ _ (by decide) q v)) $$ [Hs Hd Hv]
  · isplitl [Hs]; · iexact Hs
    isplitl [Hd]; · iexact Hd
    iexact Hv
  iintro Hfl
  iapply (wp_mono frame (wpE (defs₀ (F := F)) 𝒱₀ (thr d L) none) Set.univ ?_)
  rotate_left
  · iapply (wait_rule (F := F) d L O W s src dst _ _ rfl)
    isplitl [Hmw]; · iexact Hmw
    isplitl [Hfl]; · iexact Hfl
    iexact HO
  · intro _
    iintro ⟨⟨Hd, Hs⟩, Hv, HO⟩
    isplitl [Hd]; · iexact Hd
    isplitl [Hs]; · iexact Hs
    isplitl [Hv]; · iexact Hv
    iexact HO

theorem listIx (k : Fin S128.numel) : S128.rowMajor.symm k = listAt ⟨k.val, k.isLt⟩ := by
  rw [Equiv.symm_apply_eq]
  apply Fin.ext
  have e := Shape.rowMajorPi_succ_val S128.size (listAt ⟨k.val, k.isLt⟩)
  refine Eq.trans ?_ e.symm
  show k.val = k.val * 1 + 0
  omega

/-- What the gather's rule reads from the source is the rows the list names, where the list's numbers are row numbers. -/
theorem gatherPayload_eq (x : S100000x128.Idx → Elt F .f32) (l : S128.Idx → Elt F .i32)
    (h : ∀ j, (l j).toNat < 100000) (hn : S128.numel = S128x128.size gathers_S100000x128_S128x128.axis')
    (hin : ∀ j, (l j).toNat < S100000x128.size gathers_S100000x128_S128x128.axis) :
    SparseCore.gatherPayload gathers_S100000x128_S128x128 x (SparseCore.rows l hn hin) = gathered (F := F) x l := by
  funext j
  unfold SparseCore.gatherPayload gathered
  congr 1
  funext a
  match a with
  | ⟨0, _⟩ =>
    apply Fin.ext
    refine (congrArg Fin.val (Shape.Gathers.idx_axis gathers_S100000x128_S128x128 (SparseCore.rows l hn hin) j)).trans ?_
    refine (congrArg (fun t => (l t).toNat) (listIx _)).trans ?_
    exact (Nat.min_eq_left (Nat.le_of_lt_succ (h _))).symm
  | ⟨1, h1⟩ =>
    apply Fin.ext
    exact Shape.Gathers.idx_of_ne gathers_S100000x128_S128x128 (SparseCore.rows l hn hin) j ⟨1, h1⟩ Nat.one_ne_zero

theorem gather_rule (idx : Memref sig .scVector .vmem S128 .i32) (buf : Memref sig .scVector .vmem S128x128 .f32) (s : DmaSem sig)
    (N : ℕ) (hN : ∑ j, (buf.slice (S128x128.rowRect gathers_S100000x128_S128x128.axis' j)
      (S128x128.stride_rowRect gathers_S100000x128_S128x128.axis' j)).view.dmaCredit = N)
    (q : PosShare TreeShare) (x : S100000x128.Idx → Elt F .f32) (l : S128.Idx → Elt F .i32) (hl : ∀ j, (l j).toNat < 100000) :
    iprop(held (F := F) d L xAll q x ∗ free (F := F) d L buf ∗ held (F := F) d L idx fullShare l ∗ zero (F := F) d L s)
      ⊢ WP (F := F) d L (gather L idx buf s)
          (fun _ => inFlight (F := F) d L s N
            iprop(held (F := F) d L buf fullShare (gathered x l) ∗ held (F := F) d L xAll q x ∗ free (F := F) d L idx)) := by
  unfold held free gather
  iintro ⟨⟨%fx, %hx, Hx⟩, ⟨%fb, Hb⟩, ⟨%fi, %hi, Hi⟩, Hv⟩
  subst hx hi
  rw [show (SparseCore.enqueueIndirectGather rfl xAll buf gathers_S100000x128_S128x128 idx rfl s (View.wordExact_bits rfl) rfl (Or.inl rfl) : TP F L PUnit)
    = (SparseCore.enqueueIndirectGather rfl xAll buf gathers_S100000x128_S128x128 idx rfl s (View.wordExact_bits rfl) rfl (Or.inl rfl)) >>= pure from
    (bind_pure _).symm]
  iapply (SparseCore.wp_indirectGatherLocal countersEmb 𝒱₀ (thr d L) none (hg := gathers_S100000x128_S128x128) (default : HIx 1)
      N hN (by decide) hl) $$ [Hx Hb Hi Hv]
  · isplitl [Hx]; · iexact Hx
    isplitl [Hb]; · iexact Hb
    isplitl [Hi]; · iexact Hi
    iexact Hv
  iintro Hfl
  rw [show (pure PUnit.unit : TP F L PUnit) = Prog.ret PUnit.unit from rfl, wp_ret]
  imodintro
  iapply (Transfers.Flight_mono countersEmb (thr d L) ?_) $$ Hfl
  iintro ⟨Hb, Hx, Hi⟩
  isplitl [Hb]
  · iexists _; isplitr
    swap
    · iexact Hb
    · ipureintro
      rw [View.read_write_univ]; exact gatherPayload_eq _ _ hl _ _
  isplitl [Hx]
  · iexists fx; isplitr
    · ipureintro; rfl
    · iexact Hx
  · iexists fi; iexact Hi

theorem gatherWait_rule (buf : Memref sig .scVector .vmem S128x128 .f32) (hb : buf.IsWhole) (s : DmaSem sig)
    (N : ℕ) (hN : buf.view.dmaCredit = N) (R : sProp 𝕄) :
    iprop(mayW (F := F) d L O ∗ inFlight (F := F) d L s N R ∗ owing (F := F) d L O W)
      ⊢ WP (F := F) d L (gatherWait L buf hb s) (fun _ => iprop(R ∗ zero (F := F) d L s ∗ owing (F := F) d L O W)) :=
  wait_rule (F := F) d L O W s xAll buf _ _ hN

theorem out_rule (buf : Memref sig .scVector .vmem S128x128 .f32) (hb : buf.IsWhole) (dst : Memref sig .scVector .hbm S128x128 .f32)
    (s : DmaSem sig) (v : S128x128.Idx → Elt F .f32) :
    iprop(held (F := F) d L buf fullShare v ∗ free (F := F) d L dst ∗ zero (F := F) d L s)
      ⊢ WP (F := F) d L (out L buf hb dst s)
          (fun _ => inFlight (F := F) d L s dst.view.dmaCredit iprop(held (F := F) d L dst fullShare v ∗ held (F := F) d L buf fullShare v)) :=
  copy_rule (F := F) d L s buf dst _ _ _ (by decide) fullShare v

theorem outWait_rule (buf : Memref sig .scVector .vmem S128x128 .f32) (hb : buf.IsWhole) (dst : Memref sig .scVector .hbm S128x128 .f32)
    (s : DmaSem sig) (R : sProp 𝕄) :
    iprop(mayW (F := F) d L O ∗ inFlight (F := F) d L s dst.view.dmaCredit R ∗ owing (F := F) d L O W)
      ⊢ WP (F := F) d L (outWait L buf hb dst s) (fun _ => iprop(R ∗ zero (F := F) d L s ∗ owing (F := F) d L O W)) :=
  wait_rule (F := F) d L O W s buf dst _ _ rfl

/-! ## The addition of two row buffers -/

/-- The rows before row `r` added, and of row `r` the lanes before lane `16 * g`. -/
def addedTo (a b : S128x128.Idx → Elt F .f32) (r g : ℕ) : S128x128.Idx → Elt F .f32 := fun j =>
  if (j 0).val < r ∨ ((j 0).val = r ∧ (j 1).val < 16 * g) then FloatOps.addf (a j) (b j) else a j

theorem laneSum_apply (a b : Vec F S1x16 .f32) (x : S1x16.Idx) : laneSum a b x = FloatOps.addf (a x) (b x) := by
  unfold laneSum shapeCast addf
  simp only [Shape.reshapeEquiv_reshapeEquiv, Shape.reshapeEquiv_self]

theorem lane_mem (r : Fin k0_t1_loop.trips) (g : Fin 8) (j : S128x128.Idx) (h0 : (j 0).val = r.val)
    (h1 : 16 * g.val ≤ (j 1).val) (h2 : (j 1).val < 16 * g.val + 16) :
    ∃ x : (laneRect r g).shape.Idx, (laneRect r g).emb x = j := by
  refine ⟨(fun | ⟨0, _⟩ => (⟨0, Nat.one_pos⟩ : Fin 1) | ⟨1, _⟩ => (⟨(j 1).val - 16 * g.val, by omega⟩ : Fin 16)), ?_⟩
  funext a
  apply Fin.ext
  match a with
  | ⟨0, _⟩ =>
    show laneOff r g.val 0 + 1 * 0 = (j 0).val
    rw [laneOff_eq]; show r.val + 1 * 0 = (j 0).val; omega
  | ⟨1, _⟩ =>
    show laneOff r g.val 1 + 1 * ((j 1).val - 16 * g.val) = (j 1).val
    rw [laneOff_eq]; show 16 * g.val + 1 * ((j 1).val - 16 * g.val) = (j 1).val; omega

theorem mem_lane (r : Fin k0_t1_loop.trips) (g : Fin 8) (x : (laneRect r g).shape.Idx) :
    ((laneRect r g).emb x 0).val = r.val ∧ 16 * g.val ≤ ((laneRect r g).emb x 1).val ∧ ((laneRect r g).emb x 1).val < 16 * g.val + 16 := by
  have hx0 : (x 0).val < 1 := (x 0).isLt
  have hx1 : (x 1).val < 16 := (x 1).isLt
  have e0 : ((laneRect r g).emb x 0).val = r.val + 1 * (x 0).val := by
    show laneOff r g.val 0 + 1 * (x 0).val = _
    rw [laneOff_eq]; rfl
  have e1 : ((laneRect r g).emb x 1).val = 16 * g.val + 1 * (x 1).val := by
    show laneOff r g.val 1 + 1 * (x 1).val = _
    rw [laneOff_eq]; rfl
  omega

theorem addedTo_step (a b : S128x128.Idx → Elt F .f32) (r : Fin k0_t1_loop.trips) (g : Fin 8) (j : S128x128.Idx)
    (hj : ¬ ((j 0).val = r.val ∧ 16 * g.val ≤ (j 1).val ∧ (j 1).val < 16 * g.val + 16)) :
    addedTo (F := F) a b r.val (g.val + 1) j = addedTo a b r.val g.val j := by
  unfold addedTo
  refine if_congr ?_ rfl rfl
  constructor <;> intro h <;> omega

theorem laneStep_rule (e o : Memref sig .scVector .vmem S128x128 .f32) (r : Fin k0_t1_loop.trips) (g : Fin 8)
    (a b : S128x128.Idx → Elt F .f32) :
    iprop(held (F := F) d L e fullShare (addedTo a b r.val g.val) ∗ held (F := F) d L o fullShare b)
      ⊢ WP (F := F) d L (laneStep L e o r g)
          (fun _ => iprop(held (F := F) d L e fullShare (addedTo a b r.val (g.val + 1)) ∗ held (F := F) d L o fullShare b)) := by
  unfold held laneStep
  iintro ⟨⟨%fe, %he, He⟩, ⟨%fo, %ho, Ho⟩⟩
  iapply (wp_load_rect 𝒱₀ (thr d L) none Set.univ (m := e) (View.set_slice_subset e.view (laneRect r g))) $$ He
  iintro He
  iapply (wp_load_rect 𝒱₀ (thr d L) none Set.univ (m := o) (View.set_slice_subset o.view (laneRect r g))) $$ Ho
  iintro Ho
  iapply (wp_load_rect 𝒱₀ (thr d L) none Set.univ (m := e) (View.set_slice_subset e.view (laneRect r g))) $$ He
  iintro He
  iapply (wp_store 𝒱₀ (thr d L) none Set.univ (m := e) (View.set_slice_subset e.view (laneRect r g))) $$ He
  iintro He
  rw [wp_ret]
  imodintro
  isplitl [He]
  · iexists _; isplitr
    swap
    · iexact He
    · ipureintro
      funext j
      by_cases hj : (j 0).val = r.val ∧ 16 * g.val ≤ (j 1).val ∧ (j 1).val < 16 * g.val + 16
      · obtain ⟨x, rfl⟩ := lane_mem r g j hj.1 hj.2.1 hj.2.2
        refine (View.read_slice_write_emb (v := e.view) (laneRect r g) fe _ (Finset.mem_univ x)).trans ?_
        rw [laneSum_apply]
        show FloatOps.addf (e.view.read (Elt F) fe ((laneRect r g).emb x)) (o.view.read (Elt F) fo ((laneRect r g).emb x)) = _
        rw [he, ho]
        unfold addedTo
        rw [if_neg (by omega), if_pos (by omega)]
      · refine (View.read_slice_write_of_not_mem (v := e.view) (laneRect r g) fe _ _ ?_).trans ?_
        · intro hm
          obtain ⟨x, -, rfl⟩ := Finset.mem_map.mp hm
          exact hj (mem_lane r g x)
        · rw [he]; exact (addedTo_step a b r g j hj).symm
  · iexists fo; isplitr
    · ipureintro; exact ho
    · iexact Ho

theorem lanes_rule (e o : Memref sig .scVector .vmem S128x128 .f32) (r : Fin k0_t1_loop.trips)
    (a b : S128x128.Idx → Elt F .f32) : ∀ (n g : ℕ) (h : n + g = 8),
    iprop(held (F := F) d L e fullShare (addedTo a b r.val g) ∗ held (F := F) d L o fullShare b)
      ⊢ WP (F := F) d L (lanes L e o r ((List.finRange 8).drop g))
          (fun _ => iprop(held (F := F) d L e fullShare (addedTo a b r.val 8) ∗ held (F := F) d L o fullShare b)) := by
  intro n
  induction n with
  | zero =>
    intro g h
    obtain rfl : g = 8 := by omega
    rw [List.drop_of_length_le (by simp)]
    unfold lanes
    rw [show (pure PUnit.unit : TP F L PUnit) = Prog.ret PUnit.unit from rfl, WP, wp_ret]
    iintro H
    imodintro; iexact H
  | succ n ih =>
    intro g h
    have hlt : g < 8 := by omega
    rw [List.drop_eq_getElem_cons (by simpa using hlt), List.getElem_finRange, lanes]
    iintro H
    iapply (seq (F := F) d L (laneStep_rule (F := F) d L e o r ⟨g, hlt⟩ a b)) $$ H
    iintro H
    iapply (ih (g + 1) (by omega)); iexact H

theorem addRows_rule (e o : Memref sig .scVector .vmem S128x128 .f32) (a b : S128x128.Idx → Elt F .f32) :
    iprop(held (F := F) d L e fullShare a ∗ held (F := F) d L o fullShare b)
      ⊢ WP (F := F) d L (addRows L e o) (fun _ => iprop(held (F := F) d L e fullShare (rowsSum a b) ∗ held (F := F) d L o fullShare b)) := by
  have h0 : addedTo (F := F) a b 0 0 = a := by
    funext j; unfold addedTo; rw [if_neg (by omega)]
  have hn : addedTo (F := F) a b 128 0 = rowsSum a b := by
    funext j; unfold addedTo rowsSum; rw [if_pos]
    have : (j 0).val < 128 := (j 0).isLt
    omega
  have hs : ∀ r, addedTo (F := F) a b r 8 = addedTo a b (r + 1) 0 := by
    intro r; funext j; unfold addedTo
    refine if_congr ?_ rfl rfl
    have : (j 1).val < 128 := (j 1).isLt
    omega
  have hbody : ∀ (r : Fin k0_t1_loop.trips) (acc : BitVec 32),
      iprop(held (F := F) d L e fullShare (addedTo a b r.val 0) ∗ held (F := F) d L o fullShare b)
        ⊢ WP (F := F) d L (do lanes L e o r [0, 1, 2, 3, 4, 5, 6, 7]; pure 0#32 : TP F L (BitVec 32))
            (fun _ => iprop(held (F := F) d L e fullShare (addedTo a b (r.val + 1) 0) ∗ held (F := F) d L o fullShare b)) := by
    intro r acc
    iintro H
    iapply (seq (F := F) d L (lanes_rule (F := F) d L e o r a b 8 0 rfl)) $$ H
    iintro H
    rw [← hs, show (pure 0#32 : TP F L (BitVec 32)) = Prog.ret 0#32 from rfl, WP, wp_ret]
    imodintro; iexact H
  unfold addRows
  iintro H
  iapply (Scf.wp_for_bind frame (wpE (defs₀ (F := F)) 𝒱₀ (thr d L) none) Set.univ _ _ _ k0_t1_ok _ _
    (fun r _ => iprop(held (F := F) d L e fullShare (addedTo a b r 0) ∗ held (F := F) d L o fullShare b)) hbody) $$ [H]
  · rw [h0]; iexact H
  · iintro %acc H
    rw [show (pure PUnit.unit : TP F L PUnit) = Prog.ret PUnit.unit from rfl, wp_ret]
    imodintro
    rw [← hn]; iexact H

end Tile

end Cert.Proof.Tile
-- ==== Proof.TcBody.lean ====
/-
  The dense kernel's body at one grid point: the rules of a load and of a store of a whole buffer, and the body's rule over
  the contents of its windows.
-/
module

public import proofs.«01_k».proof.Proof.Tile
public import proofs.«01_k».proof.Proof.Gen.KernelIdeal.Skeleton

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The windows' contents at a grid point. -/
structure Blk (F : FTy → Type) where
  h0 : Vec F S2048x128 .f32
  h1 : Vec F S1x5x2048x128 .f32
  m2 : Vec F S1x5x2048x128 .f32
  wl0 : Vec F S128x128 .f32
  wr0 : Vec F S128x128 .f32
  b0 : Vec F S1x128 .f32
  wl1 : Vec F S128x64 .f32
  wr1 : Vec F S128x64 .f32
  b1 : Vec F S1x64 .f32
  dwt : Vec F S4x64 .f32
  kdt : Vec F S5x64 .f32
  wp : Vec F S64x64 .f32
  bp : Vec F S1x64 .f32

/-- The spikes of the second layer, -/
def spikes (B : Blk F) : FVec F S2048x64 .f32 :=
  k1_pay9 (k1_pay4 B.b0) (k1_pay5 B.h1 B.wl0 B.wr0 B.b0 B.h0) (k1_pay6 B.h1 B.wl0) (k1_pay7 B.m2) (k1_pay8 B.wr0)
    (constant S10240x128 .f32 0x00000000#32) B.wl1 B.wr1 B.b1
/-- the time step's weights, -/
def coef (t : BitVec 32) (B : Blk F) : FVec F S1x64 .f32 :=
  k1_pay19 t (k1_pay12 (k1_pay10 B.dwt)) (k1_pay14 B.kdt) (k1_pay15 B.kdt) (k1_pay16 B.kdt) (k1_pay17 t (k1_pay10 B.dwt) B.kdt)
    (k1_pay18 (k1_pay10 B.dwt) B.kdt) 1#32
/-- the accumulator after the point, from the accumulator before it, -/
def accStep (t : BitVec 32) (B : Blk F) (a : FVec F S2048x64 .f32) : FVec F S2048x64 .f32 := k1_pay1 (spikes B) (coef t B) a
/-- and the block of the result. -/
def outStep (B : Blk F) (a : FVec F S2048x64 .f32) : FVec F S2048x64 .f32 := k1_pay2 a B.wp B.bp

/-- Whether the point is a block's first. -/
def firstB (i : grid1.Coords) : Prop := Scalar.cmpi .ne (Scalar.extui (Scalar.cmpi .eq (BitVec.ofNat 32 (i 1).val) 0#32) : BitVec 32) 0#32 = 1#1
instance (i : grid1.Coords) : Decidable (firstB i) := by unfold firstB; infer_instance

section Rules

variable (d : Dev nD)

/-- A load of a whole buffer. -/
theorem load_rule {s : Shape} {e : EltTy} {α : Type} (m : Memref sig .tc .vmem s e) {off : Fin s.rank → ℕ} (h0 : off = fun _ => 0)
    (inb : ∀ a, off a + s.size a ≤ s.size a) (hl : m.view.LoadsAt (Rect.unit off s.size inb).toLoadRect)
    (k : (s.Idx → Elt F e) → Prog (TpuEff nD τ sig (Elt F) Λ₀ .tc) α) (q : PosShare TreeShare) (X : s.Idx → Elt F e) (Q : α → sProp 𝕄) :
    owns (d : Thread nD τ) m q X
      ⊢ iprop((owns (d : Thread nD τ) m q X -∗ wp frame (wpE (defs₀ (F := F)) 𝒱₀ (d : Thread nD τ) none) Set.univ (k X) Q)
        -∗ wp frame (wpE (defs₀ (F := F)) 𝒱₀ (d : Thread nD τ) none) Set.univ (.op (.load m (Rect.unit off s.size inb).toLoadRect hl) k) Q) := by
  subst h0
  unfold owns
  iintro ⟨%f, %hf, H⟩ Hk
  have e : m.view.readAt (Elt F) (Rect.unit (fun _ => 0) s.size inb).toLoadRect f = X := by
    rw [← hf]
    funext y
    refine congrArg (m.view.read (Elt F) f) (funext fun a => Fin.ext ?_)
    show 0 + 1 * (y a).val = (y a).val
    omega
  iapply (wp_load 𝒱₀ (d : Thread nD τ) none Set.univ (m := m) (View.setOn_subset_set _ _)) $$ H
  iintro H
  rw [e]
  iapply Hk
  iexists f; isplitr
  · ipureintro; exact hf
  · iexact H

/-- A store of a whole buffer. -/
theorem store_rule {s : Shape} {e : EltTy} {α : Type} (m : Memref sig .tc .vmem s e) {off : Fin s.rank → ℕ} (h0 : off = fun _ => 0)
    (inb : ∀ a, off a + s.size a ≤ s.size a) (w : s.Idx → Elt F e) (hx : (m.access (Rect.unit off s.size inb)).Stores Finset.univ)
    (hm : (Finset.univ : Finset s.Idx) = Finset.univ ∨ ∀ a, (Rect.unit off s.size inb).stride a = 1)
    (k : PUnit → Prog (TpuEff nD τ sig (Elt F) Λ₀ .tc) α) (X : s.Idx → Elt F e) (Q : α → sProp 𝕄) :
    owns (d : Thread nD τ) m fullShare X
      ⊢ iprop((owns (d : Thread nD τ) m fullShare w -∗ wp frame (wpE (defs₀ (F := F)) 𝒱₀ (d : Thread nD τ) none) Set.univ (k ⟨⟩) Q)
        -∗ wp frame (wpE (defs₀ (F := F)) 𝒱₀ (d : Thread nD τ) none) Set.univ (.op (.store m (Rect.unit off s.size inb) w Finset.univ hx hm) k) Q) := by
  subst h0
  unfold owns
  iintro ⟨%f, -, H⟩ Hk
  have hS : (m.access (Rect.unit (fun _ => 0) s.size inb)).setOn Finset.univ ⊆ m.view.set := by
    rw [View.setOn_univ]; exact View.set_slice_subset _ _
  have e : m.view.read (Elt F) ((m.access (Rect.unit (fun _ => 0) s.size inb)).write (Elt F) f w Finset.univ) = w := by
    refine Eq.trans (funext fun y => ?_) (View.read_write_univ (Val := Elt F) (v := m.access (Rect.unit (fun _ => 0) s.size inb)) f w)
    refine congrArg (m.view.read (Elt F) _) (funext fun a => Fin.ext ?_)
    show (y a).val = 0 + 1 * (y a).val
    omega
  iapply (wp_store 𝒱₀ (d : Thread nD τ) none Set.univ (m := m) hS) $$ H
  iintro H
  iapply Hk
  iexists _; isplitr
  · ipureintro; exact e
  · iexact H

end Rules

section Body

variable (d : Dev nD) (i : grid1.Coords)
variable (arg2 : Memref sig .tc .vmem S2048x128 .f32) (harg2 : arg2.IsWhole) (arg3 : Memref sig .tc .vmem S1x5x2048x128 .f32)
  (harg3 : arg3.IsWhole) (arg4 : Memref sig .tc .vmem S1x5x2048x128 .f32) (harg4 : arg4.IsWhole)
  (arg5 : Memref sig .tc .vmem S128x128 .f32) (harg5 : arg5.IsWhole) (arg6 : Memref sig .tc .vmem S128x128 .f32) (harg6 : arg6.IsWhole)
  (arg7 : Memref sig .tc .vmem S1x128 .f32) (harg7 : arg7.IsWhole) (arg8 : Memref sig .tc .vmem S128x64 .f32) (harg8 : arg8.IsWhole)
  (arg9 : Memref sig .tc .vmem S128x64 .f32) (harg9 : arg9.IsWhole) (arg10 : Memref sig .tc .vmem S1x64 .f32) (harg10 : arg10.IsWhole)
  (arg11 : Memref sig .tc .vmem S4x64 .f32) (harg11 : arg11.IsWhole) (arg12 : Memref sig .tc .vmem S5x64 .f32) (harg12 : arg12.IsWhole)
  (arg13 : Memref sig .tc .vmem S64x64 .f32) (harg13 : arg13.IsWhole) (arg14 : Memref sig .tc .vmem S1x64 .f32) (harg14 : arg14.IsWhole)
  (arg15 : Memref sig .tc .vmem S2048x64 .f32) (harg15 : arg15.IsWhole) (arg16 : Memref sig .tc .vmem S2048x64 .f32)
  (harg16 : arg16.IsWhole)

/-- A run of the dense kernel's thread. -/
abbrev TW {α : Type} (p : Prog (TpuEff nD τ sig (Elt F) Λ₀ .tc) α) (Q : α → sProp 𝕄) : sProp 𝕄 :=
  wp frame (wpE (defs₀ (F := F)) 𝒱₀ (d : Thread nD τ) none) Set.univ p Q

/-- The window holds `X`. -/
abbrev Own {s : Shape} (m : Memref sig .tc .vmem s .f32) (X : s.Idx → Elt F .f32) : sProp 𝕄 :=
  owns (d : Thread nD τ) m fullShare X

theorem off2 : (![0, 0] : Fin 2 → ℕ) = fun _ => 0 := by decide
theorem off4 : (![0, 0, 0, 0] : Fin 4 → ℕ) = fun _ => 0 := by decide

/-- The read windows' contents. -/
def Own13 (B : Blk F) : sProp 𝕄 :=
  iprop(Own d arg2 B.h0 ∗ Own d arg3 B.h1 ∗ Own d arg4 B.m2 ∗ Own d arg5 B.wl0 ∗ Own d arg6 B.wr0 ∗ Own d arg7 B.b0
    ∗ Own d arg8 B.wl1 ∗ Own d arg9 B.wr1 ∗ Own d arg10 B.b1 ∗ Own d arg11 B.dwt ∗ Own d arg12 B.kdt ∗ Own d arg13 B.wp ∗ Own d arg14 B.bp)

/-- A run that returns at once. -/
theorem ret_rule {α : Type} (a : α) (Q : α → sProp 𝕄) : Q a ⊢ TW d (pure a) Q := by
  rw [show (pure a : Prog (TpuEff nD τ sig (Elt F) Λ₀ .tc) α) = Prog.ret a from rfl, TW, wp_ret]
  iintro H
  imodintro
  iexact H

/-- A run in two pieces. -/
theorem bind_rule {α β : Type} (p : Prog (TpuEff nD τ sig (Elt F) Λ₀ .tc) α) (k : α → Prog (TpuEff nD τ sig (Elt F) Λ₀ .tc) β)
    (Q : β → sProp 𝕄) : TW d p (fun a => TW d (k a) Q) ⊢ TW d (p >>= k) Q :=
  Entails.of_eq (wp_bind frame (wpE (defs₀ (F := F)) 𝒱₀ (d : Thread nD τ) none) Set.univ p k Q).symm

set_option maxRecDepth 16384 in
/-- The first part's run. -/
theorem part1_rule (B : Blk F) (Q : _ → sProp 𝕄) :
    iprop(Own13 d arg2 arg3 arg4 arg5 arg6 arg7 arg8 arg9 arg10 arg11 arg12 arg13 arg14 B)
      ⊢ iprop((Own13 d arg2 arg3 arg4 arg5 arg6 arg7 arg8 arg9 arg10 arg11 arg12 arg13 arg14 B
          -∗ Q ⟨BitVec.ofNat 32 (i 1).val, k1_pay4 B.b0, k1_pay5 B.h1 B.wl0 B.wr0 B.b0 B.h0, k1_pay6 B.h1 B.wl0, k1_pay7 B.m2, k1_pay8 B.wr0,
            constant S10240x128 .f32 0x00000000#32⟩)
        -∗ TW d (k1_part1 i arg2 harg2 arg3 harg3 arg4 harg4 arg5 harg5 arg6 harg6 arg7 harg7 arg8 harg8 arg9 harg9 arg10 harg10
            arg11 harg11 arg12 harg12 arg13 harg13 arg14 harg14 arg15 harg15 arg16 harg16) Q) := by
  rw [k1_part1_eq_skeleton]
  unfold k1_part1_skel Own13
  iintro ⟨H2, H3, H4, H5, H6, H7, Hr⟩ Hk
  simp only [Prog.bind_lift]
  iapply (load_rule d arg3 off4) $$ H3
  iintro H3
  iapply (load_rule d arg4 off4) $$ H4
  iintro H4
  iapply (load_rule d arg5 off2) $$ H5
  iintro H5
  iapply (load_rule d arg6 off2) $$ H6
  iintro H6
  iapply (load_rule d arg7 off2) $$ H7
  iintro H7
  iapply (load_rule d arg2 off2) $$ H2
  iintro H2
  iapply (ret_rule d)
  iapply Hk
  iframe

set_option maxRecDepth 16384 in
/-- The second part's run. -/
theorem part2_rule (B : Blk F) (v7 : FVec F S1x128 .f32) (v30 : FVec F S2048x128 .f32) (v32 v33 : FVec F S10240x128 .f32)
    (v35 : FVec F S128x128 .f32) (z : FVec F S10240x128 .f32) (Q : _ → sProp 𝕄) :
    iprop(Own13 d arg2 arg3 arg4 arg5 arg6 arg7 arg8 arg9 arg10 arg11 arg12 arg13 arg14 B)
      ⊢ iprop((Own13 d arg2 arg3 arg4 arg5 arg6 arg7 arg8 arg9 arg10 arg11 arg12 arg13 arg14 B
          -∗ Q ⟨k1_pay9 v7 v30 v32 v33 v35 z B.wl1 B.wr1 B.b1, k1_pay10 B.dwt⟩)
        -∗ TW d (k1_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 v7 v30 v32 v33 v35 z) Q) := by
  rw [k1_part2_eq_skeleton]
  unfold k1_part2_skel Own13
  iintro ⟨H2, H3, H4, H5, H6, H7, H8, H9, H10, H11, Hr⟩ Hk
  simp only [Prog.bind_lift]
  iapply (load_rule d arg8 off2) $$ H8
  iintro H8
  iapply (load_rule d arg9 off2) $$ H9
  iintro H9
  iapply (load_rule d arg10 off2) $$ H10
  iintro H10
  iapply (load_rule d arg11 off2) $$ H11
  iintro H11
  iapply (ret_rule d)
  iapply Hk
  iframe

set_option maxRecDepth 16384 in
/-- The third part's run. -/
theorem part3_rule (B : Blk F) (t : BitVec 32) (v79 : FVec F S4x64 .f32) (Q : _ → sProp 𝕄) :
    iprop(Own13 d arg2 arg3 arg4 arg5 arg6 arg7 arg8 arg9 arg10 arg11 arg12 arg13 arg14 B)
      ⊢ iprop((Own13 d arg2 arg3 arg4 arg5 arg6 arg7 arg8 arg9 arg10 arg11 arg12 arg13 arg14 B
          -∗ Q ⟨k1_pay12 v79, k1_pay14 B.kdt, k1_pay15 B.kdt, k1_pay16 B.kdt, k1_pay17 t v79 B.kdt, k1_pay18 v79 B.kdt, 1#32⟩)
        -∗ TW d (k1_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 t v79) Q) := by
  rw [k1_part3_eq_skeleton]
  unfold k1_part3_skel Own13
  iintro ⟨H2, H3, H4, H5, H6, H7, H8, H9, H10, H11, H12, Hr⟩ Hk
  simp only [Prog.bind_lift]
  iapply (load_rule d arg12 off2) $$ H12
  iintro H12
  iapply (ret_rule d)
  iapply Hk
  iframe

set_option maxRecDepth 16384 in
/-- The fourth part's run: the accumulator starts from zero at a block's first point. -/
theorem part4_rule (v86 : FVec F S4x64 .f32) (v94 v97 v100 v116 v126 : FVec F S1x64 .f32) (c : BitVec 32)
    (a : Vec F S2048x64 .f32) (Q : _ → sProp 𝕄) :
    Own d arg16 a
      ⊢ iprop((Own d arg16 (if firstB i then k1_pay20 (F := F) else a)
          -∗ Q (k1_pay19 (BitVec.ofNat 32 (i 1).val) v86 v94 v97 v100 v116 v126 c))
        -∗ TW d (k1_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) v86 v94 v97 v100 v116 v126 c) Q) := by
  rw [k1_part4_eq_skeleton]
  unfold k1_part4_skel
  by_cases h : firstB i
  · rw [if_pos h]
    unfold firstB at h
    iintro H Hk
    simp only [dif_pos h, Prog.bind_lift, Prog.bind_op]
    iapply (load_rule d arg16 off2) $$ H
    iintro H
    iapply (store_rule d arg16 off2) $$ H
    iintro H
    iapply (ret_rule d)
    iapply Hk
    iexact H
  · rw [if_neg h]
    unfold firstB at h
    iintro H Hk
    simp only [dif_neg h]
    iapply (ret_rule d)
    iapply Hk
    iexact H

set_option maxRecDepth 16384 in
set_option maxHeartbeats 1000000 in
/-- The body's run at a grid point. -/
theorem body_rule (B : Blk F) (a o : Vec F S2048x64 .f32) (Q : PUnit → sProp 𝕄) :
    iprop(Own13 d arg2 arg3 arg4 arg5 arg6 arg7 arg8 arg9 arg10 arg11 arg12 arg13 arg14 B ∗ Own d arg15 o ∗ Own d arg16 a)
      ⊢ iprop((Own13 d arg2 arg3 arg4 arg5 arg6 arg7 arg8 arg9 arg10 arg11 arg12 arg13 arg14 B
          ∗ Own d arg15 (if k1_cond2 i = 1#1 then outStep B (accStep (BitVec.ofNat 32 (i 1).val) B (if firstB i then k1_pay20 (F := F) else a)) else o)
          ∗ Own d arg16 (accStep (BitVec.ofNat 32 (i 1).val) B (if firstB i then k1_pay20 (F := F) else a)) -∗ Q ⟨⟩)
        -∗ TW d (cc1__tc_body i arg2 harg2 arg3 harg3 arg4 harg4 arg5 harg5 arg6 harg6 arg7 harg7 arg8 harg8 arg9 harg9 arg10 harg10 arg11 harg11 arg12 harg12 arg13 harg13 arg14 harg14 arg15 harg15 arg16 harg16) Q) := by
  rw [cc1__tc_body_eq_skeleton]
  unfold cc1__tc_body_skel
  iintro ⟨HW, H15, H16⟩ Hk
  iapply (bind_rule d)
  iapply (part1_rule d i arg2 harg2 arg3 harg3 arg4 harg4 arg5 harg5 arg6 harg6 arg7 harg7 arg8 harg8 arg9 harg9 arg10 harg10
    arg11 harg11 arg12 harg12 arg13 harg13 arg14 harg14 arg15 harg15 arg16 harg16 B) $$ HW
  iintro HW
  dsimp only
  iapply (bind_rule d)
  iapply (part2_rule d i arg2 harg2 arg3 harg3 arg4 harg4 arg5 harg5 arg6 harg6 arg7 harg7 arg8 harg8 arg9 harg9 arg10 harg10
    arg11 harg11 arg12 harg12 arg13 harg13 arg14 harg14 arg15 harg15 arg16 harg16 B) $$ HW
  iintro HW
  dsimp only
  iapply (bind_rule d)
  iapply (part3_rule d i arg2 harg2 arg3 harg3 arg4 harg4 arg5 harg5 arg6 harg6 arg7 harg7 arg8 harg8 arg9 harg9 arg10 harg10
    arg11 harg11 arg12 harg12 arg13 harg13 arg14 harg14 arg15 harg15 arg16 harg16 B) $$ HW
  iintro HW
  dsimp only
  iapply (bind_rule d)
  iapply (part4_rule d i arg2 harg2 arg3 harg3 arg4 harg4 arg5 harg5 arg6 harg6 arg7 harg7 arg8 harg8 arg9 harg9 arg10 harg10
    arg11 harg11 arg12 harg12 arg13 harg13 arg14 harg14 arg15 harg15 arg16 harg16) $$ H16
  iintro H16
  simp only [Prog.bind_lift]
  iapply (load_rule d arg16 off2) $$ H16
  iintro H16
  iapply (load_rule d arg16 off2) $$ H16
  iintro H16
  iapply (store_rule d arg16 off2) $$ H16
  iintro H16
  by_cases h : k1_cond2 i = 1#1
  · rw [if_pos h]
    simp only [dif_pos h, Prog.bind_op]
    iapply (load_rule d arg16 off2) $$ H16
    iintro H16
    unfold Own13
    icases HW with ⟨H2, H3, H4, H5, H6, H7, H8, H9, H10, H11, H12, H13, H14⟩
    iapply (load_rule d arg13 off2) $$ H13
    iintro H13
    iapply (load_rule d arg14 off2) $$ H14
    iintro H14
    iapply (load_rule d arg15 off2) $$ H15
    iintro H15
    iapply (store_rule d arg15 off2) $$ H15
    iintro H15
    iapply (ret_rule d)
    iapply Hk
    unfold outStep accStep spikes coef
    iframe
  · rw [if_neg h]
    simp only [dif_neg h]
    iapply (ret_rule d)
    iapply Hk
    unfold accStep spikes coef
    iframe

end Body

end Cert.Proof.Tile
-- ==== Proof.TcRegion.lean ====
/-
  The dense kernel's pipeline: the contents of its windows at each grid point, the accumulator between the points, and the
  body's obligation at every point.
-/
module

public import proofs.«01_k».proof.Proof.TcBody
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (HIx 1) (Elt F) ℕ UU ℕ

/-- The contents of every buffer when the region is entered. -/
abbrev Entry (F : FTy → Type) : Type := (d : Dev nD) → (b : Ref sig .tc) → Buf (Elt F) ((d : Thread nD τ).loc b)

variable (V : Entry F) (Rc : Dev nD → Set (SemLoc sig × HIx 1))

/-- The block of window `w`'s array at grid point `t`. -/
@[reducible] noncomputable def blockAt (d : Dev nD) (w : Fin 14) (t : Fin cfg1.N) : ((cfg1.win w).xblock (cfg1.grid.coords t)).Idx → Elt F (cfg1.win w).elt :=
  ((cfg1.win w).blk t).view.read (Elt F) (V d (Pipeline.arrRef spec1 w))

/-- The read windows' contents at grid point `t`. -/
noncomputable def blkAt (d : Dev nD) (t : Fin cfg1.N) : Blk F where
  h0 := blockAt V d 0 t
  h1 := blockAt V d 1 t
  m2 := blockAt V d 2 t
  wl0 := blockAt V d 3 t
  wr0 := blockAt V d 4 t
  b0 := blockAt V d 5 t
  wl1 := blockAt V d 6 t
  wr1 := blockAt V d 7 t
  b1 := blockAt V d 8 t
  dwt := blockAt V d 9 t
  kdt := blockAt V d 10 t
  wp := blockAt V d 11 t
  bp := blockAt V d 12 t

/-- The time step of a grid point. -/
abbrev stepOf (t : Fin cfg1.N) : BitVec 32 := BitVec.ofNat 32 (cfg1.grid.coords t 1).val

/-- The accumulator after a grid point, from what it was before. -/
noncomputable def accNext (d : Dev nD) (t : Fin cfg1.N) (a : FVec F S2048x64 .f32) : FVec F S2048x64 .f32 :=
  accStep (stepOf t) (blkAt V d t) (if firstB (cfg1.grid.coords t) then k1_pay20 (F := F) else a)

/-- The accumulator before grid point `n`. -/
noncomputable def accAt (d : Dev nD) : ℕ → FVec F S2048x64 .f32
  | 0 => k1_pay20 (F := F)
  | n + 1 => if h : n < cfg1.N then accNext V d ⟨n, h⟩ (accAt d n) else accAt d n

theorem accAt_succ (d : Dev nD) (t : Fin cfg1.N) : accAt V d (t.val + 1) = accNext V d t (accAt V d t.val) := by
  rw [accAt, dif_pos t.isLt]

/-- The proof data of the pipeline: the arrays at their entry contents; each read window's block, and the result's block where it
    is stored; between the points the accumulator, known from the first point on. -/
noncomputable def dats (_ : Fin 1) (d : Dev nD) : Dat τ (Elt F) (HIx 1) ℕ UU ℕ cfg1 d where
  A w := V d (Pipeline.arrRef spec1 w)
  after w t := match w with
    | ⟨0, _⟩ => blockAt V d 0 t
    | ⟨1, _⟩ => blockAt V d 1 t
    | ⟨2, _⟩ => blockAt V d 2 t
    | ⟨3, _⟩ => blockAt V d 3 t
    | ⟨4, _⟩ => blockAt V d 4 t
    | ⟨5, _⟩ => blockAt V d 5 t
    | ⟨6, _⟩ => blockAt V d 6 t
    | ⟨7, _⟩ => blockAt V d 7 t
    | ⟨8, _⟩ => blockAt V d 8 t
    | ⟨9, _⟩ => blockAt V d 9 t
    | ⟨10, _⟩ => blockAt V d 10 t
    | ⟨11, _⟩ => blockAt V d 11 t
    | ⟨12, _⟩ => blockAt V d 12 t
    | ⟨13, _⟩ => outStep (blkAt V d t) (accAt V d (t.val + 1))
    | ⟨_ + 14, h⟩ => absurd h (Nat.not_lt.2 (Nat.le_add_left _ _))
  Φ t := iprop(∃ f, ⌜t.val ≠ 0 → f = accAt V d t.val⌝ ∗ ((d : Thread nD τ).loc cc1_scratch0) ↦{fullShare} f)
  q _ := fullShare
  owed _ := 0
  recorded _ := Rc d

theorem A_eq (d : Dev nD) (w : Fin cfg1.W) : (dats V Rc 0 d).A w = V d (Pipeline.arrRef spec1 w) := by
  dsimp only [dats]

/-- A grid point's coordinates. -/
theorem coords_one : ∀ t : Fin grid1.N, (grid1.coords t 1).val = t.val % 5 := by decide +kernel
theorem coords_zero : ∀ t : Fin grid1.N, (grid1.coords t 0).val = t.val / 5 := by decide +kernel

theorem first5 : ∀ n : Fin 5,
    (Scalar.cmpi .ne (Scalar.extui (Scalar.cmpi .eq (BitVec.ofNat 32 n.val) 0#32) : BitVec 32) 0#32 = 1#1) ↔ n.val = 0 := by decide
theorem last5 : ∀ n : Fin 5,
    (Scalar.cmpi .ne (Scalar.extui (Scalar.cmpi .eq (BitVec.ofNat 32 n.val) 4#32) : BitVec 32) 0#32 = 1#1) ↔ n.val = 4 := by decide

theorem firstB_iff (t : Fin cfg1.N) : firstB (cfg1.grid.coords t) ↔ t.val % 5 = 0 := by
  rw [← coords_one t]; exact first5 (grid1.coords t 1)
theorem cond2_iff (t : Fin cfg1.N) : k1_cond2 (cfg1.grid.coords t) = 1#1 ↔ t.val % 5 = 4 := by
  rw [← coords_one t]; exact last5 (grid1.coords t 1)

theorem idle_of (t : Fin cfg1.N) (h : t.val % 5 = 4) : idle1 13 (grid1.coords t) = false :=
  (show idle1 13 (cfg1.grid.coords t) = !(k1_cond2 (cfg1.grid.coords t) == 1#1) from rfl).trans (by rw [(cond2_iff t).mpr h]; rfl)
theorem idle_of_not (t : Fin cfg1.N) (h : ¬ t.val % 5 = 4) : idle1 13 (grid1.coords t) = true :=
  (show idle1 13 (cfg1.grid.coords t) = !(k1_cond2 (cfg1.grid.coords t) == 1#1) from rfl).trans
    (by rw [beq_eq_false_iff_ne.mpr fun e => h ((cond2_iff t).mp e)]; rfl)
theorem flush_of_not (t : Fin cfg1.N) (h : ¬ t.val % 5 = 4) : (cfg1.win 13).flush t = false :=
  Bool.eq_false_iff.mpr fun e => h ((flush1_13 t).mp e)

/-- A read window holds its block at every point. -/
theorem before_in (d : Dev nD) (w : Fin 14) (hw : (cfg1.win w).isOut = false) (hl : ∀ i, cfg1.idle w i = false)
    (hc : ∀ t t' : Fin cfg1.N, (cfg1.win w).index t = (cfg1.win w).index t' →
      (cfg1.win w).clip (cfg1.grid.coords t) = (cfg1.win w).clip (cfg1.grid.coords t'))
    (hk : ∀ t, (cfg1.win w).cut (cfg1.grid.coords t) ((dats V Rc 0 d).after w t) = (dats V Rc 0 d).blockOf w t)
    (t : Fin cfg1.N) (e : (cfg1.win w).block.Idx → Elt F (cfg1.win w).elt) :
    (dats V Rc 0 d).before w t e = (dats V Rc 0 d).fetched w t e :=
  (dats V Rc 0 d).before_in_eq_fetched w hw hl hc hk t e

/-- What a read window holds at a point, as a block. -/
theorem found_in (d : Dev nD) (t : Fin cfg1.N) :
    (∀ e, (dats V Rc 0 d).before 0 t e = (blkAt V d t).h0) ∧ (∀ e, (dats V Rc 0 d).before 1 t e = (blkAt V d t).h1)
    ∧ (∀ e, (dats V Rc 0 d).before 2 t e = (blkAt V d t).m2) ∧ (∀ e, (dats V Rc 0 d).before 3 t e = (blkAt V d t).wl0)
    ∧ (∀ e, (dats V Rc 0 d).before 4 t e = (blkAt V d t).wr0) ∧ (∀ e, (dats V Rc 0 d).before 5 t e = (blkAt V d t).b0)
    ∧ (∀ e, (dats V Rc 0 d).before 6 t e = (blkAt V d t).wl1) ∧ (∀ e, (dats V Rc 0 d).before 7 t e = (blkAt V d t).wr1)
    ∧ (∀ e, (dats V Rc 0 d).before 8 t e = (blkAt V d t).b1) ∧ (∀ e, (dats V Rc 0 d).before 9 t e = (blkAt V d t).dwt)
    ∧ (∀ e, (dats V Rc 0 d).before 10 t e = (blkAt V d t).kdt) ∧ (∀ e, (dats V Rc 0 d).before 11 t e = (blkAt V d t).wp)
    ∧ (∀ e, (dats V Rc 0 d).before 12 t e = (blkAt V d t).bp) := by
  refine ⟨?_, ?_, ?_, ?_, ?_, ?_, ?_, ?_, ?_, ?_, ?_, ?_, ?_⟩ <;>
    exact fun e => before_in V Rc d _ rfl (fun _ => rfl) (fun _ _ _ => rfl) (fun _ => rfl) t e

set_option maxHeartbeats 4000000 in
/-- The body's obligation at every grid point. -/
theorem body_obligation (d : Dev nD) : BodyObligation (dats V Rc 0 d) (defs₀ (F := F)) 𝒱₀ none Set.univ := fun t => by
  obtain ⟨h0, h1, h2, h3, h4, h5, h6, h7, h8, h9, h10, h11, h12⟩ := found_in V Rc d t
  rw [bigSep_W1, bigSep_W1]
  rw [show (dats V Rc 0 d).Φ t.castSucc
      = iprop(∃ f, ⌜t.val ≠ 0 → f = accAt V d t.val⌝ ∗ ((d : Thread nD τ).loc cc1_scratch0) ↦{fullShare} f) from rfl,
    show (dats V Rc 0 d).Φ t.succ
      = iprop(∃ f, ⌜t.val + 1 ≠ 0 → f = accAt V d (t.val + 1)⌝ ∗ ((d : Thread nD τ).loc cc1_scratch0) ↦{fullShare} f) from rfl,
    show (dats V Rc 0 d).owesAt none t.castSucc = (dats V Rc 0 d).owesAt none t.succ from rfl]
  iintro ⟨⟨%f, %hf, Ha⟩, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
  rw [h0, h1, h2, h3, h4, h5, h6, h7, h8, h9, h10, h11, h12]
  iapply (body_rule d (cfg1.grid.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (st1_6 t) (hstage1_6 ((cfg1.slots t 6).cast nbuf1_6)) (st1_7 t) (hstage1_7 ((cfg1.slots t 7).cast nbuf1_7))
    (st1_8 t) (hstage1_8 ((cfg1.slots t 8).cast nbuf1_8)) (st1_9 t) (hstage1_9 ((cfg1.slots t 9).cast nbuf1_9))
    (st1_10 t) (hstage1_10 ((cfg1.slots t 10).cast nbuf1_10)) (st1_11 t) (hstage1_11 ((cfg1.slots t 11).cast nbuf1_11))
    (st1_12 t) (hstage1_12 ((cfg1.slots t 12).cast nbuf1_12)) (st1_13 t) (hstage1_13 ((cfg1.slots t 13).cast nbuf1_13))
    (Memref.whole cc1_scratch0) (Memref.isWhole_whole _) (blkAt V d t) f ((dats V Rc 0 d).before 13 t e13)) $$ [H0 H1 H2 H3 H4 H5 H6 H7 H8 H9 H10 H11 H12 H13 Ha]
  · isplitl [H0 H1 H2 H3 H4 H5 H6 H7 H8 H9 H10 H11 H12]
    · unfold Own13
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexact H13
    unfold Own; rw [owns_whole_eq]
    iexists f; isplitr; · ipureintro; rfl
    iexact Ha
  have ea : accStep (BitVec.ofNat 32 (cfg1.grid.coords t 1).val) (blkAt V d t) (if firstB (cfg1.grid.coords t) then k1_pay20 (F := F) else f)
      = accAt V d (t.val + 1) := by
    rw [accAt_succ]
    unfold accNext
    by_cases hz : t.val = 0
    · rw [if_pos ((firstB_iff t).mpr (by omega)), if_pos ((firstB_iff t).mpr (by omega))]
    · rw [hf hz]
  rw [ea]
  unfold Own13 Own
  rw [owns_whole_eq]
  iintro ⟨⟨H0, H1, H2, H3, H4, H5, H6, H7, H8, H9, H10, H11, H12⟩, H13, ⟨%g, %hg, Ha⟩⟩
  subst hg
  isplitl [Ha]
  · iexists _; isplitr; swap; (· iexact Ha); ipureintro; exact fun _ => rfl
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  by_cases h5 : t.val % 5 = 4
  · rw [if_pos ((cond2_iff t).mpr h5)]
    simp only [idle_of t h5]
    iexact H13
  · rw [if_neg fun e => h5 ((cond2_iff t).mp e)]
    simp only [idle_of_not t h5, flush_of_not t h5]
    iexists e13
    iexact H13

end Cert.Proof.Tile
-- ==== Proof.TileRun.lean ====
/-
  A tile's whole run, chunk by chunk: what the tile holds of a chunk before its gathers are issued, while they run, while
  its rows are written out, and after; and the run of the task from all chunks to do to all chunks done.
-/
module

public import proofs.«01_k».proof.Proof.Tile

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Run

variable (d : Dev nD) (L : grid0.Coords)
variable (O : CellTallies nD τ sig (HIx 1)) (W : Waits sig (HIx 1))
variable (x : S100000x128.Idx → Elt F .f32) (ls : Role → Fin 25 → S128.Idx → Elt F .i32) (xq : Role → Bool → PosShare TreeShare)

/-- The number of a gather's scoped copy in its chunk. -/
def jOf : Role → Fin 3 | .h => 0 | .e => 1 | .o => 2

abbrev seqOf (r : Role) (c : Fin 25) : Memref sig .scVector .hbm S128 .i32 := seqM L r (tOf c) (kOf c)
abbrev dstOf (b : Bool) (c : Fin 25) : Memref sig .scVector .hbm S128x128 .f32 := dstM L b (tOf c) (kOf c)
abbrev rOf (r : Role) (c : Fin 25) : DmaSem sig := rSem (nOf c (jOf r))

/-- The credit of a gather's rows, and of a write-out. -/
def gN : ℕ := (bufM .h false).view.dmaCredit

theorem gN_eq (r : Role) (p : Bool) : (bufM r p).view.dmaCredit = gN := by
  cases r <;> cases p <;> decide
theorem gN_sum (r : Role) (p : Bool) : ∑ j, ((bufM r p).slice (S128x128.rowRect gathers_S100000x128_S128x128.axis' j)
      (S128x128.stride_rowRect gathers_S100000x128_S128x128.axis' j)).view.dmaCredit = gN := by
  cases r <;> cases p <;> decide

/-! ## One gather -/

/-- What a gather needs, idle: its list, its rows, its semaphore and its share of `x`. -/
def idle (r : Role) (p : Bool) : sProp 𝕄 :=
  iprop(free (F := F) d L (idxM r p) ∗ free (F := F) d L (bufM r p) ∗ zero (F := F) d L (gSem r p) ∗ held (F := F) d L xAll (xq r p) x)

/-- A gather running, of the rows `l` names. -/
def running (r : Role) (p : Bool) (l : S128.Idx → Elt F .i32) : sProp 𝕄 :=
  inFlight (F := F) d L (gSem r p) gN
    iprop(held (F := F) d L (bufM r p) fullShare (gathered x l) ∗ held (F := F) d L xAll (xq r p) x ∗ free (F := F) d L (idxM r p))

/-- A gather over: its rows in its buffer. -/
def rest (r : Role) (p : Bool) : sProp 𝕄 :=
  iprop(free (F := F) d L (idxM r p) ∗ zero (F := F) d L (gSem r p) ∗ held (F := F) d L xAll (xq r p) x)

theorem start_rule (r : Role) (p : Bool) (src : Memref sig .scVector .hbm S128 .i32) (s : DmaSem sig) (l : S128.Idx → Elt F .i32)
    (hl : ∀ j, (l j).toNat < 100000) {α : Type} {k : PUnit → TP F L α} {Q : α → sProp 𝕄} :
    iprop(mayW (F := F) d L O ∗ idle (F := F) d L x xq r p ∗ held (F := F) d L src fullShare l ∗ zero (F := F) d L s ∗ owing (F := F) d L O W)
      ⊢ iprop((running (F := F) d L x xq r p l ∗ held (F := F) d L src fullShare l ∗ zero (F := F) d L s ∗ owing (F := F) d L O W
            -∗ WP (F := F) d L (k ⟨⟩) Q)
          -∗ WP (F := F) d L (do fetch L src (idxM r p) (idxM_whole r p) s; gather L (idxM r p) (bufM r p) (gSem r p) >>= k) Q) := by
  unfold idle running
  iintro ⟨#Hmw, ⟨Hi, Hb, Hg, Hx⟩, Hs, Hv, HO⟩ HK
  iapply (seq (F := F) d L (fetch_rule (F := F) d L O W src (idxM r p) (idxM_whole r p) s fullShare l)) $$ [Hs Hi Hv HO]
  · isplitr; · iexact Hmw
    isplitl [Hs]; · iexact Hs
    isplitl [Hi]; · iexact Hi
    isplitl [Hv]; · iexact Hv
    iexact HO
  iintro ⟨Hi, Hs, Hv, HO⟩
  iapply (seq (F := F) d L (gather_rule (F := F) d L (idxM r p) (bufM r p) (gSem r p) gN (gN_sum r p) (xq r p) x l hl)) $$ [Hi Hb Hg Hx]
  · isplitl [Hx]; · iexact Hx
    isplitl [Hb]; · iexact Hb
    isplitl [Hi]; · iexact Hi
    iexact Hg
  iintro Hf
  iapply HK
  isplitl [Hf]; · iexact Hf
  isplitl [Hs]; · iexact Hs
  isplitl [Hv]; · iexact Hv
  iexact HO

theorem finish_rule (r : Role) (p : Bool) (l : S128.Idx → Elt F .i32) {α : Type} {k : PUnit → TP F L α} {Q : α → sProp 𝕄} :
    iprop(mayW (F := F) d L O ∗ running (F := F) d L x xq r p l ∗ owing (F := F) d L O W)
      ⊢ iprop((held (F := F) d L (bufM r p) fullShare (gathered x l) ∗ rest (F := F) d L x xq r p ∗ owing (F := F) d L O W
            -∗ WP (F := F) d L (k ⟨⟩) Q)
          -∗ WP (F := F) d L (gatherWait L (bufM r p) (bufM_whole r p) (gSem r p) >>= k) Q) := by
  unfold running rest
  iintro ⟨#Hmw, Hf, HO⟩ HK
  iapply (seq (F := F) d L (gatherWait_rule (F := F) d L O W (bufM r p) (bufM_whole r p) (gSem r p) gN (gN_eq r p) _)) $$ [Hf HO]
  · isplitr; · iexact Hmw
    isplitl [Hf]; · iexact Hf
    iexact HO
  iintro ⟨⟨Hb, Hx, Hi⟩, Hg, HO⟩
  iapply HK
  isplitl [Hb]; · iexact Hb
  isplitl [Hi Hg Hx]
  · isplitl [Hi]; · iexact Hi
    isplitl [Hg]; · iexact Hg
    iexact Hx
  iexact HO

/-! ## A chunk -/

/-- A parity's buffers and semaphores, idle. -/
def slot (p : Bool) : sProp 𝕄 :=
  iprop(idle (F := F) d L x xq .h p ∗ idle (F := F) d L x xq .e p ∗ idle (F := F) d L x xq .o p
    ∗ zero (F := F) d L (wSem false p) ∗ zero (F := F) d L (wSem true p))

/-- A chunk's row numbers and their copies' semaphores. -/
def lists (c : Fin 25) : sProp 𝕄 :=
  iprop((held (F := F) d L (seqOf L .h c) fullShare (ls .h c) ∗ zero (F := F) d L (rOf .h c))
    ∗ (held (F := F) d L (seqOf L .e c) fullShare (ls .e c) ∗ zero (F := F) d L (rOf .e c))
    ∗ (held (F := F) d L (seqOf L .o c) fullShare (ls .o c) ∗ zero (F := F) d L (rOf .o c)))

/-- What a chunk writes: the first hop's rows, and the second hop's sums. -/
def outVal (b : Bool) (c : Fin 25) : S128x128.Idx → Elt F .f32 :=
  if b then rowsSum (gathered x (ls .e c)) (gathered x (ls .o c)) else gathered x (ls .h c)

def todo (c : Fin 25) : sProp 𝕄 :=
  iprop(lists (F := F) d L ls c ∗ free (F := F) d L (dstOf L false c) ∗ free (F := F) d L (dstOf L true c))

def issued (c : Fin 25) : sProp 𝕄 :=
  iprop((running (F := F) d L x xq .h (par c) (ls .h c) ∗ running (F := F) d L x xq .e (par c) (ls .e c) ∗ running (F := F) d L x xq .o (par c) (ls .o c)
      ∗ zero (F := F) d L (wSem false (par c)) ∗ zero (F := F) d L (wSem true (par c)))
    ∗ todo (F := F) d L ls c)

/-- A write-out running. -/
def leaving (b : Bool) (c : Fin 25) (buf : Memref sig .scVector .vmem S128x128 .f32) : sProp 𝕄 :=
  inFlight (F := F) d L (wSem b (par c)) (dstOf L b c).view.dmaCredit
    iprop(held (F := F) d L (dstOf L b c) fullShare (outVal x ls b c) ∗ held (F := F) d L buf fullShare (outVal x ls b c))

def drained (c : Fin 25) : sProp 𝕄 :=
  iprop((rest (F := F) d L x xq .h (par c) ∗ rest (F := F) d L x xq .e (par c) ∗ idle (F := F) d L x xq .o (par c))
    ∗ lists (F := F) d L ls c
    ∗ leaving (F := F) d L x ls false c (bufM .h (par c)) ∗ leaving (F := F) d L x ls true c (bufM .e (par c)))

def done (c : Fin 25) : sProp 𝕄 :=
  iprop(lists (F := F) d L ls c ∗ held (F := F) d L (dstOf L false c) fullShare (outVal x ls false c)
    ∗ held (F := F) d L (dstOf L true c) fullShare (outVal x ls true c))

variable (hls : ∀ r c j, (ls r c j).toNat < 100000)

include hls in
theorem issue_rule (c : Fin 25) :
    iprop(mayW (F := F) d L O ∗ slot (F := F) d L x xq (par c) ∗ todo (F := F) d L ls c ∗ owing (F := F) d L O W)
      ⊢ WP (F := F) d L (issue L c) (fun _ => iprop(issued (F := F) d L x ls xq c ∗ owing (F := F) d L O W)) := by
  unfold slot todo issued todo lists issue issueOne
  iintro ⟨#Hmw, ⟨Hh, He, Ho, Hw, Hw'⟩, ⟨⟨⟨Hlh, Hrh⟩, ⟨Hle, Hre⟩, ⟨Hlo, Hro⟩⟩, Hd, Hd'⟩, HO⟩
  simp only [bind_assoc]
  iapply (start_rule (F := F) d L O W x xq .h (par c) (seqOf L .h c) (rOf .h c) (ls .h c) (hls _ _)) $$ [Hh Hlh Hrh HO]
  · isplitr; · iexact Hmw
    isplitl [Hh]; · iexact Hh
    isplitl [Hlh]; · iexact Hlh
    isplitl [Hrh]; · iexact Hrh
    iexact HO
  iintro ⟨Hh, Hlh, Hrh, HO⟩
  iapply (start_rule (F := F) d L O W x xq .e (par c) (seqOf L .e c) (rOf .e c) (ls .e c) (hls _ _)) $$ [He Hle Hre HO]
  · isplitr; · iexact Hmw
    isplitl [He]; · iexact He
    isplitl [Hle]; · iexact Hle
    isplitl [Hre]; · iexact Hre
    iexact HO
  iintro ⟨He, Hle, Hre, HO⟩
  rw [← bind_pure (gather L (F := F) (idxM .o (par c)) (bufM .o (par c)) (gSem .o (par c)))]
  iapply (start_rule (F := F) d L O W x xq .o (par c) (seqOf L .o c) (rOf .o c) (ls .o c) (hls _ _)) $$ [Ho Hlo Hro HO]
  · isplitr; · iexact Hmw
    isplitl [Ho]; · iexact Ho
    isplitl [Hlo]; · iexact Hlo
    isplitl [Hro]; · iexact Hro
    iexact HO
  iintro ⟨Ho, Hlo, Hro, HO⟩
  rw [show (pure PUnit.unit : TP F L PUnit) = Prog.ret PUnit.unit from rfl, WP, wp_ret]
  imodintro
  iframe

theorem drain_rule (c : Fin 25) :
    iprop(mayW (F := F) d L O ∗ issued (F := F) d L x ls xq c ∗ owing (F := F) d L O W)
      ⊢ WP (F := F) d L (drain L c) (fun _ => iprop(drained (F := F) d L x ls xq c ∗ owing (F := F) d L O W)) := by
  unfold issued drained todo drain leaving idle
  iintro ⟨#Hmw, ⟨⟨Hh, He, Ho, Hw, Hw'⟩, Hl, Hd, Hd'⟩, HO⟩
  iapply (finish_rule (F := F) d L O W x xq .h (par c) (ls .h c)) $$ [Hh HO]
  · isplitr; · iexact Hmw
    isplitl [Hh]; · iexact Hh
    iexact HO
  iintro ⟨Hh, Hhr, HO⟩
  iapply (seq (F := F) d L (out_rule (F := F) d L (bufM .h (par c)) (bufM_whole _ _) (dstOf L false c) (wSem false (par c)) _)) $$ [Hh Hd Hw]
  · isplitl [Hh]; · iexact Hh
    isplitl [Hd]; · iexact Hd
    iexact Hw
  iintro Hw
  iapply (finish_rule (F := F) d L O W x xq .e (par c) (ls .e c)) $$ [He HO]
  · isplitr; · iexact Hmw
    isplitl [He]; · iexact He
    iexact HO
  iintro ⟨He, Her, HO⟩
  iapply (finish_rule (F := F) d L O W x xq .o (par c) (ls .o c)) $$ [Ho HO]
  · isplitr; · iexact Hmw
    isplitl [Ho]; · iexact Ho
    iexact HO
  iintro ⟨Ho, Hor, HO⟩
  iapply (seq (F := F) d L (addRows_rule (F := F) d L (bufM .e (par c)) (bufM .o (par c)) _ _)) $$ [He Ho]
  · isplitl [He]; · iexact He
    iexact Ho
  iintro ⟨He, Ho⟩
  rw [← bind_pure (out L (F := F) (bufM .e (par c)) (bufM_whole _ _) (dstM L true (tOf c) (kOf c)) (wSem true (par c)))]
  iapply (seq (F := F) d L (out_rule (F := F) d L (bufM .e (par c)) (bufM_whole _ _) (dstOf L true c) (wSem true (par c)) _)) $$ [He Hd' Hw']
  · isplitl [He]; · iexact He
    isplitl [Hd']; · iexact Hd'
    iexact Hw'
  iintro Hw'
  rw [show (pure PUnit.unit : TP F L PUnit) = Prog.ret PUnit.unit from rfl, WP, wp_ret]
  imodintro
  ihave Ho' := (held_free (F := F) d L (bufM .o (par c)) _) $$ Ho
  unfold rest outVal
  icases Hor with ⟨Hi, Hg, Hx⟩
  iframe
  simp only [Bool.false_eq_true, ↓reduceIte]
  iframe

theorem settle_rule (c : Fin 25) :
    iprop(mayW (F := F) d L O ∗ drained (F := F) d L x ls xq c ∗ owing (F := F) d L O W)
      ⊢ WP (F := F) d L (settle L c) (fun _ => iprop(slot (F := F) d L x xq (par c) ∗ done (F := F) d L x ls c ∗ owing (F := F) d L O W)) := by
  unfold drained slot done settle leaving
  iintro ⟨#Hmw, ⟨⟨Hh, He, Ho⟩, Hl, Hw, Hw'⟩, HO⟩
  iapply (seq (F := F) d L (outWait_rule (F := F) d L O W (bufM .h (par c)) (bufM_whole _ _) (dstOf L false c) (wSem false (par c)) _)) $$ [Hw HO]
  · isplitr; · iexact Hmw
    isplitl [Hw]; · iexact Hw
    iexact HO
  iintro ⟨⟨Hd, Hb⟩, Hw, HO⟩
  rw [← bind_pure (outWait L (F := F) (bufM .e (par c)) (bufM_whole _ _) (dstM L true (tOf c) (kOf c)) (wSem true (par c)))]
  iapply (seq (F := F) d L (outWait_rule (F := F) d L O W (bufM .e (par c)) (bufM_whole _ _) (dstOf L true c) (wSem true (par c)) _)) $$ [Hw' HO]
  · isplitr; · iexact Hmw
    isplitl [Hw']; · iexact Hw'
    iexact HO
  iintro ⟨⟨Hd', Hb'⟩, Hw', HO⟩
  rw [show (pure PUnit.unit : TP F L PUnit) = Prog.ret PUnit.unit from rfl, WP, wp_ret]
  imodintro
  ihave Hb := (held_free (F := F) d L (bufM .h (par c)) _) $$ Hb
  ihave Hb' := (held_free (F := F) d L (bufM .e (par c)) _) $$ Hb'
  unfold rest idle
  icases Hh with ⟨Hi, Hg, Hx⟩
  icases He with ⟨Hi', Hg', Hx'⟩
  iframe

/-! ## All chunks -/

/-- Some of the chunks, each as `Φ` says. -/
def some (P : ℕ → Prop) [DecidablePred P] (Φ : Fin 25 → sProp 𝕄) : sProp 𝕄 := bigSep (Finset.univ.filter fun c : Fin 25 => P c.val) Φ

theorem some_take (n : ℕ) (hn : n < 25) (Φ : Fin 25 → sProp 𝕄) :
    some (F := F) (fun c => n ≤ c) Φ = iprop(Φ ⟨n, hn⟩ ∗ some (F := F) (fun c => n + 1 ≤ c) Φ) := by
  unfold some
  rw [show (Finset.univ.filter fun c : Fin 25 => n ≤ c.val) = insert ⟨n, hn⟩ (Finset.univ.filter fun c : Fin 25 => n + 1 ≤ c.val) from by
    ext c
    simp only [Finset.mem_filter, Finset.mem_univ, true_and, Finset.mem_insert, Fin.ext_iff]
    omega]
  rw [bigSep_insert (by simp)]
  rfl

theorem some_put (n : ℕ) (hn : n < 25) (Φ : Fin 25 → sProp 𝕄) :
    some (F := F) (fun c => c < n + 1) Φ = iprop(Φ ⟨n, hn⟩ ∗ some (F := F) (fun c => c < n) Φ) := by
  unfold some
  rw [show (Finset.univ.filter fun c : Fin 25 => c.val < n + 1) = insert ⟨n, hn⟩ (Finset.univ.filter fun c : Fin 25 => c.val < n) from by
    ext c
    simp only [Finset.mem_filter, Finset.mem_univ, true_and, Finset.mem_insert, Fin.ext_iff]
    omega]
  rw [bigSep_insert (by simp)]
  rfl

theorem some_all (P : ℕ → Prop) [DecidablePred P] (h : ∀ c < 25, P c) (Φ : Fin 25 → sProp 𝕄) : some (F := F) P Φ = bigSep Finset.univ Φ := by
  unfold some
  rw [Finset.filter_true_of_mem (fun c _ => h c.val c.isLt)]

theorem some_none (P : ℕ → Prop) [DecidablePred P] (h : ∀ c < 25, ¬ P c) (Φ : Fin 25 → sProp 𝕄) : some (F := F) P Φ = iprop(emp) := by
  unfold some
  rw [Finset.filter_false_of_mem (fun c _ => h c.val c.isLt), bigSep_empty]
  rfl

/-- Before step `n`: chunk `n` drained, the next issued, those after to do, those before done. -/
def before (n : ℕ) (h : n + 1 < 25) : sProp 𝕄 :=
  iprop(drained (F := F) d L x ls xq ⟨n, by omega⟩ ∗ issued (F := F) d L x ls xq ⟨n + 1, h⟩
    ∗ some (F := F) (fun c => n + 2 ≤ c) (todo (F := F) d L ls) ∗ some (F := F) (fun c => c < n) (done (F := F) d L x ls) ∗ owing (F := F) d L O W)

theorem par_succ (n : ℕ) (h : n + 2 < 25) : par ⟨n + 2, h⟩ = par ⟨n, by omega⟩ := by
  unfold par
  show ((n + 2) % 2 == 1) = (n % 2 == 1)
  rw [Nat.add_mod_right]

include hls in
theorem step_rule (n : ℕ) (h : n + 2 < 25) :
    iprop(mayW (F := F) d L O ∗ before (F := F) d L O W x ls xq n (by omega))
      ⊢ WP (F := F) d L (step L n h) (fun _ => before (F := F) d L O W x ls xq (n + 1) (by omega)) := by
  have h1 : n < 25 := by omega
  have h2 : n + 1 < 25 := by omega
  unfold before step
  rw [some_take (F := F) (n + 2) h, some_put (F := F) n (by omega)]
  iintro ⟨#Hmw, Hdr, His, ⟨Ht, Hts⟩, Hds, HO⟩
  iapply (seq (F := F) d L (settle_rule (F := F) d L O W x ls xq ⟨n, h1⟩)) $$ [Hdr HO]
  · isplitr; · iexact Hmw
    isplitl [Hdr]; · iexact Hdr
    iexact HO
  iintro ⟨Hsl, Hd, HO⟩
  iapply (seq (F := F) d L (issue_rule (F := F) d L O W x ls xq hls ⟨n + 2, h⟩)) $$ [Hsl Ht HO]
  · rw [par_succ]
    isplitr; · iexact Hmw
    isplitl [Hsl]; · iexact Hsl
    isplitl [Ht]; · iexact Ht
    iexact HO
  iintro ⟨His', HO⟩
  iapply (last (F := F) d L (drain_rule (F := F) d L O W x ls xq ⟨n + 1, h2⟩)) $$ [His HO]
  · isplitr; · iexact Hmw
    isplitl [His]; · iexact His
    iexact HO
  iintro ⟨Hdr, HO⟩
  iframe

include hls in
theorem steps_rule : ∀ (n c : ℕ) (h : n + c = 23),
    iprop(mayW (F := F) d L O ∗ before (F := F) d L O W x ls xq c (by omega))
      ⊢ WP (F := F) d L (steps L n c h) (fun _ => before (F := F) d L O W x ls xq 23 (by omega)) := by
  intro n
  induction n with
  | zero =>
    intro c h
    obtain rfl : c = 23 := by omega
    unfold steps
    rw [show (pure PUnit.unit : TP F L PUnit) = Prog.ret PUnit.unit from rfl, WP, wp_ret]
    iintro ⟨-, H⟩
    imodintro; iexact H
  | succ n ih =>
    intro c h
    have h1 : c + 2 < 25 := by omega
    have h2 : n + (c + 1) = 23 := by omega
    unfold steps
    iintro ⟨#Hmw, H⟩
    iapply (seq (F := F) d L (step_rule (F := F) d L O W x ls xq hls c h1)) $$ [H]
    · isplitr; · iexact Hmw
      iexact H
    iintro H
    iapply (ih (c + 1) h2)
    isplitr; · iexact Hmw
    iexact H

/-! ## The nodes' rows, and the whole task -/

variable (l₀ : S128.Idx → Elt F .i32)

/-- The tile's row numbers of the nodes and its copies' semaphores. -/
def nodes : sProp 𝕄 := iprop(held (F := F) d L (nodeM L) fullShare l₀ ∗ zero (F := F) d L (rSem 0) ∗ zero (F := F) d L (rSem 1))

theorem nodes_rule (hl₀ : ∀ j, (l₀ j).toNat < 100000) :
    iprop(mayW (F := F) d L O ∗ idle (F := F) d L x xq .h false ∗ nodes (F := F) d L l₀ ∗ free (F := F) d L (h0dM L) ∗ owing (F := F) d L O W)
      ⊢ WP (F := F) d L (nodesPart L) (fun _ => iprop(idle (F := F) d L x xq .h false ∗ nodes (F := F) d L l₀
          ∗ held (F := F) d L (h0dM L) fullShare (gathered x l₀) ∗ owing (F := F) d L O W)) := by
  unfold nodes nodesPart
  iintro ⟨#Hmw, Hi, ⟨Hl, Hr, Hr'⟩, Hd, HO⟩
  iapply (start_rule (F := F) d L O W x xq .h false (nodeM L) (rSem 0) l₀ hl₀) $$ [Hi Hl Hr HO]
  · isplitr; · iexact Hmw
    isplitl [Hi]; · iexact Hi
    isplitl [Hl]; · iexact Hl
    isplitl [Hr]; · iexact Hr
    iexact HO
  iintro ⟨Hi, Hl, Hr, HO⟩
  iapply (finish_rule (F := F) d L O W x xq .h false l₀) $$ [Hi HO]
  · isplitr; · iexact Hmw
    isplitl [Hi]; · iexact Hi
    iexact HO
  iintro ⟨Hb, Hi, HO⟩
  iapply (seq (F := F) d L (out_rule (F := F) d L (bufM .h false) (bufM_whole _ _) (h0dM L) (rSem 1) _)) $$ [Hb Hd Hr']
  · isplitl [Hb]; · iexact Hb
    isplitl [Hd]; · iexact Hd
    iexact Hr'
  iintro Hw
  iapply (last (F := F) d L (outWait_rule (F := F) d L O W (bufM .h false) (bufM_whole _ _) (h0dM L) (rSem 1) _)) $$ [Hw HO]
  · isplitr; · iexact Hmw
    isplitl [Hw]; · iexact Hw
    iexact HO
  iintro ⟨⟨Hd, Hb⟩, Hr', HO⟩
  ihave Hb := (held_free (F := F) d L (bufM .h false) _) $$ Hb
  unfold rest idle
  icases Hi with ⟨Hi, Hg, Hx⟩
  iframe

include hls in
theorem task_rule (hl₀ : ∀ j, (l₀ j).toNat < 100000) :
    iprop(mayW (F := F) d L O ∗ (slot (F := F) d L x xq false ∗ slot (F := F) d L x xq true)
        ∗ (nodes (F := F) d L l₀ ∗ free (F := F) d L (h0dM L)) ∗ bigSep Finset.univ (todo (F := F) d L ls) ∗ owing (F := F) d L O W)
      ⊢ WP (F := F) d L (task L) (fun _ => iprop((slot (F := F) d L x xq false ∗ slot (F := F) d L x xq true)
        ∗ (nodes (F := F) d L l₀ ∗ held (F := F) d L (h0dM L) fullShare (gathered x l₀)) ∗ bigSep Finset.univ (done (F := F) d L x ls)
        ∗ owing (F := F) d L O W)) := by
  rw [← some_all (F := F) (fun c => 0 ≤ c) (fun _ _ => Nat.zero_le _), some_take (F := F) 0 (by decide), some_take (F := F) 1 (by decide),
    ← some_all (F := F) (fun c => c < 25) (fun _ h => h), some_put (F := F) 24 (by decide), some_put (F := F) 23 (by decide)]
  unfold task
  iintro ⟨#Hmw, ⟨Hs, Hs'⟩, ⟨Hn, Hd⟩, ⟨Ht0, Ht1, Hts⟩, HO⟩
  ihave Hs := (Entails.of_eq (show slot (F := F) d L x xq false = iprop(idle (F := F) d L x xq .h false ∗ idle (F := F) d L x xq .e false
    ∗ idle (F := F) d L x xq .o false ∗ zero (F := F) d L (wSem false false) ∗ zero (F := F) d L (wSem true false)) from rfl)) $$ Hs
  icases Hs with ⟨Hh, Hs⟩
  iapply (seq (F := F) d L (nodes_rule (F := F) d L O W x xq l₀ hl₀)) $$ [Hh Hn Hd HO]
  · isplitr; · iexact Hmw
    isplitl [Hh]; · iexact Hh
    isplitl [Hn]; · iexact Hn
    isplitl [Hd]; · iexact Hd
    iexact HO
  iintro ⟨Hh, Hn, Hd, HO⟩
  iapply (seq (F := F) d L (issue_rule (F := F) d L O W x ls xq hls 0)) $$ [Hh Hs Ht0 HO]
  · isplitr; · iexact Hmw
    isplitl [Hh Hs]
    · unfold slot; isplitl [Hh]; · iexact Hh
      iexact Hs
    isplitl [Ht0]; · iexact Ht0
    iexact HO
  iintro ⟨Hi0, HO⟩
  iapply (seq (F := F) d L (issue_rule (F := F) d L O W x ls xq hls 1)) $$ [Hs' Ht1 HO]
  · isplitr; · iexact Hmw
    isplitl [Hs']; · iexact Hs'
    isplitl [Ht1]; · iexact Ht1
    iexact HO
  iintro ⟨Hi1, HO⟩
  iapply (seq (F := F) d L (drain_rule (F := F) d L O W x ls xq 0)) $$ [Hi0 HO]
  · isplitr; · iexact Hmw
    isplitl [Hi0]; · iexact Hi0
    iexact HO
  iintro ⟨Hi0, HO⟩
  iapply (seq (F := F) d L (steps_rule (F := F) d L O W x ls xq hls 23 0 rfl)) $$ [Hi0 Hi1 Hts HO]
  · isplitr; · iexact Hmw
    unfold before
    isplitl [Hi0]; · iexact Hi0
    isplitl [Hi1]; · iexact Hi1
    isplitl [Hts]; · iexact Hts
    isplitr
    · rw [some_none (F := F) (fun c => c < 0) (fun c _ => Nat.not_lt_zero c)]; iempintro
    iexact HO
  unfold before
  iintro ⟨Hd23, Hi24, -, Hds, HO⟩
  iapply (seq (F := F) d L (drain_rule (F := F) d L O W x ls xq 24)) $$ [Hi24 HO]
  · isplitr; · iexact Hmw
    isplitl [Hi24]; · iexact Hi24
    iexact HO
  iintro ⟨Hd24, HO⟩
  iapply (seq (F := F) d L (settle_rule (F := F) d L O W x ls xq 24)) $$ [Hd24 HO]
  · isplitr; · iexact Hmw
    isplitl [Hd24]; · iexact Hd24
    iexact HO
  iintro ⟨Hs, Hd24, HO⟩
  iapply (last (F := F) d L (settle_rule (F := F) d L O W x ls xq 23)) $$ [Hd23 HO]
  · isplitr; · iexact Hmw
    isplitl [Hd23]; · iexact Hd23
    iexact HO
  iintro ⟨Hs', Hd23, HO⟩
  isplitl [Hs Hs']
  · isplitl [Hs]; · iexact Hs
    iexact Hs'
  isplitl [Hn Hd]
  · isplitl [Hn]; · iexact Hn
    iexact Hd
  isplitl [Hd23 Hd24 Hds]
  · isplitl [Hd24]; · iexact Hd24
    isplitl [Hd23]; · iexact Hd23
    iexact Hds
  iexact HO

end Run

end Cert.Proof.Tile
-- ==== Proof.TileEq.lean ====
/-
  The printed SparseCore task is `task`, the composition of the fragments: operation by operation, each by unfolding,
  the binds about the 25 loops reassociated.
-/
module

public import proofs.«01_k».proof.Proof.TileProg

@[expose] public section

noncomputable section

namespace Cert.Proof.Tile

open Cert.KernelIdeal Cert.KernelIdeal.Gen

open Idealize.ShloMosaic
open Idealize.SL.Sem

universe u

/-- Two programs that start with the same operation are the same when they go on alike. -/
theorem op_congr {E : Type → Type u} {α β : Type} {e e' : E β} {k k' : β → Prog E α} (h : e = e') (hk : ∀ x, k x = k' x) :
    Prog.op e k = Prog.op e' k' := by
  subst h; congr 1; funext x; exact hk x

/-- The same of two that start with a counted loop. -/
theorem for_congr {E : Type → Type u} {α σ : Type} {w : ℕ} {lb ub st : BitVec w} {hok : Scf.OK lb ub st} {init : σ}
    {b b' : Fin (Scf.trips lb ub st) → σ → Prog E σ} {k k' : σ → Prog E α} (h : ∀ r x, b r x = b' r x) (hk : ∀ x, k x = k' x) :
    Prog.bind (Scf.for lb ub st hok init b) k = Prog.bind (Scf.for lb ub st hok init b') k' := by
  obtain rfl : b = b' := by funext r x; exact h r x
  congr 1; funext x; exact hk x

theorem bindL {E : Type → Type u} {α β γ : Type} {x : Prog E α} {f : α → Prog E β} {g : β → Prog E γ} {y : Prog E γ}
    (h : x.bind (fun a => (f a).bind g) = y) : (x.bind f).bind g = y := by
  rw [← h]; exact bind_assoc x f g
theorem bindR {E : Type → Type u} {α β γ : Type} {x : Prog E α} {f : α → Prog E β} {g : β → Prog E γ} {y : Prog E γ}
    (h : y = x.bind (fun a => (f a).bind g)) : y = (x.bind f).bind g := (bindL h.symm).symm

variable {F : FTy → Type} [FloatOps F]

set_option maxRecDepth 65536 in
set_option maxHeartbeats 4000000 in
theorem cc0__sc_body_eq (i : grid0.Coords) :
    cc0__sc_body (F := F) i (Memref.whole main_arg0_scv) (Memref.isWhole_whole _) (Memref.whole main_arg1_scv) (Memref.isWhole_whole _) (Memref.whole main_v1_scv)
      (Memref.isWhole_whole _) (Memref.whole main_v6_scv) (Memref.isWhole_whole _) (Memref.whole main_v8_scv) (Memref.isWhole_whole _) (Memref.whole
      main_v9_0_scv) (Memref.isWhole_whole _) (Memref.whole main_v9_1_scv) (Memref.isWhole_whole _) (Memref.whole main_v9_2_scv) (Memref.isWhole_whole _)
      (Memref.whole cc0_scratch0) (Memref.isWhole_whole _) (Memref.whole cc0_scratch1) (Memref.isWhole_whole _) (Memref.whole cc0_scratch2)
      (Memref.isWhole_whole _) (Memref.whole cc0_scratch3) (Memref.isWhole_whole _) (Memref.whole cc0_scratch4) (Memref.isWhole_whole _) (Memref.whole
      cc0_scratch5) (Memref.isWhole_whole _) (Memref.whole cc0_scratch6) (Memref.isWhole_whole _) (Memref.whole cc0_scratch7) (Memref.isWhole_whole _)
      (Memref.whole cc0_scratch8) (Memref.isWhole_whole _) (Memref.whole cc0_scratch9) (Memref.isWhole_whole _) (Memref.whole cc0_scratch10)
      (Memref.isWhole_whole _) (Memref.whole cc0_scratch11) (Memref.isWhole_whole _) (Memref.whole cc0_scratch12) (Memref.isWhole_whole _) (Memref.whole
      cc0_scratch13) (Memref.isWhole_whole _) cc0_scratch14 cc0_scratch15 cc0_scratch16 cc0_scratch17 cc0_scratch18 cc0_scratch19 cc0_scratch20
      cc0_scratch21 cc0_scratch22 cc0_scratch23 cc0_scratch24 cc0_scratch25 cc0_scoped0 cc0_scoped1 cc0_scoped2 cc0_scoped3 cc0_scoped4 cc0_scoped5
      cc0_scoped6 cc0_scoped7 cc0_scoped8 cc0_scoped9 cc0_scoped10 cc0_scoped11 cc0_scoped12 cc0_scoped13 cc0_scoped14 cc0_scoped15 cc0_scoped16
      cc0_scoped17 cc0_scoped18 cc0_scoped19 cc0_scoped20 cc0_scoped21 cc0_scoped22 cc0_scoped23 cc0_scoped24 cc0_scoped25 cc0_scoped26 cc0_scoped27
      cc0_scoped28 cc0_scoped29 cc0_scoped30 cc0_scoped31 cc0_scoped32 cc0_scoped33 cc0_scoped34 cc0_scoped35 cc0_scoped36 cc0_scoped37 cc0_scoped38
      cc0_scoped39 cc0_scoped40 cc0_scoped41 cc0_scoped42 cc0_scoped43 cc0_scoped44 cc0_scoped45 cc0_scoped46 cc0_scoped47 cc0_scoped48 cc0_scoped49
      cc0_scoped50 cc0_scoped51 cc0_scoped52 cc0_scoped53 cc0_scoped54 cc0_scoped55 cc0_scoped56 cc0_scoped57 cc0_scoped58 cc0_scoped59 cc0_scoped60
      cc0_scoped61 cc0_scoped62 cc0_scoped63 cc0_scoped64 cc0_scoped65 cc0_scoped66 cc0_scoped67 cc0_scoped68 cc0_scoped69 cc0_scoped70 cc0_scoped71
      cc0_scoped72 cc0_scoped73 cc0_scoped74 cc0_scoped75 cc0_scoped76 = task i := by
  repeat (first | refine op_congr rfl fun _ => ?_ | refine for_congr (fun _ _ => rfl) fun _ => ?_ | refine bindL ?_ | refine bindR ?_)
  rfl

end Cert.Proof.Tile
-- ==== Proof.TileBody.lean ====
/-
  A tile's task from what the call hands it — a share of `x`, its row numbers and its blocks of the three outputs —
  to its blocks at the rows gathered.
-/
module

public import proofs.«01_k».proof.Proof.TileRun
public import proofs.«01_k».proof.Proof.TileEq

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The values -/

/-- What the call reads: `x`, the nodes' row numbers, and each gather's. -/
structure Args (F : FTy → Type) where
  x : S100000x128.Idx → Elt F .f32
  nodes : S4096.Idx → Elt F .i32
  rows : Role → S102400.Idx → Elt F .i32

/-- Every row number is one. -/
structure Args.OK (A : Args F) : Prop where
  nodes : ∀ j, (A.nodes j).toNat < 100000
  rows : ∀ r j, (A.rows r j).toNat < 100000

def nodeAt (k : Fin 4096) : S4096.Idx := fun | ⟨0, _⟩ => k
def rowAt (k : Fin 102400) : S102400.Idx := fun | ⟨0, _⟩ => k
/-- Row `n` of `x` at lane `j`. -/
def xAt (n : BitVec 32) (j : Fin 128) : S100000x128.Idx := fun | ⟨0, _⟩ => rowIx n | ⟨1, _⟩ => j

/-- The row a gather reads for place `(t, k)`. -/
def flat (t : Fin 5) (k : Fin 20480) : Fin 102400 := ⟨20480 * t.val + k.val, by have := t.isLt; have := k.isLt; omega⟩

/-- The outputs: the nodes' rows, -/
def h0Val (A : Args F) : S4096x128.Idx → Elt F .f32 := fun j => A.x (xAt (A.nodes (nodeAt (j 0))) (j 1))
/-- a gather's rows, -/
def rowVal (A : Args F) (r : Role) : S5x20480x128.Idx → Elt F .f32 := fun j => A.x (xAt (A.rows r (rowAt (flat (j 0) (j 1)))) (j 2))
/-- the first hop's rows (`false`) and the second hop's sums (`true`). -/
def hopVal (A : Args F) (b : Bool) : S5x20480x128.Idx → Elt F .f32 :=
  if b then fun j => FloatOps.addf (rowVal A .e j) (rowVal A .o j) else rowVal A .h

section Body

variable (d : Dev nD) (L : grid0.Coords) (A : Args F)

/-! ## Pieces of arrays -/

/-- The memref's elements of the buffer `f`. -/
abbrev piece {sp : Space} {s : Shape} {e : EltTy} (m : Memref sig .scVector sp s e) (f : Buf (Elt F) (m.view.loc (thr d L))) : sProp 𝕄 :=
  m.view.loc (thr d L) ↦[m.view.set]{fullShare} f

theorem piece_held {sp : Space} {s : Shape} {e : EltTy} (m : Memref sig .scVector sp s e) (f : Buf (Elt F) (m.view.loc (thr d L)))
    {v : s.Idx → Elt F e} (h : m.view.read (Elt F) f = v) : piece (F := F) d L m f ⊢ held (F := F) d L m fullShare v := by
  unfold held
  iintro H
  iexists f; isplitr
  · ipureintro; exact h
  · iexact H

theorem held_at {sp : Space} {s : Shape} {e : EltTy} (m : Memref sig .scVector sp s e) (q : PosShare TreeShare) (f : Buf (Elt F) (m.view.loc (thr d L)))
    {v : s.Idx → Elt F e} (h : m.view.read (Elt F) f = v) : held (F := F) d L m q v ⊢ (m.view.loc (thr d L) ↦[m.view.set]{q} f) := by
  unfold held
  iintro ⟨%g, %hg, H⟩
  have e : ∀ i ∈ m.view.set, g i = f i := by
    intro i hi
    obtain ⟨y, -, rfl⟩ := Finset.mem_map.mp hi
    have e := congrFun (hg.trans h.symm) y
    rw [View.read_apply, View.read_apply] at e
    exact (cast_inj _).mp e
  iapply (Entails.of_eq (pointsTo_congr e)); iexact H

/-! ## The lists' and the blocks' places -/

/-- The tile's rows of the nodes. -/
def nodeNo (k : Fin 128) : Fin 4096 := ⟨256 * (L 1).val + 128 * (L 0).val + k.val, by
  have h0 : (L 0).val < 2 := (L 0).isLt
  have h1 : (L 1).val < 16 := (L 1).isLt
  have := k.isLt; omega⟩

/-- The tile's places of chunk `c`. -/
def placeNo (c : Fin 25) (k : Fin 128) : Fin 20480 := ⟨1280 * (L 1).val + 640 * (L 0).val + 128 * (kOf c).val + k.val, by
  have h0 : (L 0).val < 2 := (L 0).isLt
  have h1 : (L 1).val < 16 := (L 1).isLt
  have := (kOf c).isLt; have := k.isLt; omega⟩

theorem node_emb (k : Fin 128) :
    (Rect.unit (s := S4096) (k0_off1 L) S128.size (k0_off1_inb L)).emb (listAt k) = nodeAt (nodeNo L k) := by
  funext a
  apply Fin.ext
  match a with
  | ⟨0, _⟩ =>
    show k0_off1 L 0 + 1 * k.val = _
    rw [k0_off1_eq]
    show 256 * (L 1).val + 128 * (L 0).val + 1 * k.val = 256 * (L 1).val + 128 * (L 0).val + k.val
    omega

theorem seq_emb (c : Fin 25) (k : Fin 128) :
    (Rect.unit (s := S102400) (k0_off3 L (BitVec.ofNat 32 (20480 * (tOf c).val)) (BitVec.ofNat 32 (128 * (kOf c).val))) S128.size
      (k0_off3_inb L (tOf c) (kOf c))).emb (listAt k) = rowAt (flat (tOf c) (placeNo L c k)) := by
  funext a
  apply Fin.ext
  match a with
  | ⟨0, _⟩ =>
    show k0_off3 L (BitVec.ofNat 32 (20480 * (tOf c).val)) (BitVec.ofNat 32 (128 * (kOf c).val)) 0 + 1 * k.val = _
    rw [k0_off3_eq]
    show 20480 * (tOf c).val + 1280 * (L 1).val + 640 * (L 0).val + 128 * (kOf c).val + 1 * k.val
      = 20480 * (tOf c).val + (1280 * (L 1).val + 640 * (L 0).val + 128 * (kOf c).val + k.val)
    omega

theorem listAt_eq (j : S128.Idx) : listAt (j 0) = j := by
  funext a
  match a with
  | ⟨0, _⟩ => rfl

/-- The tile's row numbers, of the nodes and of a chunk's gather. -/
def nodeList : S128.Idx → Elt F .i32 := fun j => A.nodes (nodeAt (nodeNo L (j 0)))
def rowList (r : Role) (c : Fin 25) : S128.Idx → Elt F .i32 := fun j => A.rows r (rowAt (flat (tOf c) (placeNo L c (j 0))))

theorem node_read : (nodeM L).view.read (Elt F) A.nodes = nodeList L A := by
  funext j
  refine ((View.read_apply _ _).trans (cast_eq _ _)).trans ?_
  rw [← listAt_eq j]
  exact congrArg A.nodes (node_emb L (j 0))

theorem seq_read_h (c : Fin 25) : (seqOf L .h c).view.read (Elt F) (A.rows .h) = rowList L A .h c := by
  funext j
  refine ((View.read_apply _ _).trans (cast_eq _ _)).trans ?_
  rw [← listAt_eq j]
  exact congrArg (A.rows .h) (seq_emb L c (j 0))
theorem seq_read_e (c : Fin 25) : (seqOf L .e c).view.read (Elt F) (A.rows .e) = rowList L A .e c := by
  funext j
  refine ((View.read_apply _ _).trans (cast_eq _ _)).trans ?_
  rw [← listAt_eq j]
  exact congrArg (A.rows .e) (seq_emb L c (j 0))
theorem seq_read_o (c : Fin 25) : (seqOf L .o c).view.read (Elt F) (A.rows .o) = rowList L A .o c := by
  funext j
  refine ((View.read_apply _ _).trans (cast_eq _ _)).trans ?_
  rw [← listAt_eq j]
  exact congrArg (A.rows .o) (seq_emb L c (j 0))

theorem h0_emb (j : S128x128.Idx) :
    (Rect.unit (s := S4096x128) (k0_off2 L) S128x128.size (k0_off2_inb L)).emb j = (fun | ⟨0, _⟩ => nodeNo L (j 0) | ⟨1, _⟩ => j 1 : S4096x128.Idx) := by
  funext a
  apply Fin.ext
  match a with
  | ⟨0, _⟩ =>
    show k0_off2 L 0 + 1 * (j 0).val = 256 * (L 1).val + 128 * (L 0).val + (j 0).val
    rw [k0_off2_eq]
    show 256 * (L 1).val + 128 * (L 0).val + 1 * (j 0).val = _
    omega
  | ⟨1, _⟩ =>
    show k0_off2 L 1 + 1 * (j 1).val = (j 1).val
    rw [k0_off2_eq]
    show 0 + 1 * (j 1).val = _
    omega

theorem h0_read : (h0dM L).view.read (Elt F) (h0Val A) = gathered A.x (nodeList L A) := by
  funext j
  refine ((View.read_apply _ _).trans (cast_eq _ _)).trans ?_
  refine (congrArg (h0Val A) (h0_emb L j)).trans ?_
  unfold h0Val gathered nodeList
  congr 1

/-- The block of an output's chunk. -/
abbrev dstRect (c : Fin 25) : Rect S5x20480x128 := Rect.unit (s := S5x20480x128) (offOut L (tOf c).val (kOf c).val) S1x128x128.size (offOut_inb L (tOf c) (kOf c))

theorem dst_emb (c : Fin 25) (j : S128x128.Idx) :
    (dstRect L c).emb (Shape.reshapeEquiv squeezes_S1x128x128_S128x128.numel_eq j)
      = (fun | ⟨0, _⟩ => tOf c | ⟨1, _⟩ => placeNo L c (j 0) | ⟨2, _⟩ => j 1 : S5x20480x128.Idx) := by
  have e : Shape.reshapeEquiv squeezes_S1x128x128_S128x128.numel_eq j = (Fin.cons ⟨0, Nat.one_pos⟩ j : S1x128x128.Idx) :=
    Shape.reshapeEquiv_cons_one (n := 2) (d := ![128, 128]) squeezes_S1x128x128_S128x128.numel_eq j
  rw [e]
  funext a
  apply Fin.ext
  match a with
  | ⟨0, _⟩ =>
    show offOut L (tOf c).val (kOf c).val 0 + 1 * 0 = (tOf c).val
    rw [offOut_eq]
    show (tOf c).val + 1 * 0 = _
    omega
  | ⟨1, _⟩ =>
    show offOut L (tOf c).val (kOf c).val 1 + 1 * (j 0).val = 1280 * (L 1).val + 640 * (L 0).val + 128 * (kOf c).val + (j 0).val
    rw [offOut_eq]
    show 1280 * (L 1).val + 640 * (L 0).val + 128 * (kOf c).val + 1 * (j 0).val = _
    omega
  | ⟨2, _⟩ =>
    show offOut L (tOf c).val (kOf c).val 2 + 1 * (j 1).val = (j 1).val
    rw [offOut_eq]
    show 0 + 1 * (j 1).val = _
    omega

theorem dst_read_h (c : Fin 25) : (dstOf L false c).view.read (Elt F) (hopVal A false) = outVal A.x (rowList L A) false c := by
  funext j
  refine ((View.read_apply _ _).trans (cast_eq _ _)).trans ?_
  exact congrArg (rowVal A .h) (dst_emb L c j)
theorem dst_read_s (c : Fin 25) : (dstOf L true c).view.read (Elt F) (hopVal A true) = outVal A.x (rowList L A) true c := by
  funext j
  refine ((View.read_apply _ _).trans (cast_eq _ _)).trans ?_
  exact congrArg (fun i => FloatOps.addf (rowVal A .e i) (rowVal A .o i)) (dst_emb L c j)

/-! ## The tile's buffers and semaphores -/

/-- Everything over `s` is a family's and the rest. -/
theorem bigSep_family {I J : Type} [Fintype I] [DecidableEq J] (s : Finset J) (f : I → J) (hi : Function.Injective f) (hf : ∀ i, f i ∈ s)
    (Φ : J → sProp 𝕄) : bigSep s Φ = iprop((bigSep Finset.univ fun i => Φ (f i)) ∗ bigSep (s \ Finset.univ.map ⟨f, hi⟩) Φ) := by
  rw [bigSep_sdiff_split (t := Finset.univ.map ⟨f, hi⟩) (fun j hj => by
    obtain ⟨i, -, rfl⟩ := Finset.mem_map.mp hj
    exact hf i), bigSep_map]
  rfl

abbrev SemIx : Type := (Role × Bool) ⊕ (Bool × Bool) ⊕ Fin 2 ⊕ (Fin 25 × Role)

/-- The tile's semaphores, by their use. -/
def semOf : SemIx → DmaSem sig
  | .inl rp => gSem rp.1 rp.2
  | .inr (.inl bp) => wSem bp.1 bp.2
  | .inr (.inr (.inl n)) => rSem ⟨n.val, by have := n.isLt; omega⟩
  | .inr (.inr (.inr cr)) => rSem (nOf cr.1 (jOf cr.2))

theorem jOf_inj : Function.Injective jOf := by decide

theorem semOf_inj : Function.Injective semOf := by
  have hg : ∀ r p, (gSem r p).val < 6 := by decide
  have hw : ∀ b p, 6 ≤ (wSem b p).val ∧ (wSem b p).val < 12 := by decide
  have hr : ∀ n, (rSem n).val = 12 + n.val := fun _ => rfl
  have gi : ∀ x y : Role × Bool, gSem x.1 x.2 = gSem y.1 y.2 → x = y := by decide
  have wi : ∀ x y : Bool × Bool, wSem x.1 x.2 = wSem y.1 y.2 → x = y := by decide
  intro x y h
  have hv := congrArg Fin.val h
  match x, y with
  | .inl a, .inl b => exact congrArg Sum.inl (gi a b h)
  | .inr (.inl a), .inr (.inl b) => exact congrArg (fun z => Sum.inr (Sum.inl z)) (wi a b h)
  | .inr (.inr (.inl n)), .inr (.inr (.inl m)) =>
    have e : 12 + n.val = 12 + m.val := hv
    exact congrArg (fun z => Sum.inr (Sum.inr (Sum.inl z))) (Fin.ext (by omega))
  | .inr (.inr (.inr a)), .inr (.inr (.inr b)) =>
    have e : 12 + (2 + 3 * a.1.val + (jOf a.2).val) = 12 + (2 + 3 * b.1.val + (jOf b.2).val) := hv
    have h1 := (jOf a.2).isLt
    have h2 := (jOf b.2).isLt
    have e1 : a.1 = b.1 := Fin.ext (by omega)
    have e2 : a.2 = b.2 := jOf_inj (Fin.ext (by omega))
    exact congrArg (fun z => Sum.inr (Sum.inr (Sum.inr z))) (Prod.ext e1 e2)
  | .inl a, .inr (.inl b) => exact absurd hv (by have := hg a.1 a.2; have := hw b.1 b.2; show (gSem a.1 a.2).val ≠ (wSem b.1 b.2).val; omega)
  | .inr (.inl b), .inl a => exact absurd hv (by have := hg a.1 a.2; have := hw b.1 b.2; show (wSem b.1 b.2).val ≠ (gSem a.1 a.2).val; omega)
  | .inl a, .inr (.inr (.inl n)) => exact absurd hv (by have := hg a.1 a.2; show (gSem a.1 a.2).val ≠ 12 + n.val; omega)
  | .inr (.inr (.inl n)), .inl a => exact absurd hv (by have := hg a.1 a.2; show 12 + n.val ≠ (gSem a.1 a.2).val; omega)
  | .inl a, .inr (.inr (.inr b)) =>
    exact absurd hv (by have := hg a.1 a.2; show (gSem a.1 a.2).val ≠ 12 + (2 + 3 * b.1.val + (jOf b.2).val); omega)
  | .inr (.inr (.inr b)), .inl a =>
    exact absurd hv (by have := hg a.1 a.2; show 12 + (2 + 3 * b.1.val + (jOf b.2).val) ≠ (gSem a.1 a.2).val; omega)
  | .inr (.inl a), .inr (.inr (.inl n)) => exact absurd hv (by have := hw a.1 a.2; show (wSem a.1 a.2).val ≠ 12 + n.val; omega)
  | .inr (.inr (.inl n)), .inr (.inl a) => exact absurd hv (by have := hw a.1 a.2; show 12 + n.val ≠ (wSem a.1 a.2).val; omega)
  | .inr (.inl a), .inr (.inr (.inr b)) =>
    exact absurd hv (by have := hw a.1 a.2; show (wSem a.1 a.2).val ≠ 12 + (2 + 3 * b.1.val + (jOf b.2).val); omega)
  | .inr (.inr (.inr b)), .inr (.inl a) =>
    exact absurd hv (by have := hw a.1 a.2; show 12 + (2 + 3 * b.1.val + (jOf b.2).val) ≠ (wSem a.1 a.2).val; omega)
  | .inr (.inr (.inl n)), .inr (.inr (.inr b)) =>
    exact absurd hv (by have := n.isLt; show 12 + n.val ≠ 12 + (2 + 3 * b.1.val + (jOf b.2).val); omega)
  | .inr (.inr (.inr b)), .inr (.inr (.inl n)) =>
    exact absurd hv (by have := n.isLt; show 12 + (2 + 3 * b.1.val + (jOf b.2).val) ≠ 12 + n.val; omega)

theorem scoped_all : ∀ s : DmaSem sig, (SemLoc.dma s : SemLoc sig).isScoped .scVector = true := by decide

/-- The scratch buffers: the lists (`false`) and the rows (`true`). -/
def refOf : Bool × Role × Bool → Ref sig .scVector
  | (false, .h, false) => cc0_scratch0
  | (false, .h, true) => cc0_scratch1
  | (false, .e, false) => cc0_scratch2
  | (false, .e, true) => cc0_scratch3
  | (false, .o, false) => cc0_scratch4
  | (false, .o, true) => cc0_scratch5
  | (true, .h, false) => cc0_scratch8
  | (true, .h, true) => cc0_scratch9
  | (true, .e, false) => cc0_scratch10
  | (true, .e, true) => cc0_scratch11
  | (true, .o, false) => cc0_scratch12
  | (true, .o, true) => cc0_scratch13

theorem refOf_inj : Function.Injective refOf := by decide

theorem free_idx (r : Role) (p : Bool) :
    free (F := F) d L (idxM r p) = iprop(∃ f, (thr d L).loc (refOf (false, r, p)) ↦{fullShare} f) := by
  unfold free
  rw [(idxM_whole r p).set_eq_univ]
  cases r <;> cases p <;> rfl
theorem free_buf (r : Role) (p : Bool) :
    free (F := F) d L (bufM r p) = iprop(∃ f, (thr d L).loc (refOf (true, r, p)) ↦{fullShare} f) := by
  unfold free
  rw [(bufM_whole r p).set_eq_univ]
  cases r <;> cases p <;> rfl

theorem bigSep_roles (Φ : Role → sProp 𝕄) : bigSep Finset.univ Φ = iprop(Φ .h ∗ Φ .e ∗ Φ .o) := by
  rw [show (Finset.univ : Finset Role) = {.h, .e, .o} by decide, SparseCore.bigSep_insert' (by decide), SparseCore.bigSep_insert' (by decide), bigSep_singleton]
theorem bigSep_bools (Φ : Bool → sProp 𝕄) : bigSep Finset.univ Φ = iprop(Φ false ∗ Φ true) := by
  rw [show (Finset.univ : Finset Bool) = {false, true} by decide, SparseCore.bigSep_insert' (by decide), bigSep_singleton]

/-- The tile's semaphores at zero: the gathers', the write-outs', the nodes' and the chunks', and the rest. -/
theorem sems_split : (ownSems0 (thr d L) : sProp 𝕄)
    = iprop(((bigSep Finset.univ fun rp : Role × Bool => zero (F := F) d L (gSem rp.1 rp.2))
        ∗ (bigSep Finset.univ fun bp : Bool × Bool => zero (F := F) d L (wSem bp.1 bp.2))
        ∗ (bigSep Finset.univ fun n : Fin 2 => zero (F := F) d L (rSem ⟨n.val, by have := n.isLt; omega⟩))
        ∗ (bigSep Finset.univ fun cr : Fin 25 × Role => zero (F := F) d L (rOf cr.2 cr.1)))
      ∗ bigSep (ownCells (thr d L) \ Finset.univ.map ⟨fun i => ((thr d L, SemLoc.dma (semOf i)) : GSem nD τ sig), fun a b h => semOf_inj (by
          have e := congrArg Prod.snd h
          exact SemLoc.dma.inj e)⟩) fun g => semVal g 0) := by
  unfold SparseCore.Cfg.ownSems0
  rw [bigSep_family (ownCells (thr d L)) (fun i => ((thr d L, SemLoc.dma (semOf i)) : GSem nD τ sig)) (fun a b h => semOf_inj (by
      have e := congrArg Prod.snd h
      exact SemLoc.dma.inj e)) (fun i => mem_ownCells.mpr ⟨rfl, scoped_all _⟩)]
  rw [bigSep_univ_sum, bigSep_univ_sum, bigSep_univ_sum]
  rfl

/-- The tile's scratch buffers: the lists', the rows', and the rest. -/
theorem bufs_split : (ownBufs (thr d L) : sProp 𝕄)
    = iprop(((bigSep Finset.univ fun rp : Role × Bool => free (F := F) d L (idxM rp.1 rp.2))
        ∗ (bigSep Finset.univ fun rp : Role × Bool => free (F := F) d L (bufM rp.1 rp.2)))
      ∗ bigSep (ownRefs (τ := τ) (.scVector (cV L) (jV L)) \ Finset.univ.map ⟨fun i => (Proc.scVector (cV L) (jV L)).devRef (refOf i), fun a b h =>
          refOf_inj (Proc.devRef_injective _ h)⟩) fun b => iprop(∃ f, ((d, b) : Loc nD τ sig) ↦{fullShare} f)) := by
  simp only [free_idx, free_buf]
  unfold SparseCore.Cfg.ownBufs
  rw [bigSep_family (ownRefs (τ := τ) (.scVector (cV L) (jV L))) (fun i => (Proc.scVector (cV L) (jV L)).devRef (refOf i)) (fun a b h =>
          refOf_inj (Proc.devRef_injective _ h)) (fun i => SparseCore.Cfg.mem_ownRefs_of_owner (p := Proc.scVector (cV L) (jV L)) (by
            revert i; intro i; rcases i with ⟨b, r, p⟩; cases b <;> cases r <;> cases p <;> rfl))]
  rw [bigSep_univ_prod, bigSep_bools]

end Body

end Cert.Proof.Tile
-- ==== Proof.TileTask.lean ====
/-
  The rule of a tile's whole task: from its share of `x`, its row numbers and its blocks of the outputs to its blocks at
  the rows gathered.
-/
module

public import proofs.«01_k».proof.Proof.TileBody

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Task

variable (d : Dev nD) (L : grid0.Coords) (A : Args F) (q : PosShare TreeShare)

abbrev xLoc (d : Dev nD) : Loc nD τ sig := (SparseCore.T d).loc main_arg0

/-- The six gathers at once need six shares of `x`. -/
def six : Role × Bool ≃ Fin 6 where
  toFun | (.h, false) => 0 | (.h, true) => 1 | (.e, false) => 2 | (.e, true) => 3 | (.o, false) => 4 | (.o, true) => 5
  invFun | 0 => (.h, false) | 1 => (.h, true) | 2 => (.e, false) | 3 => (.e, true) | 4 => (.o, false) | 5 => (.o, true)
  left_inv := by decide
  right_inv := by decide

def xsh (r : Role) (p : Bool) : PosShare TreeShare := pieceOf q 6 (by decide) (six (r, p))

theorem xAll_set : (xAll.view.set : Finset S100000x128.Idx) = Finset.univ := by
  show ((View.whole (main_arg0_scv : Ref sig .scVector)).slice _).set = _
  rw [View.set_slice_whole]
  ext i
  simp only [Rect.mem_set_unit, Finset.mem_univ, iff_true]
  intro a
  match a with
  | 0 => exact ⟨Nat.zero_le _, by show (i 0).val < 0 + 100000; have : (i 0).val < 100000 := (i 0).isLt; omega⟩
  | 1 => exact ⟨Nat.zero_le _, by show (i 1).val < 0 + 128; have : (i 1).val < 128 := (i 1).isLt; omega⟩

theorem xAll_read (x : S100000x128.Idx → Elt F .f32) : xAll.view.read (Elt F) x = x := by
  funext j
  refine ((View.read_apply _ _).trans (cast_eq _ _)).trans ?_
  refine congrArg x (funext fun a => Fin.ext ?_)
  match a with
  | ⟨0, _⟩ => show 0 + 1 * (j 0).val = (j 0).val; omega
  | ⟨1, _⟩ => show 0 + 1 * (j 1).val = (j 1).val; omega

/-- A share of `x` is six. -/
theorem x_split : (xLoc d ↦{q} A.x : sProp 𝕄) = bigSep Finset.univ fun rp : Role × Bool => xLoc d ↦{xsh q rp.1 rp.2} A.x := by
  rw [Idealize.ShloMosaic.pointsTo_piecesOf Finset.univ (ℓ := xLoc d) A.x (o := 6) (by decide) q, bigSep_univ_equiv six]
  rfl

theorem x_held (r : Role) (p : Bool) : (xLoc d ↦{xsh q r p} A.x) ⊢ held (F := F) d L xAll (xsh q r p) A.x := by
  unfold held
  iintro H
  iexists A.x; isplitr
  · ipureintro; exact xAll_read A.x
  · rw [show xAll.view.set = Finset.univ from xAll_set]; iexact H

theorem held_x (r : Role) (p : Bool) : held (F := F) d L xAll (xsh q r p) A.x ⊢ (xLoc d ↦{xsh q r p} A.x) := by
  refine (held_at (F := F) d L xAll (xsh q r p) A.x (xAll_read A.x)).trans ?_
  rw [show xAll.view.set = Finset.univ from xAll_set]

/-- What a chunk is handed, -/
def chunkPre (c : Fin 25) : sProp 𝕄 :=
  iprop((piece (F := F) d L (seqOf L .h c) (A.rows .h) ∗ piece (F := F) d L (seqOf L .e c) (A.rows .e) ∗ piece (F := F) d L (seqOf L .o c) (A.rows .o))
    ∗ (∃ f, piece (F := F) d L (dstOf L false c) f) ∗ ∃ f, piece (F := F) d L (dstOf L true c) f)
/-- and what it brings back. -/
def chunkPost (c : Fin 25) : sProp 𝕄 :=
  iprop((piece (F := F) d L (seqOf L .h c) (A.rows .h) ∗ piece (F := F) d L (seqOf L .e c) (A.rows .e) ∗ piece (F := F) d L (seqOf L .o c) (A.rows .o))
    ∗ piece (F := F) d L (dstOf L false c) (hopVal A false) ∗ piece (F := F) d L (dstOf L true c) (hopVal A true))

def tilePre : sProp 𝕄 :=
  iprop((xLoc d ↦{q} A.x) ∗ (piece (F := F) d L (nodeM L) A.nodes ∗ ∃ f, piece (F := F) d L (h0dM L) f) ∗ bigSep Finset.univ (chunkPre (F := F) d L A))
def tilePost : sProp 𝕄 :=
  iprop((xLoc d ↦{q} A.x) ∗ (piece (F := F) d L (nodeM L) A.nodes ∗ piece (F := F) d L (h0dM L) (h0Val A)) ∗ bigSep Finset.univ (chunkPost (F := F) d L A))

theorem todo_of (c : Fin 25) :
    iprop(chunkPre (F := F) d L A c ∗ bigSep Finset.univ fun r : Role => zero (F := F) d L (rOf r c)) ⊢ todo (F := F) d L (rowList L A) c := by
  rw [bigSep_roles]
  unfold chunkPre todo lists free
  iintro ⟨⟨⟨Hh, He, Ho⟩, Hd, Hd'⟩, Hzh, Hze, Hzo⟩
  ihave Hh := (piece_held (F := F) d L (seqOf L .h c) (A.rows .h) (seq_read_h L A c)) $$ Hh
  ihave He := (piece_held (F := F) d L (seqOf L .e c) (A.rows .e) (seq_read_e L A c)) $$ He
  ihave Ho := (piece_held (F := F) d L (seqOf L .o c) (A.rows .o) (seq_read_o L A c)) $$ Ho
  isplitl [Hh Hzh He Hze Ho Hzo]
  · isplitl [Hh Hzh]
    · isplitl [Hh]; · iexact Hh
      iexact Hzh
    isplitl [He Hze]
    · isplitl [He]; · iexact He
      iexact Hze
    isplitl [Ho]; · iexact Ho
    iexact Hzo
  isplitl [Hd]; · iexact Hd
  iexact Hd'

theorem of_done (c : Fin 25) :
    done (F := F) d L A.x (rowList L A) c ⊢ iprop(chunkPost (F := F) d L A c ∗ bigSep Finset.univ fun r : Role => zero (F := F) d L (rOf r c)) := by
  rw [bigSep_roles]
  unfold chunkPost done lists
  iintro ⟨⟨⟨Hh, Hzh⟩, ⟨He, Hze⟩, Ho, Hzo⟩, Hd, Hd'⟩
  ihave Hh := (held_at (F := F) d L (seqOf L .h c) fullShare (A.rows .h) (seq_read_h L A c)) $$ Hh
  ihave He := (held_at (F := F) d L (seqOf L .e c) fullShare (A.rows .e) (seq_read_e L A c)) $$ He
  ihave Ho := (held_at (F := F) d L (seqOf L .o c) fullShare (A.rows .o) (seq_read_o L A c)) $$ Ho
  ihave Hd := (held_at (F := F) d L (dstOf L false c) fullShare (hopVal A false) (dst_read_h L A c)) $$ Hd
  ihave Hd' := (held_at (F := F) d L (dstOf L true c) fullShare (hopVal A true) (dst_read_s L A c)) $$ Hd'
  isplitl [Hh He Ho Hd Hd']
  · isplitl [Hh He Ho]
    · isplitl [Hh]; · iexact Hh
      isplitl [He]; · iexact He
      iexact Ho
    isplitl [Hd]; · iexact Hd
    iexact Hd'
  isplitl [Hzh]; · iexact Hzh
  isplitl [Hze]; · iexact Hze
  iexact Hzo

/-- The buffers, semaphores and shares of `x` of a gather, and of all six. -/
def gear (rp : Role × Bool) : sProp 𝕄 :=
  iprop(free (F := F) d L (idxM rp.1 rp.2) ∗ free (F := F) d L (bufM rp.1 rp.2) ∗ zero (F := F) d L (gSem rp.1 rp.2) ∗ (xLoc d ↦{xsh q rp.1 rp.2} A.x))

theorem gear_idle (r : Role) (p : Bool) : gear (F := F) d L A q (r, p) ⊢ idle (F := F) d L A.x (xsh q) r p := by
  unfold gear idle
  iintro ⟨Hi, Hb, Hg, Hx⟩
  ihave Hx := (x_held (F := F) d L A q r p) $$ Hx
  isplitl [Hi]; · iexact Hi
  isplitl [Hb]; · iexact Hb
  isplitl [Hg]; · iexact Hg
  iexact Hx
theorem idle_gear (r : Role) (p : Bool) : idle (F := F) d L A.x (xsh q) r p ⊢ gear (F := F) d L A q (r, p) := by
  unfold gear idle
  iintro ⟨Hi, Hb, Hg, Hx⟩
  ihave Hx := (held_x (F := F) d L A q r p) $$ Hx
  isplitl [Hi]; · iexact Hi
  isplitl [Hb]; · iexact Hb
  isplitl [Hg]; · iexact Hg
  iexact Hx

theorem gears_split : (bigSep Finset.univ (gear (F := F) d L A q))
    = iprop((bigSep Finset.univ fun rp : Role × Bool => free (F := F) d L (idxM rp.1 rp.2))
        ∗ (bigSep Finset.univ fun rp : Role × Bool => free (F := F) d L (bufM rp.1 rp.2))
        ∗ (bigSep Finset.univ fun rp : Role × Bool => zero (F := F) d L (gSem rp.1 rp.2))
        ∗ (xLoc d ↦{q} A.x)) := by
  rw [x_split]
  unfold gear
  rw [bigSep_sep', bigSep_sep', bigSep_sep']

theorem slots_of : iprop((bigSep Finset.univ (gear (F := F) d L A q)) ∗ bigSep Finset.univ fun bp : Bool × Bool => zero (F := F) d L (wSem bp.1 bp.2))
    ⊢ iprop(slot (F := F) d L A.x (xsh q) false ∗ slot (F := F) d L A.x (xsh q) true) := by
  rw [bigSep_univ_prod, bigSep_univ_prod]
  simp only [bigSep_roles, bigSep_bools]
  unfold slot
  iintro ⟨⟨⟨Hhf, Hht⟩, ⟨Hef, Het⟩, Hof, Hot⟩, ⟨Hw1, Hw2⟩, Hw3, Hw4⟩
  ihave Hhf := (gear_idle (F := F) d L A q _ _) $$ Hhf
  ihave Hht := (gear_idle (F := F) d L A q _ _) $$ Hht
  ihave Hef := (gear_idle (F := F) d L A q _ _) $$ Hef
  ihave Het := (gear_idle (F := F) d L A q _ _) $$ Het
  ihave Hof := (gear_idle (F := F) d L A q _ _) $$ Hof
  ihave Hot := (gear_idle (F := F) d L A q _ _) $$ Hot
  iframe

theorem of_slots : iprop(slot (F := F) d L A.x (xsh q) false ∗ slot (F := F) d L A.x (xsh q) true)
    ⊢ iprop((bigSep Finset.univ (gear (F := F) d L A q)) ∗ bigSep Finset.univ fun bp : Bool × Bool => zero (F := F) d L (wSem bp.1 bp.2)) := by
  rw [bigSep_univ_prod, bigSep_univ_prod]
  simp only [bigSep_roles, bigSep_bools]
  unfold slot
  iintro ⟨⟨Hhf, Hef, Hof, Hw1, Hw3⟩, Hht, Het, Hot, Hw2, Hw4⟩
  ihave Hhf := (idle_gear (F := F) d L A q _ _) $$ Hhf
  ihave Hht := (idle_gear (F := F) d L A q _ _) $$ Hht
  ihave Hef := (idle_gear (F := F) d L A q _ _) $$ Hef
  ihave Het := (idle_gear (F := F) d L A q _ _) $$ Het
  ihave Hof := (idle_gear (F := F) d L A q _ _) $$ Hof
  ihave Hot := (idle_gear (F := F) d L A q _ _) $$ Hot
  iframe

theorem todos_of : iprop((bigSep Finset.univ (chunkPre (F := F) d L A)) ∗ bigSep Finset.univ fun cr : Fin 25 × Role => zero (F := F) d L (rOf cr.2 cr.1))
    ⊢ bigSep Finset.univ (todo (F := F) d L (rowList L A)) := by
  rw [bigSep_univ_prod, ← bigSep_sep']
  exact bigSep_mono fun c _ => todo_of (F := F) d L A c

theorem of_dones : bigSep Finset.univ (done (F := F) d L A.x (rowList L A))
    ⊢ iprop((bigSep Finset.univ (chunkPost (F := F) d L A)) ∗ bigSep Finset.univ fun cr : Fin 25 × Role => zero (F := F) d L (rOf cr.2 cr.1)) := by
  rw [bigSep_univ_prod, ← bigSep_sep']
  exact bigSep_mono fun c _ => of_done (F := F) d L A c

theorem two (Φ : Fin 2 → sProp 𝕄) : bigSep Finset.univ Φ = iprop(Φ 0 ∗ Φ 1) := BI.bigSep_fin_two Φ

theorem tile_body (hF : (K (F := F)).Facts) (hA : A.OK) (O : CellTallies nD τ sig (HIx 1)) (W : Waits sig (HIx 1)) (hO : ∀ g, O g none = 0) :
    iprop(levAts (K (F := F)).L (K (F := F)).lev ∗ emp ∗ tilePre (F := F) d L A q
        ∗ scopedBufs (thr d L) ∗ scopedSems0 (thr d L) ∗ owes (thr d L) O W)
      ⊢ WP (F := F) d L (task L) fun _ => iprop(tilePost (F := F) d L A q
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), sems_split, bufs_split, two]
  unfold tilePre tilePost
  iintro ⟨#Hlv, -, ⟨Hx, ⟨Hn, Hd⟩, Hcs⟩, ⟨⟨Hi, Hb⟩, Hrest⟩, ⟨⟨Hg, Hw, ⟨Hr0, Hr1⟩, Hrs⟩, Hrest'⟩, HO⟩
  ihave Hmw := (show levAts (K (F := F)).L (K (F := F)).lev ⊢ Transfers.MayWaits (thr d L) (default : HIx 1) O from
    (K (F := F)).mayWaits_none (thr := thr d L) hO) $$ Hlv
  ihave Hgear := (Entails.of_eq (gears_split (F := F) d L A q).symm) $$ [Hi Hb Hg Hx]
  · isplitl [Hi]; · iexact Hi
    isplitl [Hb]; · iexact Hb
    isplitl [Hg]; · iexact Hg
    iexact Hx
  ihave Hsl := (slots_of (F := F) d L A q) $$ [Hgear Hw]
  · isplitl [Hgear]; · iexact Hgear
    iexact Hw
  ihave Hts := (todos_of (F := F) d L A) $$ [Hcs Hrs]
  · isplitl [Hcs]; · iexact Hcs
    iexact Hrs
  ihave Hn := (piece_held (F := F) d L (nodeM L) A.nodes (node_read L A)) $$ Hn
  iapply (last (F := F) d L (task_rule (F := F) d L O W A.x (rowList L A) (xsh q) (fun r c j => hA.rows r _) (nodeList L A) (fun j => hA.nodes _)))
    $$ [Hmw Hsl Hts Hn Hd Hr0 Hr1 HO]
  · isplitl [Hmw]; · iexact Hmw
    isplitl [Hsl]; · iexact Hsl
    isplitl [Hn Hd Hr0 Hr1]
    · unfold nodes free
      isplitl [Hn Hr0 Hr1]
      · isplitl [Hn]; · iexact Hn
        isplitl [Hr0]; · iexact Hr0
        iexact Hr1
      iexact Hd
    isplitl [Hts]; · iexact Hts
    unfold owing
    iexists W; isplitr
    · ipureintro; exact fun p hp => Or.inl hp
    iexact HO
  iintro ⟨Hsl, ⟨Hn, Hd⟩, Hds, HO⟩
  ihave Hsl := (of_slots (F := F) d L A q) $$ Hsl
  icases Hsl with ⟨Hgear, Hw⟩
  ihave Hgear := (Entails.of_eq (gears_split (F := F) d L A q)) $$ Hgear
  icases Hgear with ⟨Hi, Hb, Hg, Hx⟩
  ihave Hds := (of_dones (F := F) d L A) $$ Hds
  icases Hds with ⟨Hcs, Hrs⟩
  unfold nodes owing
  icases Hn with ⟨Hn, Hr0, Hr1⟩
  ihave Hn := (held_at (F := F) d L (nodeM L) fullShare A.nodes (node_read L A)) $$ Hn
  ihave Hd := (held_at (F := F) d L (h0dM L) fullShare (h0Val A) (h0_read L A)) $$ Hd
  isplitl [Hx Hn Hd Hcs]
  · isplitl [Hx]; · iexact Hx
    isplitl [Hn Hd]
    · isplitl [Hn]; · iexact Hn
      iexact Hd
    iexact Hcs
  isplitl [Hi Hb Hrest]
  · isplitl [Hi Hb]
    · isplitl [Hi]; · iexact Hi
      iexact Hb
    iexact Hrest
  isplitl [Hg Hw Hr0 Hr1 Hrs Hrest']
  · isplitl [Hg Hw Hr0 Hr1 Hrs]
    · isplitl [Hg]; · iexact Hg
      isplitl [Hw]; · iexact Hw
      isplitl [Hr0 Hr1]
      · isplitl [Hr0]; · iexact Hr0
        iexact Hr1
      iexact Hrs
    iexact Hrest'
  iexact HO

end Task

end Cert.Proof.Tile
-- ==== Proof.TileLaunch.lean ====
/-
  The SparseCore call: what it takes of the arrays and what it brings back, dealt to the tiles and joined again.
-/
module

public import proofs.«01_k».proof.Proof.TileTask
public import proofs.«01_k».proof.Proof.TileEq

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The handshakes' rounds library. -/
abbrev EH : Emb UH (MT nD τ sig (HIx 1) (Elt F) ℕ UU ℕ) := embL

abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tiles -/

/-- Tile `(c, s)`. -/
def tileOf (p : Fin 2 × Fin 16) : grid0.Coords :=
  fun | 0 => p.1 | 1 => p.2 | ⟨_ + 2, h⟩ => absurd h (Nat.not_lt.2 (Nat.le_add_left _ _))

/-- Its share of `x`. -/
def tileShare (p : Fin 2 × Fin 16) : PosShare TreeShare := pieceOf fullShare (2 * 16) (by decide) (finProdFinEquiv p)

section Split

/-- An array dealt in parts: a part for each key. -/
theorem parts {ℓ : Loc nD τ sig} {J : Type} [Fintype J] [DecidableEq J] (S : J → Finset (Idx ℓ)) (key : Idx ℓ → J)
    (h : ∀ j i, i ∈ S j ↔ key i = j) (q : PosShare TreeShare) (f : Buf (Elt F) ℓ) :
    (ℓ ↦{q} f : sProp 𝕄) = bigSep Finset.univ fun j => ℓ ↦[S j]{q} f := by
  rw [← pointsTo_biUnion Finset.univ S fun j _ j' _ hne => Finset.disjoint_left.mpr fun i hi hi' =>
    hne (((h j i).mp hi).symm.trans ((h j' i).mp hi')),
    show Finset.univ.biUnion S = Finset.univ from Finset.eq_univ_iff_forall.mpr fun i =>
      Finset.mem_biUnion.mpr ⟨key i, Finset.mem_univ _, (h _ i).mpr rfl⟩]

def nodeKey (n : Fin 4096) : Fin 2 × Fin 16 := (⟨n.val % 256 / 128, by omega⟩, ⟨n.val / 256, by have := n.isLt; omega⟩)
def chunkKey (t : Fin 5) (k : Fin 20480) : (Fin 2 × Fin 16) × Fin 25 :=
  ((⟨k.val % 1280 / 640, by omega⟩, ⟨k.val / 1280, by have := k.isLt; omega⟩),
    ⟨5 * t.val + k.val % 640 / 128, by have := t.isLt; omega⟩)

theorem nodeKey_iff (n : Fin 4096) (p : Fin 2 × Fin 16) :
    (256 * p.2.val + 128 * p.1.val ≤ n.val ∧ n.val < 256 * p.2.val + 128 * p.1.val + 128) ↔ nodeKey n = p := by
  obtain ⟨c, s⟩ := p
  have hc := c.isLt; have hs := s.isLt
  simp only [nodeKey, Prod.mk.injEq, Fin.ext_iff]
  omega

theorem chunkKey_iff (t : Fin 5) (k : Fin 20480) (p : (Fin 2 × Fin 16) × Fin 25) :
    (t = tOf p.2 ∧ 1280 * p.1.2.val + 640 * p.1.1.val + 128 * (kOf p.2).val ≤ k.val
      ∧ k.val < 1280 * p.1.2.val + 640 * p.1.1.val + 128 * (kOf p.2).val + 128) ↔ chunkKey t k = p := by
  obtain ⟨⟨c, s⟩, b⟩ := p
  have hc := c.isLt; have hs := s.isLt; have hb := b.isLt; have ht := t.isLt
  simp only [chunkKey, tOf, kOf, Prod.mk.injEq, Fin.ext_iff]
  omega

/-- The place of a node, of a node's row, of a row number and of an output's row. -/
def nodeN (i : S4096.Idx) : Fin 4096 := i 0
def h0N (i : S4096x128.Idx) : Fin 4096 := i 0
def rowT (i : S102400.Idx) : Fin 5 := ⟨(i 0).val / 20480, by have h : (i 0).val < 102400 := (i 0).isLt; omega⟩
def rowK (i : S102400.Idx) : Fin 20480 := ⟨(i 0).val % 20480, by omega⟩
def dstT (i : S5x20480x128.Idx) : Fin 5 := i 0
def dstK (i : S5x20480x128.Idx) : Fin 20480 := i 1

theorem set_node (L : grid0.Coords) : ((nodeM L).view.set : Finset S4096.Idx) = (Rect.unit (s := S4096) (k0_off1 L) S128.size (k0_off1_inb L)).set :=
  View.set_slice_whole (main_arg1_scv) _
theorem mem_node (p : Fin 2 × Fin 16) (i : S4096.Idx) :
    i ∈ (Rect.unit (s := S4096) (k0_off1 (tileOf p)) S128.size (k0_off1_inb (tileOf p))).set ↔ nodeKey (nodeN i) = p := by
  rw [← nodeKey_iff, Rect.mem_set_unit, k0_off1_eq]
  exact ⟨fun h => h 0, fun h a => match a with | ⟨0, _⟩ => h⟩

theorem set_h0 (L : grid0.Coords) : ((h0dM L).view.set : Finset S4096x128.Idx) = (Rect.unit (s := S4096x128) (k0_off2 L) S128x128.size (k0_off2_inb L)).set :=
  View.set_slice_whole main_v9_0_scv _
theorem mem_h0 (p : Fin 2 × Fin 16) (i : S4096x128.Idx) :
    i ∈ (Rect.unit (s := S4096x128) (k0_off2 (tileOf p)) S128x128.size (k0_off2_inb (tileOf p))).set ↔ nodeKey (h0N i) = p := by
  rw [← nodeKey_iff, Rect.mem_set_unit, k0_off2_eq]
  exact ⟨fun h => h 0, fun h a => match a with
    | ⟨0, _⟩ => h
    | ⟨1, _⟩ => ⟨Nat.zero_le _, by have h' : (i 1).val < 128 := (i 1).isLt; show (i 1).val < 0 + 128; omega⟩⟩

abbrev seqRect (L : grid0.Coords) (c : Fin 25) : Rect S102400 :=
  Rect.unit (s := S102400) (k0_off3 L (BitVec.ofNat 32 (20480 * (tOf c).val)) (BitVec.ofNat 32 (128 * (kOf c).val))) S128.size (k0_off3_inb L (tOf c) (kOf c))

theorem set_h (L : grid0.Coords) (c : Fin 25) : ((seqOf L .h c).view.set : Finset S102400.Idx) = (seqRect L c).set := View.set_slice_whole main_v1_scv _
theorem set_e (L : grid0.Coords) (c : Fin 25) : ((seqOf L .e c).view.set : Finset S102400.Idx) = (seqRect L c).set := View.set_slice_whole main_v6_scv _
theorem set_o (L : grid0.Coords) (c : Fin 25) : ((seqOf L .o c).view.set : Finset S102400.Idx) = (seqRect L c).set := View.set_slice_whole main_v8_scv _
theorem mem_seq (p : (Fin 2 × Fin 16) × Fin 25) (i : S102400.Idx) : i ∈ (seqRect (tileOf p.1) p.2).set ↔ chunkKey (rowT i) (rowK i) = p := by
  rw [← chunkKey_iff, Rect.mem_set_unit, k0_off3_eq]
  obtain ⟨⟨c, s⟩, b⟩ := p
  have hc := c.isLt; have hs := s.isLt
  have ht := (tOf b).isLt; have hk := (kOf b).isLt
  have hi : (i 0).val < 102400 := (i 0).isLt
  have g : (rowT i = tOf b ∧ 1280 * s.val + 640 * c.val + 128 * (kOf b).val ≤ (rowK i).val
        ∧ (rowK i).val < 1280 * s.val + 640 * c.val + 128 * (kOf b).val + 128)
      ↔ (20480 * (tOf b).val + 1280 * s.val + 640 * c.val + 128 * (kOf b).val ≤ (i 0).val
        ∧ (i 0).val < 20480 * (tOf b).val + 1280 * s.val + 640 * c.val + 128 * (kOf b).val + 128) := by
    simp only [rowT, rowK, Fin.ext_iff]; omega
  exact ⟨fun h => g.mpr (h 0), fun h a => match a with | ⟨0, _⟩ => g.mp h⟩

theorem set_o1 (L : grid0.Coords) (c : Fin 25) : ((dstOf L false c).view.set : Finset S5x20480x128.Idx) = (dstRect L c).set :=
  (View.set_reshape (v := (View.whole main_v9_1_scv).slice (dstRect L c)) squeezes_S1x128x128_S128x128.numel_eq).trans (View.set_slice_whole main_v9_1_scv _)
theorem set_o2 (L : grid0.Coords) (c : Fin 25) : ((dstOf L true c).view.set : Finset S5x20480x128.Idx) = (dstRect L c).set :=
  (View.set_reshape (v := (View.whole main_v9_2_scv).slice (dstRect L c)) squeezes_S1x128x128_S128x128.numel_eq).trans (View.set_slice_whole main_v9_2_scv _)
theorem mem_dst (p : (Fin 2 × Fin 16) × Fin 25) (i : S5x20480x128.Idx) :
    i ∈ (dstRect (tileOf p.1) p.2).set ↔ chunkKey (dstT i) (dstK i) = p := by
  rw [← chunkKey_iff, Rect.mem_set_unit, offOut_eq]
  refine ⟨fun h => ⟨?_, h 1⟩, fun h a => match a with
    | ⟨0, _⟩ => ?_
    | ⟨1, _⟩ => h.2
    | ⟨2, _⟩ => ⟨Nat.zero_le _, by have h' : (i 2).val < 128 := (i 2).isLt; show (i 2).val < 0 + 128; omega⟩⟩
  · have h0 : (tOf p.2).val ≤ (i 0).val ∧ (i 0).val < (tOf p.2).val + 1 := h 0
    exact Fin.ext (by show (i 0).val = (tOf p.2).val; omega)
  · have h0 : (i 0).val = (tOf p.2).val := congrArg Fin.val h.1
    show (tOf p.2).val ≤ (i 0).val ∧ (i 0).val < (tOf p.2).val + 1
    omega

end Split

/-! ## The whole arrays, dealt -/

section Deal

variable (d : Dev nD) (A : Args F)

abbrev nLoc : Loc nD τ sig := (SparseCore.T d).loc main_arg1
abbrev hLoc : Loc nD τ sig := (SparseCore.T d).loc main_v1
abbrev eLoc : Loc nD τ sig := (SparseCore.T d).loc main_v6
abbrev oLoc : Loc nD τ sig := (SparseCore.T d).loc main_v8
abbrev o0Loc : Loc nD τ sig := (SparseCore.T d).loc main_v9_0
abbrev o1Loc : Loc nD τ sig := (SparseCore.T d).loc main_v9_1
abbrev o2Loc : Loc nD τ sig := (SparseCore.T d).loc main_v9_2

/-- The call's arrays, the outputs at `f0`, `f1`, `f2`. -/
def wholeAt (f0 : S4096x128.Idx → Elt F .f32) (f1 f2 : S5x20480x128.Idx → Elt F .f32) : sProp 𝕄 :=
  iprop((xLoc d ↦{fullShare} A.x) ∗ ((nLoc d ↦{fullShare} A.nodes) ∗ o0Loc d ↦{fullShare} f0)
    ∗ ((hLoc d ↦{fullShare} A.rows .h) ∗ (eLoc d ↦{fullShare} A.rows .e) ∗ oLoc d ↦{fullShare} A.rows .o)
    ∗ (o1Loc d ↦{fullShare} f1) ∗ o2Loc d ↦{fullShare} f2)

/-- A tile's part of them. -/
def chunkAt (L : grid0.Coords) (f1 f2 : S5x20480x128.Idx → Elt F .f32) (c : Fin 25) : sProp 𝕄 :=
  iprop((piece (F := F) d L (seqOf L .h c) (A.rows .h) ∗ piece (F := F) d L (seqOf L .e c) (A.rows .e) ∗ piece (F := F) d L (seqOf L .o c) (A.rows .o))
    ∗ piece (F := F) d L (dstOf L false c) f1 ∗ piece (F := F) d L (dstOf L true c) f2)
def tileAt (L : grid0.Coords) (q : PosShare TreeShare) (f0 : S4096x128.Idx → Elt F .f32) (f1 f2 : S5x20480x128.Idx → Elt F .f32) : sProp 𝕄 :=
  iprop((xLoc d ↦{q} A.x) ∗ (piece (F := F) d L (nodeM L) A.nodes ∗ piece (F := F) d L (h0dM L) f0)
    ∗ bigSep Finset.univ (chunkAt d A L f1 f2))

theorem x_deal (f : S100000x128.Idx → Elt F .f32) :
    (xLoc d ↦{fullShare} f : sProp 𝕄) = bigSep Finset.univ fun p : Fin 2 × Fin 16 => xLoc d ↦{tileShare p} f :=
  (Idealize.ShloMosaic.pointsTo_piecesOf (ℓ := xLoc d) Finset.univ f (o := 2 * 16) (by decide) fullShare).trans (bigSep_univ_equiv finProdFinEquiv _)

theorem node_deal (f : S4096.Idx → Elt F .i32) :
    (nLoc d ↦{fullShare} f : sProp 𝕄) = bigSep Finset.univ fun p : Fin 2 × Fin 16 => piece (F := F) d (tileOf p) (nodeM (tileOf p)) f :=
  (parts (ℓ := nLoc d) _ (fun i => nodeKey (nodeN i)) mem_node fullShare f).trans (bigSep_congr fun p _ =>
    congrArg (fun I : Finset S4096.Idx => (nLoc d ↦[I]{fullShare} f : sProp 𝕄)) (set_node _).symm)
theorem h0_deal (f : S4096x128.Idx → Elt F .f32) :
    (o0Loc d ↦{fullShare} f : sProp 𝕄) = bigSep Finset.univ fun p : Fin 2 × Fin 16 => piece (F := F) d (tileOf p) (h0dM (tileOf p)) f :=
  (parts (ℓ := o0Loc d) _ (fun i => nodeKey (h0N i)) mem_h0 fullShare f).trans (bigSep_congr fun p _ =>
    congrArg (fun I : Finset S4096x128.Idx => (o0Loc d ↦[I]{fullShare} f : sProp 𝕄)) (set_h0 _).symm)
theorem h_deal (f : S102400.Idx → Elt F .i32) :
    (hLoc d ↦{fullShare} f : sProp 𝕄) = bigSep Finset.univ fun p : Fin 2 × Fin 16 => bigSep Finset.univ fun c : Fin 25 => piece (F := F) d (tileOf p) (seqOf (tileOf p) .h c) f :=
  (parts (ℓ := hLoc d) _ (fun i => chunkKey (rowT i) (rowK i)) mem_seq fullShare f).trans ((bigSep_univ_prod _).trans (bigSep_congr fun p _ => bigSep_congr fun c _ =>
    congrArg (fun I : Finset S102400.Idx => (hLoc d ↦[I]{fullShare} f : sProp 𝕄)) (set_h _ c).symm))
theorem e_deal (f : S102400.Idx → Elt F .i32) :
    (eLoc d ↦{fullShare} f : sProp 𝕄) = bigSep Finset.univ fun p : Fin 2 × Fin 16 => bigSep Finset.univ fun c : Fin 25 => piece (F := F) d (tileOf p) (seqOf (tileOf p) .e c) f :=
  (parts (ℓ := eLoc d) _ (fun i => chunkKey (rowT i) (rowK i)) mem_seq fullShare f).trans ((bigSep_univ_prod _).trans (bigSep_congr fun p _ => bigSep_congr fun c _ =>
    congrArg (fun I : Finset S102400.Idx => (eLoc d ↦[I]{fullShare} f : sProp 𝕄)) (set_e _ c).symm))
theorem o_deal (f : S102400.Idx → Elt F .i32) :
    (oLoc d ↦{fullShare} f : sProp 𝕄) = bigSep Finset.univ fun p : Fin 2 × Fin 16 => bigSep Finset.univ fun c : Fin 25 => piece (F := F) d (tileOf p) (seqOf (tileOf p) .o c) f :=
  (parts (ℓ := oLoc d) _ (fun i => chunkKey (rowT i) (rowK i)) mem_seq fullShare f).trans ((bigSep_univ_prod _).trans (bigSep_congr fun p _ => bigSep_congr fun c _ =>
    congrArg (fun I : Finset S102400.Idx => (oLoc d ↦[I]{fullShare} f : sProp 𝕄)) (set_o _ c).symm))
theorem o1_deal (f : S5x20480x128.Idx → Elt F .f32) :
    (o1Loc d ↦{fullShare} f : sProp 𝕄) = bigSep Finset.univ fun p : Fin 2 × Fin 16 => bigSep Finset.univ fun c : Fin 25 => piece (F := F) d (tileOf p) (dstOf (tileOf p) false c) f :=
  (parts (ℓ := o1Loc d) _ (fun i => chunkKey (dstT i) (dstK i)) mem_dst fullShare f).trans ((bigSep_univ_prod _).trans (bigSep_congr fun p _ => bigSep_congr fun c _ =>
    congrArg (fun I : Finset S5x20480x128.Idx => (o1Loc d ↦[I]{fullShare} f : sProp 𝕄)) (set_o1 _ c).symm))
theorem o2_deal (f : S5x20480x128.Idx → Elt F .f32) :
    (o2Loc d ↦{fullShare} f : sProp 𝕄) = bigSep Finset.univ fun p : Fin 2 × Fin 16 => bigSep Finset.univ fun c : Fin 25 => piece (F := F) d (tileOf p) (dstOf (tileOf p) true c) f :=
  (parts (ℓ := o2Loc d) _ (fun i => chunkKey (dstT i) (dstK i)) mem_dst fullShare f).trans ((bigSep_univ_prod _).trans (bigSep_congr fun p _ => bigSep_congr fun c _ =>
    congrArg (fun I : Finset S5x20480x128.Idx => (o2Loc d ↦[I]{fullShare} f : sProp 𝕄)) (set_o2 _ c).symm))

theorem wholeAt_deal (f0 : S4096x128.Idx → Elt F .f32) (f1 f2 : S5x20480x128.Idx → Elt F .f32) :
    wholeAt (F := F) d A f0 f1 f2 = bigSep Finset.univ fun p : Fin 2 × Fin 16 => tileAt d A (tileOf p) (tileShare p) f0 f1 f2 := by
  unfold tileAt chunkAt
  simp only [bigSep_sep']
  unfold wholeAt
  rw [x_deal, node_deal, h0_deal, h_deal, e_deal, o_deal, o1_deal, o2_deal]

/-! ## What the call takes and brings back -/

theorem chunkAt_pre (L : grid0.Coords) (f1 f2 : S5x20480x128.Idx → Elt F .f32) (c : Fin 25) : chunkAt (F := F) d A L f1 f2 c ⊢ chunkPre (F := F) d L A c := by
  unfold chunkAt chunkPre
  iintro ⟨Hr, H1, H2⟩
  isplitl [Hr]; · iexact Hr
  isplitl [H1]
  · iexists f1; iexact H1
  iexists f2; iexact H2

theorem tileAt_pre (L : grid0.Coords) (q : PosShare TreeShare) (f0 : S4096x128.Idx → Elt F .f32) (f1 f2 : S5x20480x128.Idx → Elt F .f32) :
    tileAt (F := F) d A L q f0 f1 f2 ⊢ tilePre (F := F) d L A q := by
  have hm : (bigSep Finset.univ (chunkAt (F := F) d A L f1 f2) : sProp 𝕄) ⊢ bigSep Finset.univ (chunkPre (F := F) d L A) :=
    bigSep_mono fun c _ => chunkAt_pre (F := F) d A L f1 f2 c
  unfold tileAt tilePre
  iintro ⟨Hx, ⟨Hn, H0⟩, Hc⟩
  isplitl [Hx]; · iexact Hx
  isplitl [Hn H0]
  · isplitl [Hn]; · iexact Hn
    iexists f0; iexact H0
  iapply hm; iexact Hc

theorem tilePost_at (L : grid0.Coords) (q : PosShare TreeShare) :
    tilePost (F := F) d L A q = tileAt (F := F) d A L q (h0Val A) (hopVal A false) (hopVal A true) := rfl

/-- What core `c` is dealt, and what it brings back. -/
def corePre (c : Fin 2) : sProp 𝕄 := bigSep Finset.univ fun s : Fin 16 => tilePre (F := F) d (tileOf (c, s)) A (tileShare (c, s))
def corePost (c : Fin 2) : sProp 𝕄 := bigSep Finset.univ fun s : Fin 16 => tilePost (F := F) d (tileOf (c, s)) A (tileShare (c, s))

theorem deal (f0 : S4096x128.Idx → Elt F .f32) (f1 f2 : S5x20480x128.Idx → Elt F .f32) :
    wholeAt (F := F) d A f0 f1 f2 ⊢ bigSep Finset.univ (corePre (F := F) d A) := by
  rw [wholeAt_deal]
  exact (bigSep_mono fun p _ => tileAt_pre (F := F) d A _ _ f0 f1 f2).trans (Entails.of_eq (bigSep_univ_prod _))

theorem join : bigSep Finset.univ (corePost (F := F) d A) ⊢ wholeAt (F := F) d A (h0Val A) (hopVal A false) (hopVal A true) := by
  rw [wholeAt_deal, bigSep_univ_prod]
  exact .rfl

end Deal

/-! ## The obligations of the call -/

section Call

variable (A : Dev nD → Args F)

/-- What the handshakes carry: to a core and to a tile what it is dealt, back what it brings. -/
def P : (K (F := F)).Pay (nD := nD) (Val := Elt F) (Name := ℕ) (U := UU) where
  st := fun q d c => match q with | 0 => corePre (F := F) d (A d) c
  dn := fun q d c => match q with | 0 => corePost (F := F) d (A d) c
  go := fun q d c s => match q with | 0 => tilePre (F := F) d (tileOf (c, s)) (A d) (tileShare (c, s))
  td := fun q d c s => match q with | 0 => tilePost (F := F) d (tileOf (c, s)) (A d) (tileShare (c, s))
  x := fun _ _ => iprop(emp)

/-- May be handed over. -/
abbrev Stored (Q : sProp 𝕄) : Prop := BI.Storable (upEmb : UEmb _ 𝕄) Q

theorem stored_sep {Q R : sProp 𝕄} (hQ : Stored (F := F) Q) (hR : Stored (F := F) R) : Stored (F := F) iprop(Q ∗ R) :=
  haveI := hQ; haveI := hR; inferInstance
theorem stored_exists {X : Type} {Φ : X → sProp 𝕄} (h : ∀ x, Stored (F := F) (Φ x)) : Stored (F := F) iprop(∃ x, Φ x) :=
  haveI := h; inferInstance
theorem stored_all {X : Type} [Fintype X] {Φ : X → sProp 𝕄} (h : ∀ x, Stored (F := F) (Φ x)) : Stored (F := F) (bigSep Finset.univ Φ) :=
  haveI := h; inferInstance
theorem stored_pt (ℓ : Loc nD τ sig) (I : Finset (Idx ℓ)) (q : PosShare TreeShare) (f : Buf (Elt F) ℓ) : Stored (F := F) (ℓ ↦[I]{q} f : sProp 𝕄) := inferInstance

theorem chunkPre_stored (d : Dev nD) (L : grid0.Coords) (B : Args F) (c : Fin 25) : Stored (F := F) (chunkPre (F := F) d L B c) :=
  stored_sep (stored_sep (stored_pt _ _ _ _) (stored_sep (stored_pt _ _ _ _) (stored_pt _ _ _ _)))
    (stored_sep (stored_exists fun _ => stored_pt _ _ _ _) (stored_exists fun _ => stored_pt _ _ _ _))
theorem chunkPost_stored (d : Dev nD) (L : grid0.Coords) (B : Args F) (c : Fin 25) : Stored (F := F) (chunkPost (F := F) d L B c) :=
  stored_sep (stored_sep (stored_pt _ _ _ _) (stored_sep (stored_pt _ _ _ _) (stored_pt _ _ _ _)))
    (stored_sep (stored_pt _ _ _ _) (stored_pt _ _ _ _))
theorem tilePre_stored (d : Dev nD) (L : grid0.Coords) (B : Args F) (q : PosShare TreeShare) : Stored (F := F) (tilePre (F := F) d L B q) :=
  stored_sep (stored_pt _ _ _ _) (stored_sep (stored_sep (stored_pt _ _ _ _) (stored_exists fun _ => stored_pt _ _ _ _)) (stored_all (chunkPre_stored d L B)))
theorem tilePost_stored (d : Dev nD) (L : grid0.Coords) (B : Args F) (q : PosShare TreeShare) : Stored (F := F) (tilePost (F := F) d L B q) :=
  stored_sep (stored_pt _ _ _ _) (stored_sep (stored_sep (stored_pt _ _ _ _) (stored_pt _ _ _ _)) (stored_all (chunkPost_stored d L B)))

instance P_storable : (P (F := F) A).IsStorable where
  st q d c := match q with | 0 => stored_all fun s => tilePre_stored d (tileOf (c, s)) (A d) (tileShare (c, s))
  dn q d c := match q with | 0 => stored_all fun s => tilePost_stored d (tileOf (c, s)) (A d) (tileShare (c, s))
  go q d c s := match q with | 0 => tilePre_stored d (tileOf (c, s)) (A d) (tileShare (c, s))
  td q d c s := match q with | 0 => tilePost_stored d (tileOf (c, s)) (A d) (tileShare (c, s))

theorem post_wider {thr : Thread nD τ} {B C E : sProp 𝕄} {W : Waits sig (HIx 1)} {O : CellTallies nD τ sig (HIx 1)} {q : Fin 1} :
    iprop(B ∗ C ∗ E ∗ ∃ W', ⌜∀ p ∈ W', p ∈ W ∨ p.2 = none⌝ ∗ owes thr O W')
      ⊢ iprop(B ∗ C ∗ E ∗ ∃ W', ⌜∀ p ∈ W', p ∈ W ∨ p.2 = none ∨ p.2 = Option.some q⌝ ∗ owes thr O W') := by
  iintro ⟨HB, HC, HE, %W', %hW', HO⟩
  isplitl [HB]; · iexact HB
  isplitl [HC]; · iexact HC
  isplitl [HE]; · iexact HE
  iexists W'; isplitr
  · ipureintro; exact fun p hp => (hW' p hp).imp_right Or.inl
  · iexact HO

theorem defs₀_tile (c : Fin τ.nSC) (s : Fin τ.nSub) :
    defs₀ (F := F) (.scVector c s) 0 () = SparseCore.onTile hcore0 hsub0 (fun c s => task (F := F) (tileOf (c, s))) ⟨⟩ c s := by
  refine Eq.trans ?_ (congrArg (fun f => SparseCore.onTile hcore0 hsub0 f ⟨⟩ c s) (funext fun c => funext fun s => cc0__sc_body_eq (F := F) (tileOf (c, s))))
  rfl

set_option maxRecDepth 16384 in
set_option maxHeartbeats 2000000 in
theorem tileObl (hA : ∀ d, (A d).OK) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body (F := F) d (tileOf (⟨_, hci.1⟩, ⟨_, hci.2⟩)) (A d) _ facts (hA d) O W hO).trans (wp_mono frame _ _ fun _ => post_wider)

theorem vecSplit : (K (F := F)).VecSplit' (P A) 0 := by
  intro d c
  change corePre (F := F) d (A d) c ⊢ |={Set.univ}=> iprop((bigSep Finset.univ fun s : Fin 16 => tilePre (F := F) d (tileOf (c, s)) (A d) (tileShare (c, s)))
    ∗ ((bigSep Finset.univ fun s : Fin 16 => tilePost (F := F) d (tileOf (c, s)) (A d) (tileShare (c, s))) -∗ corePost (F := F) d (A d) c))
  unfold corePre corePost
  iintro H; imodintro
  isplitl [H]; · iexact H
  iintro H; iexact H

end Call

end Cert.Proof.Tile
-- ==== Proof.TcSeg.lean ====
/-
  The dense kernel's region of @main: entered from the device's buffers and what its core owes, left with the windows' arrays at
  their final contents and every other buffer as it was.
-/
module

public import proofs.«01_k».proof.Proof.TcRegion
public import proofs.«01_k».proof.Proof.TileLaunch

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The pipeline's rounds library: the middle component of the ghost state. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

variable (V : Entry F)

/-- What the core's waits have recorded when the region is entered lies within the first call's levels. -/
def Rc (d : Dev nD) : Set (SemLoc sig × HIx 1) := {p | (K (F := F)).lev (SparseCore.T d, p.1) p.2 ≤ 8 * SparseCore.Cfg.Blocks.fst (Q := 1) (N := 1) 1}

/-- The prefetched tables' admissible contents: no table. -/
abbrev adm : (p : Fin 1) → (pcfgs (F := F) p).Adm := fun p => (cfgs p).toPCfg_adm

/-- The windows' arrays after the region, every other buffer as it was. -/
def after1 (d : Dev nD) : sProp 𝕄 :=
  iprop((dats V (Rc (F := F)) 0 d).arrays ((dats V (Rc (F := F)) 0 d).arrAt · cfg1.N) ∗ Pipeline.unscopedRest (Ix := HIx 1) (Name := ℕ) (U := UU) (Lvl := ℕ) spec1 d (V d))

/-- What the core's waits record in the region is within the bound too. -/
theorem bound_sub (d : Dev nD) (t : Fin (cfg1.N + 1)) : (dats V (Rc (F := F)) 0 d).bound none t ⊆ Rc (F := F) d := by
  rintro p (h | ⟨w, s, rfl⟩)
  · exact h
  · exact Nat.zero_le _

set_option backward.isDefEq.respectTransparency.types false in
/-- The region. -/
def reg0 : Pipeline.RegionSeg (pcfgs (F := F)) adm (dats V (Rc (F := F))) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody d := (body_obligation V (Rc (F := F)) d).loose
  hwaits := Pipeline.hwaits_of_owed_zero _ _ _ _ (K (F := F)).L (K (F := F)).lev 0 fun _ _ => rfl
  pre d := iprop(unscopedBufs d (V d) ∗ Pipeline.owesWithin d 0 (Rc (F := F) d))
  post d := iprop(after1 V d ∗ Pipeline.owesWithin d 0 (Rc (F := F) d))
  X _ := iprop(emp)
  Y _ := iprop(emp)
  Z d := Pipeline.unscopedRest (Ix := HIx 1) (Name := ℕ) (U := UU) (Lvl := ℕ) spec1 d (V d)
  hentry d := by
    have hsplit := Pipeline.arrays_of_unscopedBufs (pcfgs (F := F)) adm (dats V (Rc (F := F))) launch1.win launch1.arr_whole d
      ((dats V (Rc (F := F)) 0 d).share_full fun _ => rfl) (V d) (A_eq V (Rc (F := F)) d)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono d 0 (show Rc (F := F) d ⊆ (dats V (Rc (F := F)) 0 d).bound none 0 from Set.subset_union_left)); iexact HO
    isplitr; · iempintro
    iexact Hr
  hin d := by
    rw [scopedRest1_eq, show (dats V (Rc (F := F)) 0 d).Φ 0
      = iprop(∃ f, ⌜(0 : ℕ) ≠ 0 → f = accAt V d 0⌝ ∗ ((d : Thread nD τ).loc cc1_scratch0) ↦{fullShare} f) from rfl]
    iintro ⟨-, -, %f, H⟩
    iexists f; isplitr; · ipureintro; exact fun h => absurd rfl h
    iexact H
  hout d := by
    rw [Pipeline.ownSems0_none, scopedRest1_eq, show (dats V (Rc (F := F)) 0 d).Φ (Fin.last (Pipeline.pin (pcfgs (F := F)) adm 0).N)
      = iprop(∃ f, ⌜cfg1.N ≠ 0 → f = accAt V d cfg1.N⌝ ∗ ((d : Thread nD τ).loc cc1_scratch0) ↦{fullShare} f) from rfl]
    iintro ⟨%f, -, H⟩
    isplitr; · iempintro
    isplitr; · iempintro
    iexists f; iexact H
  hexit d := by
    iintro ⟨Ha, HO, -, HZ⟩
    imodintro
    isplitr [HO]
    · unfold after1
      isplitl [Ha]; · iexact Ha
      iexact HZ
    · iapply (Pipeline.owesWithin_mono d 0 (bound_sub V d (Fin.last cfg1.N))); iexact HO

end Cert.Proof.Tile
-- ==== Proof.Host.lean ====
/-
  The host code around the calls: its two lines of operations, and the buffers' contents after each line and each call.
-/
module

public import proofs.«01_k».proof.Proof.TcSeg

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The operations before the SparseCore call. -/
noncomputable def ops0 : List (HloOp τ sig (Elt F)) :=
  [ StableHlo.unary main_arg2 main_v0 ((transpose S5x5x4096 [0, 2, 1] · transposes_S5x4096x5_S5x5x4096_0_2_1) : (⟨S5x4096x5, .i32⟩ : BufTy).Contents (Elt F) → (⟨S5x5x4096, .i32⟩ : BufTy).Contents (Elt F)),
    StableHlo.reshape main_v0 main_v1 (rfl : (.i32 : EltTy) = .i32) shapeCasts_S5x5x4096_S102400,
    StableHlo.reshape main_arg3 main_v2 (rfl : (.i32 : EltTy) = .i32) shapeCasts_S5x20480x2_S5x4096x5x2,
    StableHlo.unary main_v2 main_v3 ((transpose S5x5x4096x2 [0, 2, 1, 3] · transposes_S5x4096x5x2_S5x5x4096x2_0_2_1_3) : (⟨S5x4096x5x2, .i32⟩ : BufTy).Contents (Elt F) → (⟨S5x5x4096x2, .i32⟩ : BufTy).Contents (Elt F)),
    StableHlo.reshape main_v3 main_v4 (rfl : (.i32 : EltTy) = .i32) shapeCasts_S5x5x4096x2_S102400x2,
    StableHlo.unary main_v4 main_v5 ((extractStridedSlice S102400x1 ![0, 0] · slices_S102400x2_S102400x1_0_0) : (⟨S102400x2, .i32⟩ : BufTy).Contents (Elt F) → (⟨S102400x1, .i32⟩ : BufTy).Contents (Elt F)),
    StableHlo.reshape main_v5 main_v6 (rfl : (.i32 : EltTy) = .i32) shapeCasts_S102400x1_S102400,
    StableHlo.unary main_v4 main_v7 ((extractStridedSlice S102400x1 ![0, 1] · slices_S102400x2_S102400x1_0_1) : (⟨S102400x2, .i32⟩ : BufTy).Contents (Elt F) → (⟨S102400x1, .i32⟩ : BufTy).Contents (Elt F)),
    StableHlo.reshape main_v7 main_v8 (rfl : (.i32 : EltTy) = .i32) shapeCasts_S102400x1_S102400 ]

/-- The operations between the two calls. -/
noncomputable def ops1 : List (HloOp τ sig (Elt F)) :=
  [ StableHlo.reshape main_v9_1 main_v10 (rfl : (.f32 : EltTy) = .f32) shapeCasts_S5x20480x128_S5x5x4096x128,
    StableHlo.reshape main_v9_2 main_v11 (rfl : (.f32 : EltTy) = .f32) shapeCasts_S5x20480x128_S5x5x4096x128,
    StableHlo.unary main_arg10 main_v12 (broadcastInDim S8x8x4 ![0, 2] bcast_S8x4_S8x8x4_0_2 : (⟨S8x4, .f32⟩ : BufTy).Contents (Elt F) → (⟨S8x8x4, .f32⟩ : BufTy).Contents (Elt F)),
    StableHlo.reshape main_v12 main_v13 (rfl : (.f32 : EltTy) = .f32) shapeCasts_S8x8x4_S64x4,
    StableHlo.unary main_v13 main_v14 ((transpose S4x64 [1, 0] · transposes_S64x4_S4x64_1_0) : (⟨S64x4, .f32⟩ : BufTy).Contents (Elt F) → (⟨S4x64, .f32⟩ : BufTy).Contents (Elt F)),
    StableHlo.unary main_arg11 main_v15 ((transpose S5x64 [1, 0] · transposes_S64x5_S5x64_1_0) : (⟨S64x5, .f32⟩ : BufTy).Contents (Elt F) → (⟨S5x64, .f32⟩ : BufTy).Contents (Elt F)),
    StableHlo.reshape main_arg6 main_v16 (rfl : (.f32 : EltTy) = .f32) shapeCasts_S128_S1x128,
    StableHlo.reshape main_arg9 main_v17 (rfl : (.f32 : EltTy) = .f32) shapeCasts_S64_S1x64,
    StableHlo.reshape main_arg13 main_v18 (rfl : (.f32 : EltTy) = .f32) shapeCasts_S64_S1x64 ]

/-- The dense kernel's call. -/
noncomputable def dense : Prog (TpuEff nD τ sig (Elt F) (Pipeline.Sig Λ₀ (Fin 1) fun p => (pcfgs (F := F) p).Adm) .tc) PUnit :=
  .op (.customCall (Pipeline.entry 0) ()) fun _ => .ret ⟨⟩

theorem main_eq (d : Dev nD) : main (F := F) d
    = StableHlo.seq ops0 >>= fun _ => (K (F := F)).run d 0 >>= fun _ => StableHlo.seq ops1 >>= fun _ => SparseCore.liftProg dense := by
  rw [StableHlo.seq_bind_seqK]
  simp only [StableHlo.seq_bind_seqK]
  rfl

theorem ops0_sub : ∀ op ∈ ops0 (F := F), op.bufs ⊆ Pipeline.ucRefs τ sig := fun op h =>
  Pipeline.sub_ucRefs op (by
    revert op
    simp only [ops0, List.forall_mem_cons, StableHlo.unary_bufs_sub, StableHlo.reshape_bufs_sub, true_and]
    exact fun _ h => nomatch h)
theorem ops1_sub : ∀ op ∈ ops1 (F := F), op.bufs ⊆ Pipeline.ucRefs τ sig := fun op h =>
  Pipeline.sub_ucRefs op (by
    revert op
    simp only [ops1, List.forall_mem_cons, StableHlo.unary_bufs_sub, StableHlo.reshape_bufs_sub, true_and]
    exact fun _ h => nomatch h)
theorem ops0_fresh : ∀ op ∈ ops0 (F := F), op.fresh = ∅ := List.forall_iff_forall_mem.mp (StableHlo.forall_fresh_of_map rfl)
theorem ops1_fresh : ∀ op ∈ ops1 (F := F), op.fresh = ∅ := List.forall_iff_forall_mem.mp (StableHlo.forall_fresh_of_map rfl)

variable (m : (ℓ : Loc nD τ sig) → Buf (Elt F) ℓ)

/-- The contents when the SparseCore call starts. -/
noncomputable def W1 (d : Dev nD) : Valuation τ sig (Elt F) := StableHlo.after ops0 fun b => m (d, b)

/-- What the call is handed. -/
noncomputable def argsOf (d : Dev nD) : Args F where
  x := W1 m d (Proc.devRef .tc main_arg0)
  nodes := W1 m d (Proc.devRef .tc main_arg1)
  rows := fun | .h => W1 m d (Proc.devRef .tc main_v1) | .e => W1 m d (Proc.devRef .tc main_v6) | .o => W1 m d (Proc.devRef .tc main_v8)

/-- The contents after the call. -/
noncomputable def W2 (d : Dev nD) : Valuation τ sig (Elt F) :=
  Function.update (Function.update (Function.update (W1 m d) (Proc.devRef .tc main_v9_0) (h0Val (argsOf m d)))
    (Proc.devRef .tc main_v9_1) (hopVal (argsOf m d) false)) (Proc.devRef .tc main_v9_2) (hopVal (argsOf m d) true)

/-- The contents when the dense kernel starts. -/
noncomputable def W3 (d : Dev nD) : Valuation τ sig (Elt F) := StableHlo.after ops1 (W2 m d)

/-- The same, by the core's own references. -/
noncomputable def entry : Entry F := fun d b => W3 m d (Proc.devRef .tc b)

/-- The call's arrays. -/
def callRefs : Finset (DevRef τ sig) :=
  {Proc.devRef .tc main_arg0, Proc.devRef .tc main_arg1, Proc.devRef .tc main_v9_0, Proc.devRef .tc main_v1, Proc.devRef .tc main_v6,
    Proc.devRef .tc main_v8, Proc.devRef .tc main_v9_1, Proc.devRef .tc main_v9_2}

theorem callRefs_sub : callRefs ⊆ Pipeline.ucRefs τ sig := by decide

theorem held_call (d : Dev nD) (W : Valuation τ sig (Elt F)) :
    (StableHlo.held (SparseCore.T d) callRefs W : sProp 𝕄)
      = iprop((xLoc d ↦{fullShare} W (Proc.devRef .tc main_arg0)) ∗ (nLoc d ↦{fullShare} W (Proc.devRef .tc main_arg1))
        ∗ (o0Loc d ↦{fullShare} W (Proc.devRef .tc main_v9_0)) ∗ (hLoc d ↦{fullShare} W (Proc.devRef .tc main_v1))
        ∗ (eLoc d ↦{fullShare} W (Proc.devRef .tc main_v6)) ∗ (oLoc d ↦{fullShare} W (Proc.devRef .tc main_v8))
        ∗ (o1Loc d ↦{fullShare} W (Proc.devRef .tc main_v9_1)) ∗ o2Loc d ↦{fullShare} W (Proc.devRef .tc main_v9_2)) := by
  unfold StableHlo.held callRefs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem W2_other (d : Dev nD) (b : DevRef τ sig) (h0 : b ≠ Proc.devRef .tc main_v9_0) (h1 : b ≠ Proc.devRef .tc main_v9_1)
    (h2 : b ≠ Proc.devRef .tc main_v9_2) : W2 m d b = W1 m d b := by
  unfold W2
  rw [Function.update_of_ne h2, Function.update_of_ne h1, Function.update_of_ne h0]

/-- The call's arrays as the call takes them. -/
theorem call_in (d : Dev nD) : (StableHlo.held (SparseCore.T d) callRefs (W1 m d) : sProp 𝕄)
    ⊢ wholeAt d (argsOf m d) (W1 m d (Proc.devRef .tc main_v9_0)) (W1 m d (Proc.devRef .tc main_v9_1)) (W1 m d (Proc.devRef .tc main_v9_2)) := by
  rw [held_call]
  unfold wholeAt argsOf
  iintro ⟨Hx, Hn, H0, Hh, He, Ho, H1, H2⟩
  isplitl [Hx]; · iexact Hx
  isplitl [Hn H0]
  · isplitl [Hn]; · iexact Hn
    iexact H0
  isplitl [Hh He Ho]
  · isplitl [Hh]; · iexact Hh
    isplitl [He]; · iexact He
    iexact Ho
  isplitl [H1]; · iexact H1
  iexact H2

/-- As it hands them back. -/
theorem call_out (d : Dev nD) : wholeAt d (argsOf m d) (h0Val (argsOf m d)) (hopVal (argsOf m d) false) (hopVal (argsOf m d) true)
    ⊢ (StableHlo.held (SparseCore.T d) callRefs (W2 m d) : sProp 𝕄) := by
  have e (b : Ref sig .tc) (h0 : b ≠ main_v9_0) (h1 : b ≠ main_v9_1) (h2 : b ≠ main_v9_2) :
      W2 m d (Proc.devRef .tc b) = W1 m d (Proc.devRef .tc b) :=
    W2_other m d _ (StableHlo.devRef_ne_of_ne h0) (StableHlo.devRef_ne_of_ne h1) (StableHlo.devRef_ne_of_ne h2)
  have e2 : W2 m d (Proc.devRef .tc main_v9_2) = hopVal (argsOf m d) true := by
    unfold W2; exact Function.update_self ..
  have e1 : W2 m d (Proc.devRef .tc main_v9_1) = hopVal (argsOf m d) false := by
    unfold W2; rw [Function.update_of_ne (StableHlo.devRef_ne_of_ne (by decide))]; exact Function.update_self ..
  have e0 : W2 m d (Proc.devRef .tc main_v9_0) = h0Val (argsOf m d) := by
    unfold W2
    rw [Function.update_of_ne (StableHlo.devRef_ne_of_ne (by decide)), Function.update_of_ne (StableHlo.devRef_ne_of_ne (by decide))]
    exact Function.update_self ..
  rw [held_call, e0, e1, e2, e main_arg0 (by decide) (by decide) (by decide), e main_arg1 (by decide) (by decide) (by decide),
    e main_v1 (by decide) (by decide) (by decide), e main_v6 (by decide) (by decide) (by decide), e main_v8 (by decide) (by decide) (by decide)]
  unfold wholeAt argsOf
  iintro ⟨Hx, ⟨Hn, H0⟩, ⟨Hh, He, Ho⟩, H1, H2⟩
  isplitl [Hx]; · iexact Hx
  isplitl [Hn]; · iexact Hn
  isplitl [H0]; · iexact H0
  isplitl [Hh]; · iexact Hh
  isplitl [He]; · iexact He
  isplitl [Ho]; · iexact Ho
  isplitl [H1]; · iexact H1
  iexact H2

/-- What the call does not touch. -/
theorem rest_eq (d : Dev nD) : (StableHlo.held (SparseCore.T d) (Pipeline.ucRefs τ sig \ callRefs) (W1 m d) : sProp 𝕄)
    = StableHlo.held (SparseCore.T d) (Pipeline.ucRefs τ sig \ callRefs) (W2 m d) :=
  StableHlo.held_congr _ fun b hb => by
    have hb := (Finset.mem_sdiff.mp hb).2
    refine (W2_other m d b ?_ ?_ ?_).symm <;> (rintro rfl; exact hb (by decide))

end Cert.Proof.Tile
-- ==== Proof.Main.lean ====
/-
  @main on the TensorCore: host operations, the SparseCore call, host operations, the dense kernel.
-/
module

public import proofs.«01_k».proof.Proof.Host

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The dense kernel's rounds, before its region. -/
def ghost (d : Dev nD) : sProp 𝕄 :=
  iprop(Pipeline.cellsGhost (Pipeline.pin (pcfgs (F := F)) adm) EP 0 d ∗ Pipeline.toksInit (Pipeline.pin (pcfgs (F := F)) adm) EP 0 d)

theorem st0_eq (A : Dev nD → Args F) (d : Dev nD) :
    (bigSep Finset.univ fun c : Fin ((K (F := F)).nCore 0) => (P A).st 0 d c) = bigSep Finset.univ (corePre (F := F) d (A d)) := rfl
theorem dn0_eq (A : Dev nD → Args F) (d : Dev nD) :
    (bigSep Finset.univ fun c : Fin ((K (F := F)).nCore 0) => (P A).dn 0 d c) = bigSep Finset.univ (corePost (F := F) d (A d)) := rfl

theorem owed_none (d : Dev nD) : (K (F := F)).Otc d 1 = 0 := by
  unfold SparseCore.Cfg.Otc
  exact Finset.sum_eq_zero fun q _ => if_neg (by have := q.isLt; omega)

set_option backward.isDefEq.respectTransparency.types false in
/-- The dense kernel's region, under its own body table. -/
theorem dense_inner [∀ e, Nonempty (Elt F e)] (d : Dev nD) (Q : PUnit → sProp 𝕄) :
    iprop((iprop(boundary (d.tc : Thread nD τ) ∗ (reg0 (entry m)).post d) -∗ wp frame (wpE (Pipeline.defs (pcfgs (F := F)) defs₀) 𝒱₀.lift (d.tc : Thread nD τ) none) Set.univ (.ret ⟨⟩) Q)
        ∗ boundary (d.tc : Thread nD τ) ∗ (reg0 (entry m)).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (Pipeline.defs (pcfgs (F := F)) defs₀) 𝒱₀.lift (d.tc : Thread nD τ) none) Set.univ dense Q := by
  unfold dense
  have h := Pipeline.RegionSeg.wp (pcfgs (F := F)) adm (dats (entry m) (Rc (F := F))) none cellOf_inj EP defs₀ 𝒱₀ (K (F := F)).L (K (F := F)).lev
    (reg0 (entry m)) d none (fun _ h => nomatch h) (fun _ => .ret ⟨⟩) Q
  exact h

/-- The dense kernel's call: its region. -/
theorem dense_rule [∀ e, Nonempty (Elt F e)] (d : Dev nD) (Q : PUnit → sProp 𝕄) :
    iprop((iprop(boundary (SparseCore.T d) ∗ (after1 (entry m) d ∗ Pipeline.owesWithin d 0 (Rc (F := F) d))) -∗ Q ⟨⟩)
        ∗ boundary (SparseCore.T d) ∗ (unscopedBufs d (entry m d) ∗ Pipeline.owesWithin d 0 (Rc (F := F) d)) ∗ levAts (K (F := F)).L (K (F := F)).lev ∗ ghost d)
      ⊢ wp frame (wpE ((K (F := F)).defs (D (F := F))) 𝒱 (SparseCore.T d) none) Set.univ (SparseCore.liftProg dense) Q := by
  have h : iprop((iprop(boundary (SparseCore.T d) ∗ (after1 (entry m) d ∗ Pipeline.owesWithin d 0 (Rc (F := F) d))) -∗ Q ⟨⟩)
      ∗ boundary (SparseCore.T d) ∗ (unscopedBufs d (entry m d) ∗ Pipeline.owesWithin d 0 (Rc (F := F) d)) ∗ levAts (K (F := F)).L (K (F := F)).lev ∗ ghost d)
    ⊢ iprop((iprop(boundary (SparseCore.T d) ∗ (after1 (entry m) d ∗ Pipeline.owesWithin d 0 (Rc (F := F) d)))
        -∗ wp frame (wpE (Pipeline.defs (pcfgs (F := F)) defs₀) 𝒱₀.lift (SparseCore.T d) none) Set.univ (.ret ⟨⟩) Q)
      ∗ boundary (SparseCore.T d) ∗ (unscopedBufs d (entry m d) ∗ Pipeline.owesWithin d 0 (Rc (F := F) d)) ∗ levAts (K (F := F)).L (K (F := F)).lev
      ∗ Pipeline.cellsGhost (Pipeline.pin (pcfgs (F := F)) adm) EP 0 d ∗ Pipeline.toksInit (Pipeline.pin (pcfgs (F := F)) adm) EP 0 d) := by
    unfold ghost
    iintro ⟨Hk, Hb, Hpre, Hlev, Hc, Ht⟩
    isplitl [Hk]
    · rw [wp_ret]
      iintro H
      imodintro
      iapply Hk; iexact H
    isplitl [Hb]; · iexact Hb
    isplitl [Hpre]; · iexact Hpre
    isplitl [Hlev]; · iexact Hlev
    isplitl [Hc]; · iexact Hc
    iexact Ht
  exact (h.trans (dense_inner m d Q)).trans ((K (F := F)).wp_liftProg (D (F := F)) 𝒱 (SparseCore.T d) Set.univ none dense Q)

/-- @main's part of the launch. -/
theorem hmain [∀ e, Nonempty (Elt F e)] (κ : GSem nD τ sig → ℕ) (d : Dev nD) :
    iprop((K (F := F)).ctx EH (P (argsOf m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ after1 (entry m) d ∗ (K (F := F)).tcEnd d) := by
  rw [main_eq]
  unfold SparseCore.Cfg.tcRes SparseCore.Cfg.tcEnd
  rw [show (unscopedBufs d (fun b => m ((SparseCore.T d).loc b)) : sProp 𝕄) = StableHlo.held (SparseCore.T d) (Pipeline.ucRefs τ sig) (fun b => m (d, b))
      from Pipeline.unscopedBufs_held (Ix := HIx 1) (Name := ℕ) (U := UU) (Lvl := ℕ) d (fun b => m (d, b))]
  iintro ⟨#Hctx, Hst, ⟨Hb, Hub, Hts, -⟩, HG⟩
  iapply (StableHlo.wp_seq 𝒱 none Set.univ d (Pipeline.ucRefs τ sig) _ ops0 ops0_sub ops0_fresh (fun b => m (d, b))) $$ [Hb Hub]
  · isplitl [Hb] <;> iassumption
  iintro ⟨Hb, Hub⟩
  have hsplit : (StableHlo.held d.tc (Pipeline.ucRefs τ sig) (StableHlo.after ops0 fun b => m (d, b)) : sProp 𝕄)
      = iprop(StableHlo.held (SparseCore.T d) callRefs (W1 m d) ∗ StableHlo.held (SparseCore.T d) (Pipeline.ucRefs τ sig \ callRefs) (W1 m d)) :=
    StableHlo.held_sub_split (SparseCore.T d) callRefs_sub (W1 m d)
  ihave Hub := (Entails.of_eq hsplit) $$ Hub
  icases Hub with ⟨Hc, Hr⟩
  ihave Hw := (call_in m d) $$ Hc
  ihave Hs := (deal (F := F) d (argsOf m d) _ _ _) $$ Hw
  rw [wp_bind]
  iapply ((K (F := F)).wp_run (D (F := F)) 𝒱 (EH := EH) (P := P (argsOf m)) κ d 0) $$ [Hst Hs Hr Hb Hts HG]
  isplitr; · iexact Hctx
  isplitl [Hst]; · iexact Hst
  isplitl [Hs]; · rw [st0_eq]; iexact Hs
  iintro ⟨Hst, Hdn⟩
  ihave Hdn := (Entails.of_eq (dn0_eq (argsOf m) d)) $$ Hdn
  ihave Hw := (join (F := F) d (argsOf m d)) $$ Hdn
  ihave Hc := (call_out m d) $$ Hw
  ihave Hr := (Entails.of_eq (rest_eq m d)) $$ Hr
  iapply (StableHlo.wp_seq 𝒱 none Set.univ d (Pipeline.ucRefs τ sig) _ ops1 ops1_sub ops1_fresh (W2 m d)) $$ [Hb Hc Hr]
  · isplitl [Hb]; · iexact Hb
    rw [StableHlo.held_sub_split (SparseCore.T d) callRefs_sub (W2 m d)]
    isplitl [Hc] <;> iassumption
  iintro ⟨Hb, Hub⟩
  unfold SparseCore.Cfg.tcSt
  icases Hst with ⟨⟨%W, %hW, HO⟩, Hst⟩
  iapply (dense_rule m d)
  isplitl [Hst Hts]
  · iintro ⟨Hb, Ha, HO⟩
    isplitl [Hst HO]
    · isplitl [HO]
      · unfold Pipeline.owesWithin
        icases HO with ⟨%W', %hW', HO⟩
        iexists W'
        isplitr; · ipureintro; exact fun p hp => hW' hp
        rw [owed_none]
        iexact HO
      · iexact Hst
    isplitl [Ha]; · iexact Ha
    isplitl [Hb] <;> iassumption
  isplitl [Hb]; · iexact Hb
  isplitl [Hub HO]
  · isplitl [Hub]
    · rw [show (unscopedBufs d (entry m d) : sProp 𝕄) = StableHlo.held (SparseCore.T d) (Pipeline.ucRefs τ sig) (W3 m d)
        from Pipeline.unscopedBufs_held (Ix := HIx 1) (Name := ℕ) (U := UU) (Lvl := ℕ) d (W3 m d)]
      iexact Hub
    · unfold Pipeline.owesWithin
      iexists W
      isplitr; · ipureintro; exact fun p hp => hW p hp
      rw [show ((0 : Fin 1).val + 1) = 1 from rfl, owed_none]
      iexact HO
  isplitr [HG]
  · iapply (SparseCore.Cfg.ctx_levAts (K := K (F := F)) κ); iexact Hctx
  iexact HG

end Cert.Proof.Tile
-- ==== Proof.Launch.lean ====
/-
  The program's run from the launch: it ends with the arguments as they were and the dense kernel's array at its final contents.
-/
module

public import proofs.«01_k».proof.Proof.Main

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The pipeline's rounds at the launch. -/
noncomputable def uP : UP :=
  initOf (Pipeline.cells (nD := nD) (τ := τ) (Pipeline.pin (pcfgs (F := F)) adm) cellOf_inj) (Pipeline.launchToks (Pipeline.pin (pcfgs (F := F)) adm) cellOf_inj)

/-- The ghost state at the launch. -/
noncomputable def u₀ : UU := (initOf (K (F := F)).hsCells (K (F := F)).hsToks, (uP (F := F), 1))

theorem pipe_ghost : (BI.own (EP (uP (F := F))) : sProp 𝕄) ⊢ |==> bigSep Finset.univ fun d : Dev nD => ghost d := by
  unfold uP
  iintro H
  imod (Pipeline.fund_ghost (Pipeline.pin (pcfgs (F := F)) adm) EP cellOf_inj) $$ H with ⟨Hc, Ht⟩
  imodintro
  unfold ghost
  rw [bigSep_sep' (Finset.univ : Finset (Dev nD))]
  isplitl [Hc]
  · iapply (Entails.of_eq (bigSep_congr fun d _ => bigSep_univ_of_subsingleton (0 : Fin 1))) $$ Hc
  · iapply (Entails.of_eq (bigSep_congr fun d _ => bigSep_univ_of_subsingleton (0 : Fin 1))) $$ Ht

theorem u_split : (ownU (u₀ (F := F)) : sProp 𝕄) ⊢ iprop(BI.own (EH (initOf (K (F := F)).hsCells (K (F := F)).hsToks)) ∗ BI.own (EP (uP (F := F)))) := by
  unfold u₀ EP
  iintro Hu
  ihave H := (ownU_pair (initOf (K (F := F)).hsCells (K (F := F)).hsToks) ((uP (F := F), 1) : UP × Counters)) $$ Hu
  icases H with ⟨HH, HR⟩
  isplitl [HH]; · iexact HH
  iexact HR

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P (argsOf m)).x q thr) := by
  iintro Hu
  ihave H := u_split $$ Hu
  icases H with ⟨HH, HR⟩
  imod pipe_ghost $$ HR with HG
  imodintro
  isplitl [HH]; · iexact HH
  isplitl [HG]; · iexact HG
  rw [show (bigSep Finset.univ fun thr : Thread nD τ => bigSep Finset.univ fun q : Fin 1 => (P (F := F) (argsOf m)).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-- What the final memory holds. -/
def fq (d : Dev nD) (s' : Phys nD τ sig (Elt F)) : Prop :=
  (∀ w, s'.mem.mem ((spec1 w).arr.view.loc (d : Thread nD τ)) = (dats (entry m) (Rc (F := F)) 0 d).arrAt w cfg1.N)
    ∧ ∀ b ∈ (Finset.univ.filter fun b : Ref sig .tc => ¬ b.isScoped) \ Finset.univ.image (Pipeline.arrRef spec1),
      s'.mem.mem ((d : Thread nD τ).loc b) = entry m d b

theorem hfin (d : Dev nD) (s' : Phys nD τ sig (Elt F)) : iprop(after1 (entry m) d ∗ SI s') ⊢ (⌜fq m d s'⌝ : sProp 𝕄) := by
  unfold after1 Pipeline.unscopedRest
  have h1 := Pipeline.arrays_read (pcfgs (F := F)) adm (dats (entry m) (Rc (F := F))) (p := 0) launch1.arr_whole d
    ((dats (entry m) (Rc (F := F)) 0 d).share_full fun _ => rfl) ((dats (entry m) (Rc (F := F)) 0 d).arrAt · cfg1.N) s'
  iintro ⟨⟨Ha, Hr⟩, HSI⟩
  ihave H := h1 $$ [Ha HSI]
  · isplitl [Ha] <;> iassumption
  icases H with ⟨%ha, HSI⟩
  ihave H := (pointsTo_read_all _ (fun b => (d : Thread nD τ).loc b) (entry m d) s') $$ [Hr HSI]
  · isplitl [Hr] <;> iassumption
  icases H with ⟨%hr, -⟩
  ipureintro; exact ⟨ha, hr⟩

def QC : PUnit × MemSt nD τ sig (Elt F) → Prop := fun r =>
  (∀ d : Dev nD, (∀ w, r.2.mem ((spec1 w).arr.view.loc (d : Thread nD τ)) = (dats (entry m) (Rc (F := F)) 0 d).arrAt w cfg1.N)
    ∧ ∀ b ∈ (Finset.univ.filter fun b : Ref sig .tc => ¬ b.isScoped) \ Finset.univ.image (Pipeline.arrRef spec1),
      r.2.mem ((d : Thread nD τ).loc b) = entry m d b) ∧ r.2.sem = fun _ => 0

/-- The run. -/
theorem run_main [∀ e, Nonempty (Elt F e)] (hA : ∀ d, (argsOf m d).OK) :
    θ_run (defs (F := F)) (threads (F := F)) ⟨m, fun _ => 0, ρ⟩ (QC m) :=
  SparseCore.Cfg.θ_run_sc_quiescent (K := K (F := F)) (D := D (F := F)) (𝒱 := 𝒱) (EH := EH) (P := P (argsOf m)) (A := ∅) facts v₀
    (fun q hq => match q with | 0 => nomatch hq)
    (fun q _ => match q with | 0 => tileObl (argsOf m) hA)
    (fun q _ => match q with | 0 => SparseCore.Cfg.VecSplit.of_plain (vecSplit (argsOf m)))
    m ρ main (fun d => ghost d) (after1 (entry m)) (u₀ (F := F)) (sep_elim_left.trans (hu₀ m)) (hmain m ρ) (fq m) (hfin m) (QC m) (fun _ h hz => ⟨h, hz⟩)

end Cert.Proof.Tile
-- ==== Proof.HostVals.lean ====
/-
  What the host code computes: the row numbers the SparseCore call reads, and the dense kernel's operands.
-/
module

public import proofs.«01_k».proof.Proof.Host

@[expose] public section

noncomputable section

namespace Cert.Proof.Tile

open Cert.KernelIdeal Cert.KernelIdeal.Gen

open Idealize.ShloMosaic
open Idealize.ShloMosaic.TcCoe
open Idealize.ShloMosaic.StableHlo

variable {F : FTy → Type} [FloatOps F] [Named F]

/-- What the first line writes. -/
def written0 : List (Ref sig .tc) := [main_v0, main_v1, main_v2, main_v3, main_v4, main_v5, main_v6, main_v7, main_v8]

/-- What the second line writes. -/
def written1 : List (Ref sig .tc) := [main_v10, main_v11, main_v12, main_v13, main_v14, main_v15, main_v16, main_v17, main_v18]

theorem ops0_writes (b : Ref sig .tc) (h : b ∉ written0) : ∀ op ∈ ops0 (F := F), Proc.devRef .tc b ∉ op.writes := by
  simp only [written0, List.mem_cons, List.not_mem_nil, or_false, not_or] at h
  simp only [ops0, List.forall_mem_cons, unary_writes, reshape_writes, Finset.mem_singleton]
  refine ⟨?_, ?_, ?_, ?_, ?_, ?_, ?_, ?_, ?_, fun _ h => nomatch h⟩ <;> exact devRef_ne_of_ne (by tauto)

theorem ops1_writes (b : Ref sig .tc) (h : b ∉ written1) : ∀ op ∈ ops1 (F := F), Proc.devRef .tc b ∉ op.writes := by
  simp only [written1, List.mem_cons, List.not_mem_nil, or_false, not_or] at h
  simp only [ops1, List.forall_mem_cons, unary_writes, reshape_writes, Finset.mem_singleton]
  refine ⟨?_, ?_, ?_, ?_, ?_, ?_, ?_, ?_, ?_, fun _ h => nomatch h⟩ <;> exact devRef_ne_of_ne (by tauto)

variable (m : (ℓ : Loc nD τ sig) → Buf (Elt F) ℓ) (d : Dev nD)

theorem W1_keep (b : Ref sig .tc) (h : b ∉ written0) : W1 m d (Proc.devRef .tc b) = m ((d : Thread nD τ).loc b) :=
  after_of_forall_not_mem _ _ (ops0_writes b h)

theorem W3_keep (b : Ref sig .tc) (h : b ∉ written1) : W3 m d (Proc.devRef .tc b) = W2 m d (Proc.devRef .tc b) :=
  after_of_forall_not_mem _ _ (ops1_writes b h)

/-- A buffer no operation and no call writes. -/
theorem entry_keep (b : Ref sig .tc) (h1 : b ∉ written1) (h : b ∉ written0) (h9 : b ≠ main_v9_0 ∧ b ≠ main_v9_1 ∧ b ≠ main_v9_2) :
    entry m d b = m ((d : Thread nD τ).loc b) :=
  (W3_keep m d b h1).trans ((W2_other m d _ (devRef_ne_of_ne h9.1) (devRef_ne_of_ne h9.2.1) (devRef_ne_of_ne h9.2.2)).trans (W1_keep m d b h))

theorem W1_v1 : W1 m d (Proc.devRef .tc main_v1)
    = shapeCast S102400 (transpose S5x5x4096 [0, 2, 1] (m ((d : Thread nD τ).loc main_arg2)) transposes_S5x4096x5_S5x5x4096_0_2_1) shapeCasts_S5x5x4096_S102400 := by
  unfold W1 ops0
  after_results
  rfl

/-- The pairs of rows, in the order the call reads them. -/
noncomputable def pairs (f : S5x20480x2.Idx → Elt F .i32) : S102400x2.Idx → Elt F .i32 :=
  shapeCast S102400x2 (transpose S5x5x4096x2 [0, 2, 1, 3] (shapeCast S5x4096x5x2 f shapeCasts_S5x20480x2_S5x4096x5x2)
    transposes_S5x4096x5x2_S5x5x4096x2_0_2_1_3) shapeCasts_S5x5x4096x2_S102400x2

theorem W1_v6 : W1 m d (Proc.devRef .tc main_v6)
    = shapeCast S102400 (extractStridedSlice S102400x1 ![0, 0] (pairs (F := F) (m ((d : Thread nD τ).loc main_arg3))) slices_S102400x2_S102400x1_0_0) shapeCasts_S102400x1_S102400 := by
  unfold W1 ops0
  after_results
  rfl

theorem W1_v8 : W1 m d (Proc.devRef .tc main_v8)
    = shapeCast S102400 (extractStridedSlice S102400x1 ![0, 1] (pairs (F := F) (m ((d : Thread nD τ).loc main_arg3))) slices_S102400x2_S102400x1_0_1) shapeCasts_S102400x1_S102400 := by
  unfold W1 ops0
  after_results
  rfl

end Cert.Proof.Tile
-- ==== Proof.Frame.lean ====
/-
  Under the precondition every row asked for is a row of the table, so the program runs and leaves its arguments as they were.
-/
module

public import proofs.«01_k».proof.Proof.Launch
public import proofs.«01_k».proof.Proof.HostVals
public import proofs.«01_k».proof.Proof.PreFacts

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.SL.Sem

variable {F : FTy → Type} [FloatOps F] [Named F]

/-- The rows asked for are rows of the table. -/
theorem argsOf_ok (m : (ℓ : Loc nD τ sig) → Buf (Elt F) ℓ) (d : Dev nD)
    (h1 : ∀ i, (m ((d : Thread nD τ).loc main_arg1) i).toNat < 100000) (h2 : ∀ i, (m ((d : Thread nD τ).loc main_arg2) i).toNat < 100000)
    (h3 : ∀ i, (m ((d : Thread nD τ).loc main_arg3) i).toNat < 100000) : (argsOf m d).OK where
  nodes i := by
    change ((W1 m d (Proc.devRef .tc main_arg1)) i).toNat < _
    rw [W1_keep m d main_arg1 (by decide)]
    exact h1 i
  rows r i := by
    cases r
    · change ((W1 m d (Proc.devRef .tc main_v1)) i).toNat < _
      rw [W1_v1]
      exact h2 _
    · change ((W1 m d (Proc.devRef .tc main_v6)) i).toNat < _
      rw [W1_v6]
      exact h3 _
    · change ((W1 m d (Proc.devRef .tc main_v8)) i).toNat < _
      rw [W1_v8]
      exact h3 _

/-- An argument that is no window of the dense kernel. -/
theorem keep_rest {m : (ℓ : Loc nD τ sig) → Buf (Elt F) ℓ} {r : PUnit × MemSt nD τ sig (Elt F)} (h : QC m r) (d : Dev nD) (b : Ref sig .tc)
    (hb : b ∈ (Finset.univ.filter fun b : Ref sig .tc => ¬ b.isScoped) \ Finset.univ.image (Pipeline.arrRef spec1))
    (h1 : b ∉ written1) (h0 : b ∉ written0) (h9 : b ≠ main_v9_0 ∧ b ≠ main_v9_1 ∧ b ≠ main_v9_2) :
    r.2.mem ((d : Thread nD τ).loc b) = m ((d : Thread nD τ).loc b) :=
  ((h.1 d).2 b hb).trans (entry_keep m d b h1 h0 h9)

/-- An argument that is an input window of the dense kernel. -/
theorem keep_window {m : (ℓ : Loc nD τ sig) → Buf (Elt F) ℓ} {r : PUnit × MemSt nD τ sig (Elt F)} (h : QC m r) (d : Dev nD) (w : Fin 14)
    (hw : (cfg1.win w).isOut = false) (h1 : Pipeline.arrRef spec1 w ∉ written1) (h0 : Pipeline.arrRef spec1 w ∉ written0)
    (h9 : Pipeline.arrRef spec1 w ≠ main_v9_0 ∧ Pipeline.arrRef spec1 w ≠ main_v9_1 ∧ Pipeline.arrRef spec1 w ≠ main_v9_2) :
    r.2.mem ((spec1 w).arr.view.loc (d : Thread nD τ)) = m ((spec1 w).arr.view.loc (d : Thread nD τ)) := by
  rw [(h.1 d).1 w, (dats (entry m) Rc 0 d).arrAt_in w hw _, A_eq]
  exact entry_keep m d _ h1 h0 h9

/-- The arguments end as they began. -/
theorem kept {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨keep_rest h c main_arg0 (by decide) (by decide) (by decide) (by decide),
    keep_rest h c main_arg1 (by decide) (by decide) (by decide) (by decide),
    keep_rest h c main_arg2 (by decide) (by decide) (by decide) (by decide),
    keep_rest h c main_arg3 (by decide) (by decide) (by decide) (by decide),
    keep_window h c 3 rfl (by decide) (by decide) (by decide),
    keep_window h c 4 rfl (by decide) (by decide) (by decide),
    keep_rest h c main_arg6 (by decide) (by decide) (by decide) (by decide),
    keep_window h c 6 rfl (by decide) (by decide) (by decide),
    keep_window h c 7 rfl (by decide) (by decide) (by decide),
    keep_rest h c main_arg9 (by decide) (by decide) (by decide) (by decide),
    keep_rest h c main_arg10 (by decide) (by decide) (by decide) (by decide),
    keep_rest h c main_arg11 (by decide) (by decide) (by decide) (by decide),
    keep_window h c 11 rfl (by decide) (by decide) (by decide),
    keep_rest h c main_arg13 (by decide) (by decide) (by decide) (by decide)⟩

end Cert.Proof.Tile
-- ==== Proof.P.HostVals.lean ====
/-
  What the host code computes: the row numbers the SparseCore call reads, and the dense kernel's operands.
-/
module

public import proofs.«01_k».proof.Proof.P.Host

@[expose] public section

noncomputable section

namespace Cert.Proof.PTile

open Cert.Kernel Cert.Kernel.Gen

open Idealize.ShloMosaic
open Idealize.ShloMosaic.TcCoe
open Idealize.ShloMosaic.StableHlo

variable {F : FTy → Type} [FloatOps F]

/-- What the first line writes. -/
def written0 : List (Ref sig .tc) := [main_v0, main_v1, main_v2, main_v3, main_v4, main_v5, main_v6, main_v7, main_v8]

/-- What the second line writes. -/
def written1 : List (Ref sig .tc) := [main_v10, main_v11, main_v12, main_v13, main_v14, main_v15, main_v16, main_v17, main_v18]

theorem ops0_writes (b : Ref sig .tc) (h : b ∉ written0) : ∀ op ∈ ops0 (F := F), Proc.devRef .tc b ∉ op.writes := by
  simp only [written0, List.mem_cons, List.not_mem_nil, or_false, not_or] at h
  simp only [ops0, List.forall_mem_cons, unary_writes, reshape_writes, Finset.mem_singleton]
  refine ⟨?_, ?_, ?_, ?_, ?_, ?_, ?_, ?_, ?_, fun _ h => nomatch h⟩ <;> exact devRef_ne_of_ne (by tauto)

theorem ops1_writes (b : Ref sig .tc) (h : b ∉ written1) : ∀ op ∈ ops1 (F := F), Proc.devRef .tc b ∉ op.writes := by
  simp only [written1, List.mem_cons, List.not_mem_nil, or_false, not_or] at h
  simp only [ops1, List.forall_mem_cons, unary_writes, reshape_writes, Finset.mem_singleton]
  refine ⟨?_, ?_, ?_, ?_, ?_, ?_, ?_, ?_, ?_, fun _ h => nomatch h⟩ <;> exact devRef_ne_of_ne (by tauto)

variable (m : (ℓ : Loc nD τ sig) → Buf (Elt F) ℓ) (d : Dev nD)

theorem W1_keep (b : Ref sig .tc) (h : b ∉ written0) : W1 m d (Proc.devRef .tc b) = m ((d : Thread nD τ).loc b) :=
  after_of_forall_not_mem _ _ (ops0_writes b h)

theorem W3_keep (b : Ref sig .tc) (h : b ∉ written1) : W3 m d (Proc.devRef .tc b) = W2 m d (Proc.devRef .tc b) :=
  after_of_forall_not_mem _ _ (ops1_writes b h)

/-- A buffer no operation and no call writes. -/
theorem entry_keep (b : Ref sig .tc) (h1 : b ∉ written1) (h : b ∉ written0) (h9 : b ≠ main_v9_0 ∧ b ≠ main_v9_1 ∧ b ≠ main_v9_2) :
    entry m d b = m ((d : Thread nD τ).loc b) :=
  (W3_keep m d b h1).trans ((W2_other m d _ (devRef_ne_of_ne h9.1) (devRef_ne_of_ne h9.2.1) (devRef_ne_of_ne h9.2.2)).trans (W1_keep m d b h))

theorem W1_v1 : W1 m d (Proc.devRef .tc main_v1)
    = shapeCast S102400 (transpose S5x5x4096 [0, 2, 1] (m ((d : Thread nD τ).loc main_arg2)) transposes_S5x4096x5_S5x5x4096_0_2_1) shapeCasts_S5x5x4096_S102400 := by
  unfold W1 ops0
  after_results
  rfl

/-- The pairs of rows, in the order the call reads them. -/
noncomputable def pairs (f : S5x20480x2.Idx → Elt F .i32) : S102400x2.Idx → Elt F .i32 :=
  shapeCast S102400x2 (transpose S5x5x4096x2 [0, 2, 1, 3] (shapeCast S5x4096x5x2 f shapeCasts_S5x20480x2_S5x4096x5x2)
    transposes_S5x4096x5x2_S5x5x4096x2_0_2_1_3) shapeCasts_S5x5x4096x2_S102400x2

theorem W1_v6 : W1 m d (Proc.devRef .tc main_v6)
    = shapeCast S102400 (extractStridedSlice S102400x1 ![0, 0] (pairs (F := F) (m ((d : Thread nD τ).loc main_arg3))) slices_S102400x2_S102400x1_0_0) shapeCasts_S102400x1_S102400 := by
  unfold W1 ops0
  after_results
  rfl

theorem W1_v8 : W1 m d (Proc.devRef .tc main_v8)
    = shapeCast S102400 (extractStridedSlice S102400x1 ![0, 1] (pairs (F := F) (m ((d : Thread nD τ).loc main_arg3))) slices_S102400x2_S102400x1_0_1) shapeCasts_S102400x1_S102400 := by
  unfold W1 ops0
  after_results
  rfl

end Cert.Proof.PTile
-- ==== Proof.Scalars.lean ====
/-
  Extended reals under nonnegative finite scalars, and the one identity of the network's read-out: delays, taps and the
  mean over time in either order.
-/
module

public import Idealize.ShloMosaic.PureOps.Ideal
public import Mathlib.Tactic.Module
public import Mathlib.Data.NNReal.Basic

@[expose] public section

noncomputable section

namespace Cert.Proof.Net

open scoped NNReal

/-- Nonnegative reals act on the extended reals by multiplication. -/
@[reducible] def scaled : Module ℝ≥0 EReal where
  smul c k := ((c : ℝ) : EReal) * k
  one_smul k := one_mul k
  mul_smul a b k := by
    show (((a * b : ℝ≥0) : ℝ) : EReal) * k = (a : ℝ) * ((b : ℝ) * k)
    rw [NNReal.coe_mul, EReal.coe_mul, mul_assoc]
  smul_zero c := mul_zero _
  smul_add c x y := EReal.left_distrib_of_nonneg_of_ne_top (EReal.coe_nonneg.2 (NNReal.coe_nonneg c)) (EReal.coe_ne_top _) x y
  add_smul a b k := by
    show (((a + b : ℝ≥0) : ℝ) : EReal) * k = (a : ℝ) * k + (b : ℝ) * k
    rw [NNReal.coe_add, EReal.coe_add, EReal.right_distrib_of_nonneg (EReal.coe_nonneg.2 (NNReal.coe_nonneg a)) (EReal.coe_nonneg.2 (NNReal.coe_nonneg b))]
  zero_smul k := zero_mul k

attribute [local instance] scaled

theorem smul_eq (c : ℝ≥0) (k : EReal) : c • k = ((c : ℝ) : EReal) * k := rfl

/-- The read-out's identity: the taps of the delayed spikes averaged over time are the spikes times their own weights. -/
theorem readout (s0 s1 s2 s3 s4 g0 g1 g2 f : ℝ≥0) (k0 k1 k2 k3 k4 : EReal) :
    f • (((s0 * g0) • k2 + (s1 * g0 + s0 * g1) • k3 + (s2 * g0 + s1 * g1) • k4)
        + ((s0 * g0) • k1 + (s1 * g0 + s0 * g1) • k2 + (s2 * g0 + s1 * g1) • k3 + (s3 * g0 + s2 * g1 + s0 * g2) • k4)
        + ((s0 * g0) • k0 + (s1 * g0 + s0 * g1) • k1 + (s2 * g0 + s1 * g1) • k2 + (s3 * g0 + s2 * g1 + s0 * g2) • k3 + (s4 * g0 + s3 * g1 + s1 * g2) • k4)
        + ((s1 * g0 + s0 * g1) • k0 + (s2 * g0 + s1 * g1) • k1 + (s3 * g0 + s2 * g1 + s0 * g2) • k2 + (s4 * g0 + s3 * g1 + s1 * g2) • k3)
        + ((s2 * g0 + s1 * g1) • k0 + (s3 * g0 + s2 * g1 + s0 * g2) • k1 + (s4 * g0 + s3 * g1 + s1 * g2) • k2))
      = s0 • f • (g0 • (k0 + k1 + k2) + g1 • (k0 + k1 + k2 + k3) + g2 • (k1 + k2 + k3 + k4))
        + s1 • f • (g0 • (k0 + k1 + k2 + k3) + g1 • (k0 + k1 + k2 + k3 + k4) + g2 • (k2 + k3 + k4))
        + s2 • f • (g0 • (k0 + k1 + k2 + k3 + k4) + g1 • (k1 + k2 + k3 + k4))
        + s3 • f • (g0 • (k1 + k2 + k3 + k4) + g1 • (k2 + k3 + k4))
        + s4 • f • (g0 • (k2 + k3 + k4)) := by
  module

end Cert.Proof.Net
-- ==== Proof.Spec.lean ====
/-
  The network over the extended reals, at one node: what both programs compute.
-/
module

public import proofs.«01_k».proof.Proof.Scalars
public import Idealize.ShloMosaic.Lib.Pointwise

@[expose] public section

noncomputable section

namespace Cert.Proof.Net

open Idealize.ShloMosaic

/-- One fifth. -/
def fifth : EReal := ((1 / 5 : ℝ) : EReal)
/-- One half. -/
def half : EReal := ((1 / 2 : ℝ) : EReal)

/-- A spike where the potential reaches one. -/
def spike (a : EReal) : EReal := if 1 ≤ a then 1 else 0

/-- The weights of the two layers. -/
structure Wts where
  wl0 : Fin 128 → Fin 128 → EReal
  wr0 : Fin 128 → Fin 128 → EReal
  b0 : Fin 128 → EReal
  wl1 : Fin 128 → Fin 64 → EReal
  wr1 : Fin 128 → Fin 64 → EReal
  b1 : Fin 64 → EReal

/-- A node's features at one time step: its own, its five neighbours', and for each neighbour the sum of that one's two. -/
structure Rows where
  own : Fin 128 → EReal
  nbr : Fin 5 → Fin 128 → EReal
  two : Fin 5 → Fin 128 → EReal

variable (W : Wts) (R : Rows)

/-- The first layer at the node, -/
def top (c : Fin 128) : EReal :=
  ((∑ k, R.own k * W.wl0 k c) + ∑ k, (∑ q, R.nbr q k) * fifth * W.wr0 k c) + W.b0 c
/-- at a neighbour, -/
def bot (q : Fin 5) (c : Fin 128) : EReal :=
  ((∑ k, R.nbr q k * W.wl0 k c) + ∑ k, R.two q k * half * W.wr0 k c) + W.b0 c
/-- the second layer at the node, -/
def mid (c : Fin 64) : EReal :=
  ((∑ k, spike (top W R k) * W.wl1 k c) + ∑ k, (∑ q, spike (bot W R q k)) * fifth * W.wr1 k c) + W.b1 c
/-- and its spikes. -/
def fire (c : Fin 64) : EReal := spike (mid W R c)

/-- The share of a delay among the four. -/
def share (d : Fin 4 → EReal) (j : Fin 4) : EReal := Ideal.div (Ideal.exp (d j)) (∑ i, Ideal.exp (d i))

/-- The weight of each time step's spikes in the mean of the taps. -/
def weight (d : Fin 4 → EReal) (k : Fin 5 → EReal) : Fin 5 → EReal :=
  ![fifth * (share d 0 * (k 0 + k 1 + k 2) + share d 1 * (k 0 + k 1 + k 2 + k 3) + share d 2 * (k 1 + k 2 + k 3 + k 4)),
    fifth * (share d 0 * (k 0 + k 1 + k 2 + k 3) + share d 1 * (k 0 + k 1 + k 2 + k 3 + k 4) + share d 2 * (k 2 + k 3 + k 4)),
    fifth * (share d 0 * (k 0 + k 1 + k 2 + k 3 + k 4) + share d 1 * (k 1 + k 2 + k 3 + k 4)),
    fifth * (share d 0 * (k 1 + k 2 + k 3 + k 4) + share d 1 * (k 2 + k 3 + k 4)),
    fifth * (share d 0 * (k 2 + k 3 + k 4))]

/-- The mean of the taps. -/
def pooled (s : Fin 5 → EReal) (d : Fin 4 → EReal) (k : Fin 5 → EReal) : EReal := ∑ t, s t * weight d k t

/-- Everything the network is given: the table of features; the nodes, each one's neighbours and each neighbour's two, by time
    step; the layers' weights; the delays' logits by group of channels, the taps by channel, and the projection. -/
structure Inputs where
  x : Fin 100000 → Fin 128 → EReal
  nodes : Fin 4096 → BitVec 32
  hop1 : Fin 5 → Fin 4096 → Fin 5 → BitVec 32
  hop2 : Fin 5 → Fin 20480 → Fin 2 → BitVec 32
  W : Wts
  dw : Fin 8 → Fin 4 → EReal
  kd : Fin 64 → Fin 5 → EReal
  wp : Fin 64 → Fin 64 → EReal
  bp : Fin 64 → EReal

/-- The row of the table a word names. -/
def pick (w : BitVec 32) : Fin 100000 := ⟨min w.toNat 99999, by omega⟩

/-- The place of a node's neighbour among all neighbours. -/
def nb (n : Fin 4096) (q : Fin 5) : Fin 20480 := ⟨5 * n.val + q.val, by have := n.isLt; have := q.isLt; omega⟩

/-- The group of a channel. -/
def grp (c : Fin 64) : Fin 8 := ⟨c.val / 8, by have := c.isLt; omega⟩

variable (I : Inputs)

/-- A node's features at a time step, -/
def Inputs.rows (t : Fin 5) (n : Fin 4096) : Rows where
  own k := I.x (pick (I.nodes n)) k
  nbr q k := I.x (pick (I.hop1 t n q)) k
  two q k := I.x (pick (I.hop2 t (nb n q) 0)) k + I.x (pick (I.hop2 t (nb n q) 1)) k

/-- its mean of the taps, -/
def Inputs.pool (n : Fin 4096) (c : Fin 64) : EReal := pooled (fun t => fire I.W (I.rows t n) c) (I.dw (grp c)) (I.kd c)

/-- and the network's result there. -/
def Inputs.out (n : Fin 4096) (c : Fin 64) : EReal := (∑ k, I.pool n k * I.wp k c) + I.bp c

/-- The inputs as arrays. -/
def inputsOf (x : FVec Ideal ⟨2, ![100000, 128]⟩ .f32) (nodes : IVec ⟨1, ![4096]⟩ 32) (h1 : IVec ⟨3, ![5, 4096, 5]⟩ 32)
    (h2 : IVec ⟨3, ![5, 20480, 2]⟩ 32) (wl0 wr0 : FVec Ideal ⟨2, ![128, 128]⟩ .f32) (b0 : FVec Ideal ⟨1, ![128]⟩ .f32)
    (wl1 wr1 : FVec Ideal ⟨2, ![128, 64]⟩ .f32) (b1 : FVec Ideal ⟨1, ![64]⟩ .f32) (dw : FVec Ideal ⟨2, ![8, 4]⟩ .f32)
    (kd : FVec Ideal ⟨2, ![64, 5]⟩ .f32) (wp : FVec Ideal ⟨2, ![64, 64]⟩ .f32) (bp : FVec Ideal ⟨1, ![64]⟩ .f32) : Inputs where
  x i k := x (ix2 i k)
  nodes n := nodes (ix1 n)
  hop1 t n q := h1 (ix3 t n q)
  hop2 t i e := h2 (ix3 t i e)
  W :=
    { wl0 := fun k c => wl0 (ix2 k c)
      wr0 := fun k c => wr0 (ix2 k c)
      b0 := fun c => b0 (ix1 c)
      wl1 := fun k c => wl1 (ix2 k c)
      wr1 := fun k c => wr1 (ix2 k c)
      b1 := fun c => b1 (ix1 c) }
  dw a i := dw (ix2 a i)
  kd c i := kd (ix2 c i)
  wp k c := wp (ix2 k c)
  bp c := bp (ix1 c)

end Cert.Proof.Net
-- ==== Proof.KerVal.lean ====
/-
  The dense kernel's payloads, read at an index over the extended reals.
-/
module

public import proofs.«01_k».proof.Proof.TcBody
public import proofs.«01_k».proof.Proof.Spec
public import Idealize.ShloMosaic.Lib.Pointwise

@[expose] public section

noncomputable section

namespace Cert.Proof.Tile

open Cert.KernelIdeal Cert.KernelIdeal.Gen

open Idealize.ShloMosaic
open Cert.Proof.Net

/-- The named fifth is one fifth. -/
theorem named_fifth : (Named.named κ "fifth" 0x3E4CCCCD#32 : Ideal .f32) = Net.fifth :=
  IdealRules.named_const.ideal_named_scalar _ _ _ _ rfl

/-- The constant of halving. -/
theorem bits_half : Ideal.ofBits .f32 0x3F000000#32 = Net.half := by
  unfold Net.half
  simp [Ideal.ofBits, Ideal.ieee, -EReal.coe_mul]; norm_num

theorem spike_word (a : EReal) : (FloatOps.sitofp .f32 (BitVec.setWidth 32 (BitVec.ofBool (decide (1 ≤ a)))) : Ideal .f32) = spike a := by
  unfold spike
  by_cases h : 1 ≤ a
  · simp only [h, decide_true, if_true]
    show (((BitVec.setWidth 32 (BitVec.ofBool true)).toInt : ℝ) : EReal) = 1
    rw [show (BitVec.setWidth 32 (BitVec.ofBool true)).toInt = 1 by decide]
    norm_num
  · simp only [h, decide_false, if_false]
    show (((BitVec.setWidth 32 (BitVec.ofBool false)).toInt : ℝ) : EReal) = 0
    norm_num

variable (B : Blk Ideal)

/-- The weights of a point's windows, -/
def Blk.wts : Wts where
  wl0 k c := B.wl0 (ix2 k c)
  wr0 k c := B.wr0 (ix2 k c)
  b0 c := B.b0 (ix2 0 c)
  wl1 k c := B.wl1 (ix2 k c)
  wr1 k c := B.wr1 (ix2 k c)
  b1 c := B.b1 (ix2 0 c)

/-- the features of a row of them, -/
def Blk.nodeRows (r : Fin 2048) : Rows where
  own k := B.h0 (ix2 r k)
  nbr q k := B.h1 (ix4 0 q r k)
  two q k := B.m2 (ix4 0 q r k)

theorem pay5_apply (r : Fin 2048) (c : Fin 128) :
    k1_pay5 B.h1 B.wl0 B.wr0 B.b0 B.h0 (ix2 r c) = top B.wts (B.nodeRows r) c := by
  pointwise [k1_pay5, k1_pay3, k1_pay4]
  simp only [top, Blk.wts, Blk.nodeRows, ← named_fifth, Fin.sum_univ_five]

theorem spikes_apply (r : Fin 2048) (c : Fin 64) : spikes B (ix2 r c) = fire B.wts (B.nodeRows r) c := by
  unfold spikes
  pointwise [k1_pay9, k1_pay4, k1_pay6, k1_pay7, k1_pay8, k1_pay3]
  have e (q : Fin 5) (n : ℕ) (hn : n = 2048 * q.val) (h : (n + r.val) / 2048 < 5) : (⟨(n + r.val) / 2048, h⟩ : Fin 5) = q :=
    Fin.ext (by show (n + r.val) / 2048 = q.val; omega)
  have e0 (h : r.val / 2048 < 5) : (⟨r.val / 2048, h⟩ : Fin 5) = 0 := Fin.ext (by show r.val / 2048 = 0; omega)
  have em (h : r.val % 2048 < 2048) : (⟨r.val % 2048, h⟩ : Fin 2048) = r := Fin.ext (Nat.mod_eq_of_lt r.isLt)
  simp only [spike_word, pay5_apply, e0, em, e 1 2048 rfl, e 2 4096 rfl, e 3 6144 rfl, e 4 8192 rfl]
  simp only [fire, mid, bot, Fin.sum_univ_five, ← named_fifth, ← bits_half, mul_comm (B.wr0 _), ← mul_assoc]
  rfl

theorem coef_apply (t : Fin 5) (c : Fin 64) :
    coef (BitVec.ofNat 32 t.val) B (ix2 0 c) = weight (fun j => B.dwt (ix2 j c)) (fun j => B.kdt (ix2 j c)) t := by
  unfold coef
  pointwise [k1_pay19, k1_pay12, k1_pay14, k1_pay15, k1_pay16, k1_pay17, k1_pay18, k1_pay10, k1_pay11,k1_pay13]
  simp only [named_fifth, Fin.sum_univ_five, Fin.sum_univ_three, Fin.sum_univ_four]
  fin_cases t
  all_goals
    simp [Scalar.select, Scalar.cmpi, IntOp.cmpi, weight, share, Fin.sum_univ_four]
    try rfl

theorem accStep_apply (t : BitVec 32) (a : FVec Ideal S2048x64 .f32) (r : Fin 2048) (c : Fin 64) :
    accStep t B a (ix2 r c) = a (ix2 r c) + spikes B (ix2 r c) * coef t B (ix2 0 c) := by
  unfold accStep
  pointwise [k1_pay1]

theorem outStep_apply (a : FVec Ideal S2048x64 .f32) (r : Fin 2048) (c : Fin 64) :
    outStep B a (ix2 r c) = (∑ k, a (ix2 r k) * B.wp (ix2 k c)) + B.bp (ix2 0 c) := by
  unfold outStep
  pointwise [k1_pay2]

end Cert.Proof.Tile
-- ==== Proof.TcVal.lean ====
/-
  The dense kernel's result, read at an index over the extended reals, from the arrays it is entered with.
-/
module

public import proofs.«01_k».proof.Proof.TcRegion
public import proofs.«01_k».proof.Proof.KerVal
public import Idealize.ShloMosaic.Lib.Pipeline.ValueKit

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.ShloMosaic.Pipeline (Dat Cfg Window)
open Cert.Proof.Net

variable (V : Entry Ideal) (Rc : Dev nD → Set (SemLoc sig × HIx 1)) (d : Dev nD)

/-- The grid point of block `p` and time `j`. -/
def pt (p : Fin 2) (j : Fin 5) : Fin cfg1.N := ⟨5 * p.val + j.val, by have := p.isLt; have := j.isLt; show 5 * p.val + j.val < 10; omega⟩

theorem step_pt : ∀ (p : Fin 2) (j : Fin 5), stepOf (pt p j) = BitVec.ofNat 32 j.val := by decide +kernel

/-- The row of a node within its block. -/
def node (p : Fin 2) (r : Fin 2048) : Fin 4096 := ⟨2048 * p.val + r.val, by have := p.isLt; have := r.isLt; omega⟩

/-- The weights the arrays hold, -/
def wtsOf : Wts where
  wl0 k c := V d main_arg4 (ix2 k c)
  wr0 k c := V d main_arg5 (ix2 k c)
  b0 c := V d main_v16 (ix2 0 c)
  wl1 k c := V d main_arg7 (ix2 k c)
  wr1 k c := V d main_arg8 (ix2 k c)
  b1 c := V d main_v17 (ix2 0 c)

/-- a node's features at a time step, -/
def rowsOf (j : Fin 5) (n : Fin 4096) : Rows where
  own k := V d main_v9_0 (ix2 n k)
  nbr q k := V d main_v10 (ix4 j q n k)
  two q k := V d main_v11 (ix4 j q n k)

/-- the mean of the taps at a node, -/
def poolOf (n : Fin 4096) (c : Fin 64) : EReal :=
  pooled (fun j => fire (wtsOf V d) (rowsOf V d j n) c) (fun i => V d main_v14 (ix2 i c)) (fun i => V d main_v15 (ix2 i c))

/-- and the result. -/
def outOf (n : Fin 4096) (c : Fin 64) : EReal := (∑ k, poolOf V d n k * V d main_arg12 (ix2 k c)) + V d main_v18 (ix2 0 c)

theorem idx0 : ∀ p j, (cfg1.win 0).index (pt p j) = ![p.val, 0] := by decide +kernel
theorem idx1 : ∀ p j, (cfg1.win 1).index (pt p j) = ![j.val, 0, p.val, 0] := by decide +kernel
theorem idx2 : ∀ p j, (cfg1.win 2).index (pt p j) = ![j.val, 0, p.val, 0] := by decide +kernel
theorem idxw : ∀ p j, (cfg1.win 3).index (pt p j) = ![0, 0] ∧ (cfg1.win 4).index (pt p j) = ![0, 0] ∧ (cfg1.win 5).index (pt p j) = ![0, 0]
    ∧ (cfg1.win 6).index (pt p j) = ![0, 0] ∧ (cfg1.win 7).index (pt p j) = ![0, 0] ∧ (cfg1.win 8).index (pt p j) = ![0, 0]
    ∧ (cfg1.win 9).index (pt p j) = ![0, 0] ∧ (cfg1.win 10).index (pt p j) = ![0, 0] ∧ (cfg1.win 11).index (pt p j) = ![0, 0]
    ∧ (cfg1.win 12).index (pt p j) = ![0, 0] := by decide +kernel
theorem idx13 : ∀ p j, (cfg1.win 13).index (pt p j) = ![p.val, 0] := by decide +kernel

theorem nodeRows_pt (p : Fin 2) (j : Fin 5) (r : Fin 2048) : (blkAt V d (pt p j)).nodeRows r = rowsOf V d j (node p r) := by
  unfold Blk.nodeRows rowsOf
  congr 1
  · funext k
    change blockAt V d 0 (pt p j) (ix2 r k) = _
    blk_ext [blockAt, idx0 p j, node]
  · funext q k
    change blockAt V d 1 (pt p j) (ix4 0 q r k) = _
    blk_ext [blockAt, idx1 p j, node]
  · funext q k
    change blockAt V d 2 (pt p j) (ix4 0 q r k) = _
    blk_ext [blockAt, idx2 p j, node]

theorem wts_pt (p : Fin 2) (j : Fin 5) : (blkAt V d (pt p j)).wts = wtsOf V d := by
  obtain ⟨i3, i4, i5, i6, i7, i8, -⟩ := idxw p j
  unfold Blk.wts wtsOf
  congr 1
  · funext k c
    change blockAt V d 3 (pt p j) (ix2 k c) = _
    blk_ext [blockAt, i3]
  · funext k c
    change blockAt V d 4 (pt p j) (ix2 k c) = _
    blk_ext [blockAt, i4]
  · funext c
    change blockAt V d 5 (pt p j) (ix2 0 c) = _
    blk_ext [blockAt, i5]
  · funext k c
    change blockAt V d 6 (pt p j) (ix2 k c) = _
    blk_ext [blockAt, i6]
  · funext k c
    change blockAt V d 7 (pt p j) (ix2 k c) = _
    blk_ext [blockAt, i7]
  · funext c
    change blockAt V d 8 (pt p j) (ix2 0 c) = _
    blk_ext [blockAt, i8]

theorem dwt_pt (p : Fin 2) (j : Fin 5) (i : Fin 4) (c : Fin 64) : (blkAt V d (pt p j)).dwt (ix2 i c) = V d main_v14 (ix2 i c) := by
  obtain ⟨-, -, -, -, -, -, i9, -⟩ := idxw p j
  change blockAt V d 9 (pt p j) (ix2 i c) = _
  blk_ext [blockAt, i9]
theorem kdt_pt (p : Fin 2) (j : Fin 5) (i : Fin 5) (c : Fin 64) : (blkAt V d (pt p j)).kdt (ix2 i c) = V d main_v15 (ix2 i c) := by
  obtain ⟨-, -, -, -, -, -, -, i10, -⟩ := idxw p j
  change blockAt V d 10 (pt p j) (ix2 i c) = _
  blk_ext [blockAt, i10]
theorem wp_pt (p : Fin 2) (j : Fin 5) (i c : Fin 64) : (blkAt V d (pt p j)).wp (ix2 i c) = V d main_arg12 (ix2 i c) := by
  obtain ⟨-, -, -, -, -, -, -, -, i11, -⟩ := idxw p j
  change blockAt V d 11 (pt p j) (ix2 i c) = _
  blk_ext [blockAt, i11]
theorem bp_pt (p : Fin 2) (j : Fin 5) (c : Fin 64) : (blkAt V d (pt p j)).bp (ix2 0 c) = V d main_v18 (ix2 0 c) := by
  obtain ⟨-, -, -, -, -, -, -, -, -, i12⟩ := idxw p j
  change blockAt V d 12 (pt p j) (ix2 0 c) = _
  blk_ext [blockAt, i12]

/-- One step of the accumulator. -/
theorem acc_pt (p : Fin 2) (j : Fin 5) (r : Fin 2048) (c : Fin 64) :
    accAt V d ((pt p j).val + 1) (ix2 r c) = (if j = 0 then 0 else accAt V d (pt p j).val (ix2 r c))
      + fire (wtsOf V d) (rowsOf V d j (node p r)) c * weight (fun i => V d main_v14 (ix2 i c)) (fun i => V d main_v15 (ix2 i c)) j := by
  rw [accAt_succ]
  unfold accNext
  rw [accStep_apply, spikes_apply, step_pt, coef_apply, wts_pt, nodeRows_pt]
  simp only [dwt_pt, kdt_pt]
  congr 1
  by_cases h : j = 0
  · rw [if_pos h, if_pos ((firstB_iff _).mpr (by subst h; show (5 * p.val + 0) % 5 = 0; omega))]
    pointwise [k1_pay20]
  · rw [if_neg h, if_neg fun e => h (Fin.ext (by have e := (firstB_iff _).mp e; change (5 * p.val + j.val) % 5 = 0 at e; show j.val = 0; omega))]

/-- The accumulator after a block's last point. -/
theorem acc_last (p : Fin 2) (r : Fin 2048) (c : Fin 64) : accAt V d ((pt p 4).val + 1) (ix2 r c) = poolOf V d (node p r) c := by
  have s (j j' : Fin 5) (h : j'.val = j.val + 1) := (acc_pt V d p j' r c).trans (by
    rw [if_neg (by rintro rfl; exact absurd h (by simp)), show (pt p j').val = (pt p j).val + 1 by show 5 * p.val + j'.val = 5 * p.val + j.val + 1; omega])
  rw [s 3 4 rfl, s 2 3 rfl, s 1 2 rfl, s 0 1 rfl, acc_pt, if_pos rfl, zero_add]
  unfold poolOf pooled
  rw [Fin.sum_univ_five]

/-- The result, index by index. -/
theorem out_eq : (dats V Rc 0 d).arrAt 13 cfg1.N = fun i => outOf V d (i 0) (i 1) := by
  refine (dats V Rc 0 d).arrAt_eq_of_covers 13 _ (by decide +kernel) fun t hf y => ?_
  have h4 := (flush1_13 t).mp hf
  obtain ⟨p, rfl⟩ : ∃ p : Fin 2, t = pt p 4 := ⟨⟨t.val / 5, by have : t.val < 10 := t.isLt; omega⟩, Fin.ext (by show t.val = 5 * (t.val / 5) + 4; omega)⟩
  blk_simp
  change outStep (blkAt V d (pt p 4)) (accAt V d ((pt p 4).val + 1)) y = _
  obtain ⟨r, c, rfl⟩ : ∃ (r : Fin 2048) (c : Fin 64), y = ix2 r c := ⟨y 0, y 1, funext fun a => by fin_cases a <;> rfl⟩
  rw [outStep_apply]
  simp only [acc_last, wp_pt, bp_pt]
  have e0 : (win1_13.blk (pt p 4)).view.emb (ix2 r c) 0 = node p r := Fin.ext (by
    blk_simp [idx13 p 4]
    show p.val * 2048 + r.val = 2048 * p.val + r.val
    omega)
  have e1 : (win1_13.blk (pt p 4)).view.emb (ix2 r c) 1 = c := Fin.ext (by blk_simp [idx13 p 4])
  rw [e0, e1]
  rfl

end Cert.Proof.Tile
-- ==== Proof.KerOut.lean ====
/-
  The kernel's result, from its arguments.
-/
module

public import proofs.«01_k».proof.Proof.HostVals
public import proofs.«01_k».proof.Proof.TcVal

@[expose] public section

noncomputable section

namespace Cert.Proof.Tile

open Cert.KernelIdeal Cert.KernelIdeal.Gen

open Idealize.ShloMosaic
open Idealize.ShloMosaic.TcCoe
open Idealize.ShloMosaic.StableHlo
open Cert.Proof.Net

variable (m : (ℓ : Loc nD τ sig) → Buf (Elt Ideal) ℓ) (d : Dev nD)

/-- The arguments as the network's inputs. -/
def inp : Inputs :=
  inputsOf (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6)) (m ((d : Thread nD τ).loc main_arg7)) (m ((d : Thread nD τ).loc main_arg8))
    (m ((d : Thread nD τ).loc main_arg9)) (m ((d : Thread nD τ).loc main_arg10)) (m ((d : Thread nD τ).loc main_arg11))
    (m ((d : Thread nD τ).loc main_arg12)) (m ((d : Thread nD τ).loc main_arg13))

theorem xAt_eq (w : BitVec 32) (k : Fin 128) : xAt w k = ix2 (pick w) k := by
  funext a; match a with | ⟨0, _⟩ => rfl | ⟨1, _⟩ => rfl
theorem rowAt_eq (i : Fin 102400) : rowAt i = ix1 i := by
  funext a; match a with | ⟨0, _⟩ => rfl
theorem nodeAt_eq (i : Fin 4096) : nodeAt i = ix1 i := by
  funext a; match a with | ⟨0, _⟩ => rfl

theorem h0Val_at (A : Args Ideal) (n : Fin 4096) (k : Fin 128) : h0Val A (ix2 n k) = A.x (ix2 (pick (A.nodes (ix1 n))) k) :=
  congrArg A.x ((xAt_eq _ _).trans (by rw [← nodeAt_eq]; rfl))
theorem rowVal_at (A : Args Ideal) (r : Role) (j : Fin 5) (i : Fin 20480) (k : Fin 128) :
    rowVal A r (ix3 j i k) = A.x (ix2 (pick (A.rows r (rowAt (flat j i)))) k) :=
  congrArg A.x (xAt_eq _ _)

theorem table_eq : (argsOf m d).x = m ((d : Thread nD τ).loc main_arg0) := W1_keep m d main_arg0 (by decide)
theorem nodes_eq : (argsOf m d).nodes = m ((d : Thread nD τ).loc main_arg1) := W1_keep m d main_arg1 (by decide)

/-- The place of a node's neighbour in the kernel's order. -/
def nbk (n : Fin 4096) (q : Fin 5) : Fin 20480 := ⟨q.val * 4096 + n.val, by have := n.isLt; have := q.isLt; omega⟩

theorem rows_h (j q : Fin 5) (n : Fin 4096) : (argsOf m d).rows .h (rowAt (flat j (nbk n q))) = (inp m d).hop1 j n q := by
  show W1 m d (Proc.devRef .tc main_v1) _ = _
  rw [W1_v1, rowAt_eq]
  unfold flat nbk
  pointwise
  rfl
theorem rows_e (j q : Fin 5) (n : Fin 4096) : (argsOf m d).rows .e (rowAt (flat j (nbk n q))) = (inp m d).hop2 j (nb n q) 0 := by
  show W1 m d (Proc.devRef .tc main_v6) _ = _
  rw [W1_v6, rowAt_eq]
  unfold flat nbk
  pointwise [pairs]
  exact congrArg (fun i => m ((d : Thread nD τ).loc main_arg3) (ix3 j i _)) (Fin.ext (by show n.val * 5 + q.val = 5 * n.val + q.val; omega))
theorem rows_o (j q : Fin 5) (n : Fin 4096) : (argsOf m d).rows .o (rowAt (flat j (nbk n q))) = (inp m d).hop2 j (nb n q) 1 := by
  show W1 m d (Proc.devRef .tc main_v8) _ = _
  rw [W1_v8, rowAt_eq]
  unfold flat nbk
  pointwise [pairs]
  exact congrArg (fun i => m ((d : Thread nD τ).loc main_arg3) (ix3 j i _)) (Fin.ext (by show n.val * 5 + q.val = 5 * n.val + q.val; omega))

theorem W2_v0 : W2 m d (Proc.devRef .tc main_v9_0) = h0Val (argsOf m d) := by
  unfold W2
  rw [Function.update_of_ne (devRef_ne_of_ne (by decide)), Function.update_of_ne (devRef_ne_of_ne (by decide)), Function.update_self]
theorem W2_v1 : W2 m d (Proc.devRef .tc main_v9_1) = hopVal (argsOf m d) false := by
  unfold W2
  rw [Function.update_of_ne (devRef_ne_of_ne (by decide)), Function.update_self]
theorem W2_v2 : W2 m d (Proc.devRef .tc main_v9_2) = hopVal (argsOf m d) true := by
  unfold W2
  rw [Function.update_self]

/-- A buffer nothing before the dense kernel's operations writes. -/
theorem W2_keep (b : Ref sig .tc) (h : b ∉ written0) (h9 : b ≠ main_v9_0 ∧ b ≠ main_v9_1 ∧ b ≠ main_v9_2) :
    W2 m d (Proc.devRef .tc b) = m ((d : Thread nD τ).loc b) :=
  (W2_other m d _ (devRef_ne_of_ne h9.1) (devRef_ne_of_ne h9.2.1) (devRef_ne_of_ne h9.2.2)).trans (W1_keep m d b h)

theorem W3_v10 : W3 m d (Proc.devRef .tc main_v10) = shapeCast S5x5x4096x128 (W2 m d (Proc.devRef .tc main_v9_1)) shapeCasts_S5x20480x128_S5x5x4096x128 := by
  unfold W3 ops1
  after_results
  rfl
theorem W3_v11 : W3 m d (Proc.devRef .tc main_v11) = shapeCast S5x5x4096x128 (W2 m d (Proc.devRef .tc main_v9_2)) shapeCasts_S5x20480x128_S5x5x4096x128 := by
  unfold W3 ops1
  after_results
  rfl
theorem W3_v14 : W3 m d (Proc.devRef .tc main_v14) = transpose S4x64 [1, 0] (shapeCast S64x4 (broadcastInDim S8x8x4 ![0, 2] bcast_S8x4_S8x8x4_0_2 (W2 m d (Proc.devRef .tc main_arg10))) shapeCasts_S8x8x4_S64x4) transposes_S64x4_S4x64_1_0 := by
  unfold W3 ops1
  after_results
  rfl
theorem W3_v15 : W3 m d (Proc.devRef .tc main_v15) = transpose S5x64 [1, 0] (W2 m d (Proc.devRef .tc main_arg11)) transposes_S64x5_S5x64_1_0 := by
  unfold W3 ops1
  after_results
theorem W3_v16 : W3 m d (Proc.devRef .tc main_v16) = shapeCast S1x128 (W2 m d (Proc.devRef .tc main_arg6)) shapeCasts_S128_S1x128 := by
  unfold W3 ops1
  after_results
  rfl
theorem W3_v17 : W3 m d (Proc.devRef .tc main_v17) = shapeCast S1x64 (W2 m d (Proc.devRef .tc main_arg9)) shapeCasts_S64_S1x64 := by
  unfold W3 ops1
  after_results
  rfl
theorem W3_v18 : W3 m d (Proc.devRef .tc main_v18) = shapeCast S1x64 (W2 m d (Proc.devRef .tc main_arg13)) shapeCasts_S64_S1x64 := by
  unfold W3 ops1
  after_results
  rfl

theorem at_own (n : Fin 4096) (k : Fin 128) : entry m d main_v9_0 (ix2 n k) = (inp m d).x (pick ((inp m d).nodes n)) k := by
  show W3 m d (Proc.devRef .tc main_v9_0) _ = _
  rw [W3_keep m d main_v9_0 (by decide), W2_v0]
  rw [h0Val_at, table_eq, nodes_eq]
  rfl
theorem at_nbr (j q : Fin 5) (n : Fin 4096) (k : Fin 128) :
    entry m d main_v10 (ix4 j q n k) = (inp m d).x (pick ((inp m d).hop1 j n q)) k := by
  show W3 m d (Proc.devRef .tc main_v10) _ = _
  rw [W3_v10, W2_v1, ← rows_h]
  pointwise
  refine (rowVal_at (argsOf m d) .h j (nbk n q) k).trans ?_
  rw [table_eq]
  rfl
theorem at_two (j q : Fin 5) (n : Fin 4096) (k : Fin 128) :
    entry m d main_v11 (ix4 j q n k)
      = ((inp m d).x (pick ((inp m d).hop2 j (nb n q) 0)) k + (inp m d).x (pick ((inp m d).hop2 j (nb n q) 1)) k : EReal) := by
  show W3 m d (Proc.devRef .tc main_v11) _ = _
  rw [W3_v11, W2_v2, ← rows_e, ← rows_o]
  pointwise
  refine (congrArg₂ (fun a b : EReal => a + b) (rowVal_at (argsOf m d) .e j (nbk n q) k) (rowVal_at (argsOf m d) .o j (nbk n q) k)).trans ?_
  rw [table_eq]
  rfl
theorem at_dw (i : Fin 4) (c : Fin 64) : entry m d main_v14 (ix2 i c) = (inp m d).dw (grp c) i := by
  show W3 m d (Proc.devRef .tc main_v14) _ = _
  rw [W3_v14, W2_keep m d main_arg10 (by decide) (by decide)]
  pointwise
  rfl
theorem at_kd (i : Fin 5) (c : Fin 64) : entry m d main_v15 (ix2 i c) = (inp m d).kd c i := by
  show W3 m d (Proc.devRef .tc main_v15) _ = _
  rw [W3_v15, W2_keep m d main_arg11 (by decide) (by decide)]
  pointwise
  rfl
theorem at_b0 (c : Fin 128) : entry m d main_v16 (ix2 0 c) = (inp m d).W.b0 c := by
  show W3 m d (Proc.devRef .tc main_v16) _ = _
  rw [W3_v16, W2_keep m d main_arg6 (by decide) (by decide)]
  pointwise
  rfl
theorem at_b1 (c : Fin 64) : entry m d main_v17 (ix2 0 c) = (inp m d).W.b1 c := by
  show W3 m d (Proc.devRef .tc main_v17) _ = _
  rw [W3_v17, W2_keep m d main_arg9 (by decide) (by decide)]
  pointwise
  rfl
theorem at_bp (c : Fin 64) : entry m d main_v18 (ix2 0 c) = (inp m d).bp c := by
  show W3 m d (Proc.devRef .tc main_v18) _ = _
  rw [W3_v18, W2_keep m d main_arg13 (by decide) (by decide)]
  pointwise
  rfl

/-- The weights the dense kernel is handed. -/
theorem wtsOf_entry : wtsOf (entry m) d = (inp m d).W := by
  have h4 := entry_keep m d main_arg4 (by decide) (by decide) (by decide)
  have h5 := entry_keep m d main_arg5 (by decide) (by decide) (by decide)
  have h7 := entry_keep m d main_arg7 (by decide) (by decide) (by decide)
  have h8 := entry_keep m d main_arg8 (by decide) (by decide) (by decide)
  unfold wtsOf
  simp only [at_b0, at_b1, h4, h5, h7, h8]
  rfl

theorem rowsOf_entry (j : Fin 5) (n : Fin 4096) : rowsOf (entry m) d j n = (inp m d).rows j n := by
  unfold rowsOf
  simp only [at_own, at_nbr, at_two]
  rfl

/-- The kernel's result. -/
theorem out_entry (n : Fin 4096) (c : Fin 64) : outOf (entry m) d n c = (inp m d).out n c := by
  have h12 := entry_keep m d main_arg12 (by decide) (by decide) (by decide)
  have hp (k : Fin 64) : poolOf (entry m) d n k = (inp m d).pool n k := by
    unfold poolOf
    simp only [wtsOf_entry, rowsOf_entry, at_dw, at_kd]
    rfl
  unfold outOf
  simp only [hp, at_bp, h12]
  rfl

end Cert.Proof.Tile
-- ==== Proof.RefOps.lean ====
/-
  The reference's steps as functions, and its stages as their compositions.
-/
module

public import proofs.«01_k».proof.Proof.Gen.ReferenceIdeal.Run

@[expose] public section

noncomputable section

namespace Cert.Proof.Ref

open Cert.ReferenceIdeal Cert.ReferenceIdeal.Gen Cert.ReferenceIdeal.Value

open Idealize.ShloMosaic
open Idealize.ShloMosaic.TcCoe
open Idealize.ShloMosaic.StableHlo

variable {F : FTy → Type} [FloatOps F]

/-- The nodes' rows of the table. -/
def rows0 (x : FVec F S100000x128 .f32) (w : IVec S4096 32) : FVec F S4096x128 .f32 :=
  Host.gather gather_S100000x128_S4096x1_S4096x128_1_0_n_n_0_1_1128 x (broadcastInDim S4096x1 ![0] bcast_S4096_S4096x1_0 (select (cmpi .slt w (broadcastInDim S4096 ![] bcast_S_S4096 (constantI S_ 32 0#32))) (addi w (broadcastInDim S4096 ![] bcast_S_S4096 (constantI S_ 32 100000#32))) w))
/-- Their neighbours' rows. -/
def rows1 (x : FVec F S100000x128 .f32) (w : IVec S20480 32) : FVec F S20480x128 .f32 :=
  Host.gather gather_S100000x128_S20480x1_S20480x128_1_0_n_n_0_1_1128 x (broadcastInDim S20480x1 ![0] bcast_S20480_S20480x1_0 (select (cmpi .slt w (broadcastInDim S20480 ![] bcast_S_S20480 (constantI S_ 32 0#32))) (addi w (broadcastInDim S20480 ![] bcast_S_S20480 (constantI S_ 32 100000#32))) w))
/-- The neighbours' neighbours' rows. -/
def rows2 (x : FVec F S100000x128 .f32) (w : IVec S40960 32) : FVec F S40960x128 .f32 :=
  Host.gather gather_S100000x128_S40960x1_S40960x128_1_0_n_n_0_1_1128 x (broadcastInDim S40960x1 ![0] bcast_S40960_S40960x1_0 (select (cmpi .slt w (broadcastInDim S40960 ![] bcast_S_S40960 (constantI S_ 32 0#32))) (addi w (broadcastInDim S40960 ![] bcast_S_S40960 (constantI S_ 32 100000#32))) w))

/-- The first layer, over the nodes and then their neighbours. -/
def layer0 (h0 : FVec F S4096x128 .f32) (h1 : FVec F S20480x128 .f32) (h2 : FVec F S40960x128 .f32) (wl wr : FVec F S128x128 .f32)
    (b : FVec F S128 .f32) : FVec F S24576x128 .f32 :=
  addf (addf (Host.dotGeneral dot_S24576x128_S128x128_S24576x128_1_0_0_1_n_n none (concatenate S24576x128 0 [⟨S4096x128, h0⟩, ⟨S20480x128, h1⟩] concatenates_S4096x128_S20480x128_S24576x128_d0) wl)
      (Host.dotGeneral dot_S24576x128_S128x128_S24576x128_1_0_0_1_n_n none
        (concatenate S24576x128 0 [⟨S4096x128, (Host.divf (Host.reduceAdd (shapeCast S4096x5x128 h1 shapeCasts_S20480x128_S4096x5x128) (constant S_ .f32 0x00000000#32) reducesTo_S4096x5x128_S4096x128_d1 h_S_) (broadcastInDim S4096x128 ![] bcast_S_S4096x128 (constant S_ .f32 0x40A00000#32)))⟩,
          ⟨S20480x128, (Host.divf (Host.reduceAdd (shapeCast S20480x2x128 h2 shapeCasts_S40960x128_S20480x2x128) (constant S_ .f32 0x00000000#32) reducesTo_S20480x2x128_S20480x128_d1 h_S_) (broadcastInDim S20480x128 ![] bcast_S_S20480x128 (constant S_ .f32 0x40000000#32)))⟩] concatenates_S4096x128_S20480x128_S24576x128_d0) wr))
    (broadcastInDim S24576x128 ![0, 1] bcast_S1x128_S24576x128_0_1 (broadcastInDim S1x128 ![1] bcast_S128_S1x128_1 b))

/-- The second layer, over the nodes, from the first layer's spikes. -/
def layer1 (s : FVec F S24576x128 .f32) (wl wr : FVec F S128x64 .f32) (b : FVec F S64 .f32) : FVec F S4096x64 .f32 :=
  addf (addf (Host.dotGeneral dot_S4096x128_S128x64_S4096x64_1_0_0_1_n_n none (extractStridedSlice S4096x128 ![0, 0] s slices_S24576x128_S4096x128_0_0) wl)
      (Host.dotGeneral dot_S4096x128_S128x64_S4096x64_1_0_0_1_n_n none
        (Host.divf (Host.reduceAdd (shapeCast S4096x5x128 (extractStridedSlice S20480x128 ![4096, 0] s slices_S24576x128_S20480x128_4096_0) shapeCasts_S20480x128_S4096x5x128) (constant S_ .f32 0x00000000#32) reducesTo_S4096x5x128_S4096x128_d1 h_S_) (broadcastInDim S4096x128 ![] bcast_S_S4096x128 (constant S_ .f32 0x40A00000#32))) wr))
    (broadcastInDim S4096x64 ![0, 1] bcast_S1x64_S4096x64_0_1 (broadcastInDim S1x64 ![1] bcast_S64_S1x64_1 b))

/-- A potential charged by a layer's output; its spikes; and what is left of it. -/
def charge0 (v a : FVec F S24576x128 .f32) : FVec F S24576x128 .f32 :=
  addf v (Host.divf (subf a v) (broadcastInDim S24576x128 ![] bcast_S_S24576x128 (constant S_ .f32 0x3F800000#32)))
def fired0 (v : FVec F S24576x128 .f32) : FVec F S24576x128 .f32 :=
  uitofp .f32 (cmpf .oge v (broadcastInDim S24576x128 ![] bcast_S_S24576x128 (constant S_ .f32 0x3F800000#32)))
def left0 (v : FVec F S24576x128 .f32) : FVec F S24576x128 .f32 :=
  subf v (mulf (fired0 v) (broadcastInDim S24576x128 ![] bcast_S_S24576x128 (constant S_ .f32 0x3F800000#32)))
def charge1 (v a : FVec F S4096x64 .f32) : FVec F S4096x64 .f32 :=
  addf v (Host.divf (subf a v) (broadcastInDim S4096x64 ![] bcast_S_S4096x64 (constant S_ .f32 0x3F800000#32)))
def fired1 (v : FVec F S4096x64 .f32) : FVec F S4096x64 .f32 :=
  uitofp .f32 (cmpf .oge v (broadcastInDim S4096x64 ![] bcast_S_S4096x64 (constant S_ .f32 0x3F800000#32)))
def left1 (v : FVec F S4096x64 .f32) : FVec F S4096x64 .f32 :=
  subf v (mulf (fired1 v) (broadcastInDim S4096x64 ![] bcast_S_S4096x64 (constant S_ .f32 0x3F800000#32)))

/-- Spikes over time, delayed by each of the four delays and weighted, with two empty steps on either side. -/
def delayed (s : FVec F S4096x5x64 .f32) (g : FVec F S8x4 .f32) : FVec F S4096x9x64 .f32 :=
  pad S4096x9x64 ![0, 2, 0] ![0, 2, 0] ![0, 0, 0] (addf (addf (addf (addf (broadcastInDim S4096x5x64 ![] bcast_S_S4096x5x64 (constant S_ .f32 0x00000000#32))
      (shapeCast _ (mulf (shapeCast _ s shapeCasts_S4096x5x64_S4096x5x8x8) (broadcastInDim S4096x5x8x8 ![0, 1, 2, 3] bcast_S1x1x8x1_S4096x5x8x8_0_1_2_3 (broadcastInDim S1x1x8x1 ![2] bcast_S8_S1x1x8x1_2 (shapeCast _ (extractStridedSlice S8x1 ![0, 0] g slices_S8x4_S8x1_0_0) shapeCasts_S8x1_S8)))) shapeCasts_S4096x5x8x8_S4096x5x64))
      (shapeCast _ (mulf (shapeCast _ (extractStridedSlice S4096x5x64 ![0, 0, 0] (pad S4096x6x64 ![0, 1, 0] ![0, 0, 0] ![0, 0, 0] s (sitofp .f32 (constantI S_ 32 0#32)) pads_S4096x5x64_S4096x6x64_000_100_000 h_S_) slices_S4096x6x64_S4096x5x64_0_0_0) shapeCasts_S4096x5x64_S4096x5x8x8) (broadcastInDim S4096x5x8x8 ![0, 1, 2, 3] bcast_S1x1x8x1_S4096x5x8x8_0_1_2_3 (broadcastInDim S1x1x8x1 ![2] bcast_S8_S1x1x8x1_2 (shapeCast _ (extractStridedSlice S8x1 ![0, 1] g slices_S8x4_S8x1_0_1) shapeCasts_S8x1_S8)))) shapeCasts_S4096x5x8x8_S4096x5x64))
      (shapeCast _ (mulf (shapeCast _ (extractStridedSlice S4096x5x64 ![0, 0, 0] (pad S4096x8x64 ![0, 3, 0] ![0, 0, 0] ![0, 0, 0] s (sitofp .f32 (constantI S_ 32 0#32)) pads_S4096x5x64_S4096x8x64_000_300_000 h_S_) slices_S4096x8x64_S4096x5x64_0_0_0) shapeCasts_S4096x5x64_S4096x5x8x8) (broadcastInDim S4096x5x8x8 ![0, 1, 2, 3] bcast_S1x1x8x1_S4096x5x8x8_0_1_2_3 (broadcastInDim S1x1x8x1 ![2] bcast_S8_S1x1x8x1_2 (shapeCast _ (extractStridedSlice S8x1 ![0, 2] g slices_S8x4_S8x1_0_2) shapeCasts_S8x1_S8)))) shapeCasts_S4096x5x8x8_S4096x5x64))
      (shapeCast _ (mulf (shapeCast _ (extractStridedSlice S4096x5x64 ![0, 0, 0] (pad S4096x10x64 ![0, 5, 0] ![0, 0, 0] ![0, 0, 0] s (sitofp .f32 (constantI S_ 32 0#32)) pads_S4096x5x64_S4096x10x64_000_500_000 h_S_) slices_S4096x10x64_S4096x5x64_0_0_0) shapeCasts_S4096x5x64_S4096x5x8x8) (broadcastInDim S4096x5x8x8 ![0, 1, 2, 3] bcast_S1x1x8x1_S4096x5x8x8_0_1_2_3 (broadcastInDim S1x1x8x1 ![2] bcast_S8_S1x1x8x1_2 (shapeCast _ (extractStridedSlice S8x1 ![0, 3] g slices_S8x4_S8x1_0_3) shapeCasts_S8x1_S8)))) shapeCasts_S4096x5x8x8_S4096x5x64)) (sitofp .f32 (constantI S_ 32 0#32)) pads_S4096x5x64_S4096x9x64_000_220_000 h_S_

/-- The mean over time of the five taps. -/
def taps (p : FVec F S4096x9x64 .f32) (kd : FVec F S64x5 .f32) : FVec F S4096x64 .f32 :=
  Host.divf (Host.reduceAdd (addf (addf (addf (addf (addf (broadcastInDim S4096x5x64 ![] bcast_S_S4096x5x64 (constant S_ .f32 0x00000000#32))
      (mulf (extractStridedSlice S4096x5x64 ![0, 0, 0] p slices_S4096x9x64_S4096x5x64_0_0_0) (broadcastInDim S4096x5x64 ![0, 1, 2] bcast_S1x1x64_S4096x5x64_0_1_2 (broadcastInDim S1x1x64 ![2] bcast_S64_S1x1x64_2 (shapeCast _ (extractStridedSlice S64x1 ![0, 0] kd slices_S64x5_S64x1_0_0) shapeCasts_S64x1_S64)))))
      (mulf (extractStridedSlice S4096x5x64 ![0, 1, 0] p slices_S4096x9x64_S4096x5x64_0_1_0) (broadcastInDim S4096x5x64 ![0, 1, 2] bcast_S1x1x64_S4096x5x64_0_1_2 (broadcastInDim S1x1x64 ![2] bcast_S64_S1x1x64_2 (shapeCast _ (extractStridedSlice S64x1 ![0, 1] kd slices_S64x5_S64x1_0_1) shapeCasts_S64x1_S64)))))
      (mulf (extractStridedSlice S4096x5x64 ![0, 2, 0] p slices_S4096x9x64_S4096x5x64_0_2_0) (broadcastInDim S4096x5x64 ![0, 1, 2] bcast_S1x1x64_S4096x5x64_0_1_2 (broadcastInDim S1x1x64 ![2] bcast_S64_S1x1x64_2 (shapeCast _ (extractStridedSlice S64x1 ![0, 2] kd slices_S64x5_S64x1_0_2) shapeCasts_S64x1_S64)))))
      (mulf (extractStridedSlice S4096x5x64 ![0, 3, 0] p slices_S4096x9x64_S4096x5x64_0_3_0) (broadcastInDim S4096x5x64 ![0, 1, 2] bcast_S1x1x64_S4096x5x64_0_1_2 (broadcastInDim S1x1x64 ![2] bcast_S64_S1x1x64_2 (shapeCast _ (extractStridedSlice S64x1 ![0, 3] kd slices_S64x5_S64x1_0_3) shapeCasts_S64x1_S64)))))
      (mulf (extractStridedSlice S4096x5x64 ![0, 4, 0] p slices_S4096x9x64_S4096x5x64_0_4_0) (broadcastInDim S4096x5x64 ![0, 1, 2] bcast_S1x1x64_S4096x5x64_0_1_2 (broadcastInDim S1x1x64 ![2] bcast_S64_S1x1x64_2 (shapeCast _ (extractStridedSlice S64x1 ![0, 4] kd slices_S64x5_S64x1_0_4) shapeCasts_S64x1_S64))))) (constant S_ .f32 0x00000000#32) reducesTo_S4096x5x64_S4096x64_d1 h_S_) (broadcastInDim S4096x64 ![] bcast_S_S4096x64 (constant S_ .f32 0x40A00000#32))

/-- The projection. -/
def projected (y : FVec F S4096x64 .f32) (wp : FVec F S64x64 .f32) (bp : FVec F S64 .f32) : FVec F S4096x64 .f32 :=
  addf (Host.dotGeneral dot_S4096x64_S64x64_S4096x64_1_0_0_1_n_n none y wp) (broadcastInDim S4096x64 ![0, 1] bcast_S1x64_S4096x64_0_1 (broadcastInDim S1x64 ![1] bcast_S64_S1x64_1 bp))

variable (V : Valuation τ sig (Elt F))

/-- The first layer at a time step, from the step's two lists of neighbours. -/
def out0 (w1 : IVec S20480 32) (w2 : IVec S40960 32) : FVec F S24576x128 .f32 :=
  layer0 (rows0 (V (Proc.devRef .tc main_arg0)) (V (Proc.devRef .tc main_arg1))) (rows1 (V (Proc.devRef .tc main_arg0)) w1)
    (rows2 (V (Proc.devRef .tc main_arg0)) w2) (V (Proc.devRef .tc main_arg4)) (V (Proc.devRef .tc main_arg5)) (V (Proc.devRef .tc main_arg6))

/-- The second. -/
def out1 (s : FVec F S24576x128 .f32) : FVec F S4096x64 .f32 :=
  layer1 s (V (Proc.devRef .tc main_arg7)) (V (Proc.devRef .tc main_arg8)) (V (Proc.devRef .tc main_arg9))

theorem v48 : res_main_v48 V = charge0 (res_main_v0 V) (out0 V (res_main_v4 V) (res_main_v7 V)) := rfl
theorem v123 : res_main_v123 V = charge0 (left0 (res_main_v48 V)) (out0 V (res_main_v79 V) (res_main_v82 V)) := rfl
theorem v198 : res_main_v198 V = charge0 (left0 (res_main_v123 V)) (out0 V (res_main_v154 V) (res_main_v157 V)) := rfl
theorem v273 : res_main_v273 V = charge0 (left0 (res_main_v198 V)) (out0 V (res_main_v229 V) (res_main_v232 V)) := rfl
theorem v348 : res_main_v348 V = charge0 (left0 (res_main_v273 V)) (out0 V (res_main_v304 V) (res_main_v307 V)) := rfl
theorem v70 : res_main_v70 V = charge1 (res_main_v1 V) (out1 V (fired0 (res_main_v48 V))) := rfl
theorem v145 : res_main_v145 V = charge1 (left1 (res_main_v70 V)) (out1 V (fired0 (res_main_v123 V))) := rfl
theorem v220 : res_main_v220 V = charge1 (left1 (res_main_v145 V)) (out1 V (fired0 (res_main_v198 V))) := rfl
theorem v295 : res_main_v295 V = charge1 (left1 (res_main_v220 V)) (out1 V (fired0 (res_main_v273 V))) := rfl
theorem v370 : res_main_v370 V = charge1 (left1 (res_main_v295 V)) (out1 V (fired0 (res_main_v348 V))) := rfl
theorem v73 : res_main_v73 V = fired1 (res_main_v70 V) := rfl
theorem v148 : res_main_v148 V = fired1 (res_main_v145 V) := rfl
theorem v223 : res_main_v223 V = fired1 (res_main_v220 V) := rfl
theorem v298 : res_main_v298 V = fired1 (res_main_v295 V) := rfl
theorem v373 : res_main_v373 V = fired1 (res_main_v370 V) := rfl
theorem v433 : res_main_v433 V = delayed (res_main_v382 V) (res_main_v393 V) := rfl

end Cert.Proof.Ref
-- ==== Proof.Finite.lean ====
/-
  Where the inputs are real numbers, so are the network's potentials; and a potential charged fully by its input is its input.
-/
module

public import proofs.«01_k».proof.Proof.Spec
public import Idealize.ShloMosaic.Lib.IdealHost

@[expose] public section

noncomputable section

namespace Cert.Proof.Net

open Idealize.ShloMosaic

/-- A real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb
  exact ⟨r + s, (EReal.coe_add r s).symm⟩
theorem IsReal.sub {a b : EReal} (ha : IsReal a) (hb : IsReal b) : IsReal (a - b) := by
  obtain ⟨r, rfl⟩ := ha; obtain ⟨s, rfl⟩ := hb
  exact ⟨r - s, (EReal.coe_sub r s).symm⟩
theorem IsReal.mul {a b : EReal} (ha : IsReal a) (hb : IsReal b) : IsReal (a * b) := by
  obtain ⟨r, rfl⟩ := ha; obtain ⟨s, rfl⟩ := hb
  exact ⟨r * s, (EReal.coe_mul r s).symm⟩
theorem IsReal.zero : IsReal 0 := ⟨0, EReal.coe_zero.symm⟩
theorem IsReal.sum {ι : Type} (s : Finset ι) {f : ι → EReal} (h : ∀ i, IsReal (f i)) : IsReal (∑ i ∈ s, f i) :=
  Finset.sum_induction f IsReal (fun _ _ => IsReal.add) IsReal.zero fun i _ => h i
theorem IsReal.spike (a : EReal) : IsReal (spike a) := by
  unfold Net.spike; split
  · exact ⟨1, EReal.coe_one.symm⟩
  · exact IsReal.zero

/-- The weights are real numbers. -/
structure Wts.Good (W : Wts) : Prop where
  wl0 : ∀ k c, IsReal (W.wl0 k c)
  wr0 : ∀ k c, IsReal (W.wr0 k c)
  b0 : ∀ c, IsReal (W.b0 c)
  wl1 : ∀ k c, IsReal (W.wl1 k c)
  wr1 : ∀ k c, IsReal (W.wr1 k c)
  b1 : ∀ c, IsReal (W.b1 c)

/-- The features are real numbers. -/
structure Rows.Good (R : Rows) : Prop where
  own : ∀ k, IsReal (R.own k)
  nbr : ∀ q k, IsReal (R.nbr q k)
  two : ∀ q k, IsReal (R.two q k)

/-- The features, the layers' weights and the logits are real numbers, and every word names a row. -/
structure Inputs.Good (I : Inputs) : Prop where
  x : ∀ i k, IsReal (I.x i k)
  W : I.W.Good
  dw : ∀ a i, IsReal (I.dw a i)
  nodes : ∀ n, (I.nodes n).toNat < 100000
  hop1 : ∀ t n q, (I.hop1 t n q).toNat < 100000
  hop2 : ∀ t i e, (I.hop2 t i e).toNat < 100000

theorem Inputs.Good.rows {I : Inputs} (h : I.Good) (t : Fin 5) (n : Fin 4096) : (I.rows t n).Good where
  own _ := h.x _ _
  nbr _ _ := h.x _ _
  two _ _ := (h.x _ _).add (h.x _ _)

variable {W : Wts} {R : Rows} (hW : W.Good) (hR : R.Good)

include hW hR in
theorem top_real (c : Fin 128) : IsReal (top W R c) :=
  ((IsReal.sum _ fun k => (hR.own k).mul (hW.wl0 k c)).add
    (IsReal.sum _ fun k => ((IsReal.sum _ fun q => hR.nbr q k).mul ⟨_, rfl⟩).mul (hW.wr0 k c))).add (hW.b0 c)
include hW hR in
theorem bot_real (q : Fin 5) (c : Fin 128) : IsReal (bot W R q c) :=
  ((IsReal.sum _ fun k => (hR.nbr q k).mul (hW.wl0 k c)).add
    (IsReal.sum _ fun k => ((hR.two q k).mul ⟨_, rfl⟩).mul (hW.wr0 k c))).add (hW.b0 c)
include hW in
theorem mid_real (c : Fin 64) : IsReal (mid W R c) :=
  ((IsReal.sum _ fun k => (IsReal.spike _).mul (hW.wl1 k c)).add
    (IsReal.sum _ fun k => ((IsReal.sum _ fun q => IsReal.spike _).mul ⟨_, rfl⟩).mul (hW.wr1 k c))).add (hW.b1 c)

/-- Divided by a real number that is not zero. -/
theorem div_real (x : EReal) (r : ℝ) (h : r ≠ 0) : Ideal.div x (r : EReal) = x * ((1 / r : ℝ) : EReal) := by
  unfold Ideal.div
  rw [if_neg fun e => h (EReal.coe_eq_zero.mp e), one_div, EReal.coe_inv]

theorem bits_five : Ideal.ofBits .f32 0x40A00000#32 = ((5 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem div_five (x : EReal) : Ideal.div x (Ideal.ofBits .f32 0x40A00000#32) = x * fifth := by
  rw [bits_five]; exact div_real x 5 (by norm_num)
theorem div_two (x : EReal) : Ideal.div x (Ideal.ofBits .f32 0x40000000#32) = x * half := by
  rw [bits_two]; exact div_real x 2 (by norm_num)
theorem div_one (x : EReal) : Ideal.div x 1 = x := by
  unfold Ideal.div
  rw [if_neg one_ne_zero, inv_one, mul_one]

/-- A real potential charged fully is its input. -/
theorem charge {v : EReal} (hv : IsReal v) (a : EReal) : v + Ideal.div (a - v) 1 = a := by
  obtain ⟨r, rfl⟩ := hv
  rw [div_one, add_comm]
  exact EReal.sub_add_cancel (a := a) (b := r)

end Cert.Proof.Net
-- ==== Proof.RefVal.lean ====
/-
  The reference's steps, read at an index over the extended reals.
-/
module

public import proofs.«01_k».proof.Proof.RefOps
public import proofs.«01_k».proof.Proof.Finite
public import Idealize.ShloMosaic.Lib.Pointwise

@[expose] public section

noncomputable section

namespace Cert.Proof.Ref

open Cert.ReferenceIdeal Cert.ReferenceIdeal.Gen Cert.ReferenceIdeal.Value

open Idealize.ShloMosaic
open Idealize.ShloMosaic.TcCoe
open Cert.Proof.Net

/-- A gather of whole rows: each result row is the row its word names, read signed and held within the table. -/
theorem gather_rows {α : Type} {N C B w : ℕ} (hN : 0 < N) (D : GatherDims ⟨2, ![N, C]⟩ ⟨2, ![B, 1]⟩ ⟨2, ![B, C]⟩)
    (h1 : D.offsetDims = [1]) (h2 : D.collapsedSliceDims = [0]) (h3 : D.operandBatchingDims = []) (h4 : D.startIndicesBatchingDims = [])
    (h5 : D.startIndexMap = [0]) (h6 : D.indexVectorDim = 1) (h7 : D.sliceSizes = ![1, C])
    (x : (⟨2, ![N, C]⟩ : Shape).Idx → α) (idx : IVec ⟨2, ![B, 1]⟩ w) (b : Fin B) (k : Fin C) :
    Host.gather D x idx (ix2 b k) = x (ix2 ⟨min (idx (ix2 b 0)).toInt.toNat (N - 1), by omega⟩ k) := by
  obtain ⟨_, _, _, _, _, _, _, wf⟩ := D
  subst h1 h2 h3 h4 h5 h6 h7
  unfold Host.gather
  refine congrArg x (funext fun a => Fin.ext ?_)
  unfold GatherDims.operandIdx
  match a with
  | ⟨0, _⟩ =>
    dsimp only
    rw [GatherDims.batchCoord_eq_zero _ _ _ List.not_mem_nil,
      GatherDims.offCoord_eq_zero _ _ _ fun h => ((GatherDims.mem_sKept _ _).mp h).1 (List.mem_singleton.mpr rfl)]
    unfold GatherDims.start
    refine (congrArg (· + 0 + 0) (dif_pos (List.mem_singleton.mpr rfl))).trans ?_
    refine congrArg (fun i => min (idx i).toInt.toNat (N - 1)) (funext fun c => ?_)
    match c with
    | ⟨0, _⟩ =>
      unfold GatherDims.siIdx
      rw [dif_neg Nat.zero_ne_one]
      exact Fin.ext rfl
    | ⟨1, _⟩ => exact Subsingleton.elim (α := Fin 1) _ _
  | ⟨1, _⟩ =>
    dsimp only
    rw [GatherDims.batchCoord_eq_zero _ _ _ List.not_mem_nil]
    unfold GatherDims.start GatherDims.offCoord
    rw [dif_neg (by simp), dif_pos ((GatherDims.mem_sKept _ _).mpr (by simp))]
    exact Nat.zero_add _

/-- A word below the table's size, put through the wrapping of negative words, names its own row. -/
theorem wrapped (w : BitVec 32) (h : w.toNat < 100000) :
    (Scalar.select (IntOp.cmpi .slt w 0#32) (IntOp.addi w 100000#32) w).toInt.toNat = w.toNat := by
  have h1 : w.toInt = w.toNat := BitVec.toInt_eq_toNat_of_lt (by omega)
  have h2 : IntOp.cmpi .slt w 0#32 = 0#1 := by
    simp only [IntOp.cmpi, BitVec.slt, h1]
    rw [show decide (((w.toNat : ℕ) : ℤ) < (0#32 : BitVec 32).toInt) = false from decide_eq_false (by simp)]
    rfl
  rw [h2, Scalar.select, if_neg (by decide), h1, Int.toNat_natCast]

theorem pick_eq (w : BitVec 32) (h : w.toNat < 100000) (h' : min (Scalar.select (IntOp.cmpi .slt w 0#32) (IntOp.addi w 100000#32) w).toInt.toNat (100000 - 1) < 100000) :
    (⟨_, h'⟩ : Fin 100000) = pick w := Fin.ext (congrArg (min · 99999) (wrapped w h))

variable (x : FVec Ideal S100000x128 .f32)

theorem rows0_apply (w : IVec S4096 32) (n : Fin 4096) (k : Fin 128) (h : (w (ix1 n)).toNat < 100000) :
    rows0 x w (ix2 n k) = x (ix2 (pick (w (ix1 n))) k) := by
  unfold rows0
  refine (gather_rows (by norm_num) _ rfl rfl rfl rfl rfl rfl rfl x _ n k).trans ?_
  rw [← pick_eq _ h (by omega)]
  pointwise
theorem rows1_apply (w : IVec S20480 32) (n : Fin 20480) (k : Fin 128) (h : (w (ix1 n)).toNat < 100000) :
    rows1 x w (ix2 n k) = x (ix2 (pick (w (ix1 n))) k) := by
  unfold rows1
  refine (gather_rows (by norm_num) _ rfl rfl rfl rfl rfl rfl rfl x _ n k).trans ?_
  rw [← pick_eq _ h (by omega)]
  pointwise
theorem rows2_apply (w : IVec S40960 32) (n : Fin 40960) (k : Fin 128) (h : (w (ix1 n)).toNat < 100000) :
    rows2 x w (ix2 n k) = x (ix2 (pick (w (ix1 n))) k) := by
  unfold rows2
  refine (gather_rows (by norm_num) _ rfl rfl rfl rfl rfl rfl rfl x _ n k).trans ?_
  rw [← pick_eq _ h (by omega)]
  pointwise

/-- The place of a node among nodes and neighbours, -/
def rowTop (n : Fin 4096) : Fin 24576 := ⟨n.val, by have := n.isLt; omega⟩
/-- and of a neighbour. -/
def rowBot (i : Fin 20480) : Fin 24576 := ⟨4096 + i.val, by have := i.isLt; omega⟩
/-- The place of a neighbour's neighbour among them. -/
def pr (i : Fin 20480) (e : Fin 2) : Fin 40960 := ⟨i.val * 2 + e.val, by have := i.isLt; have := e.isLt; omega⟩

section Layers

variable (h0 : FVec Ideal S4096x128 .f32) (h1 : FVec Ideal S20480x128 .f32) (h2 : FVec Ideal S40960x128 .f32)
  (wl wr : FVec Ideal S128x128 .f32) (b : FVec Ideal S128 .f32)

theorem layer0_top (n : Fin 4096) (c : Fin 128) : layer0 h0 h1 h2 wl wr b (ix2 (rowTop n) c)
    = ((∑ k, h0 (ix2 n k) * wl (ix2 k c)) + ∑ k, (∑ q, h1 (ix2 (nb n q) k)) * fifth * wr (ix2 k c)) + b (ix1 c) := by
  have e (q : Fin 5) (h : n.val * 5 + q.val < 20480) : (⟨n.val * 5 + q.val, h⟩ : Fin 20480) = nb n q :=
    Fin.ext (by show n.val * 5 + q.val = 5 * n.val + q.val; omega)
  unfold rowTop
  pointwise [layer0]
  simp only [div_five, e]
theorem layer0_bot (i : Fin 20480) (c : Fin 128) : layer0 h0 h1 h2 wl wr b (ix2 (rowBot i) c)
    = ((∑ k, h1 (ix2 i k) * wl (ix2 k c)) + ∑ k, (h2 (ix2 (pr i 0) k) + h2 (ix2 (pr i 1) k)) * half * wr (ix2 k c)) + b (ix1 c) := by
  unfold rowBot
  pointwise [layer0]
  simp only [div_two, Fin.sum_univ_two]
  rfl

theorem layer1_apply (s : FVec Ideal S24576x128 .f32) (wl wr : FVec Ideal S128x64 .f32) (b : FVec Ideal S64 .f32) (n : Fin 4096) (c : Fin 64) :
    layer1 s wl wr b (ix2 n c)
      = ((∑ k, s (ix2 (rowTop n) k) * wl (ix2 k c)) + ∑ k, (∑ q, s (ix2 (rowBot (nb n q)) k)) * fifth * wr (ix2 k c)) + b (ix1 c) := by
  have e (q : Fin 5) (h : 4096 + (n.val * 5 + q.val) < 24576) : (⟨4096 + (n.val * 5 + q.val), h⟩ : Fin 24576) = rowBot (nb n q) :=
    Fin.ext (by show 4096 + (n.val * 5 + q.val) = 4096 + (5 * n.val + q.val); omega)
  pointwise [layer1]
  simp only [div_five, e]
  rfl

end Layers

theorem spike_word (a : EReal) : (FloatOps.uitofp .f32 (BitVec.ofBool (decide (1 ≤ a))) : Ideal .f32) = spike a := by
  unfold spike
  by_cases h : 1 ≤ a
  · simp only [h, decide_true, if_true]
    exact (congrArg (fun n : ℕ => ((n : ℝ) : EReal)) (show (BitVec.ofBool true).toNat = 1 from rfl)).trans (by norm_num)
  · simp only [h, decide_false, if_false]
    exact (congrArg (fun n : ℕ => ((n : ℝ) : EReal)) (show (BitVec.ofBool false).toNat = 0 from rfl)).trans (by norm_num)

theorem charge0_eq (v a : FVec Ideal S24576x128 .f32) (hv : ∀ j, IsReal (v j)) : charge0 v a = a := by
  funext j
  refine Eq.trans ?_ (charge (hv j) (a j))
  pointwise [charge0]
theorem fired0_apply (v : FVec Ideal S24576x128 .f32) (j : S24576x128.Idx) : fired0 v j = spike (v j) := by
  refine Eq.trans ?_ (spike_word (v j))
  pointwise [fired0]
theorem left0_real (v : FVec Ideal S24576x128 .f32) (hv : ∀ j, IsReal (v j)) (j : S24576x128.Idx) : IsReal (left0 v j) := by
  have e : left0 v j = v j - spike (v j) := by
    rw [← fired0_apply]
    pointwise [left0]
  rw [e]; exact (hv j).sub (IsReal.spike _)
theorem charge1_eq (v a : FVec Ideal S4096x64 .f32) (hv : ∀ j, IsReal (v j)) : charge1 v a = a := by
  funext j
  refine Eq.trans ?_ (charge (hv j) (a j))
  pointwise [charge1]
theorem fired1_apply (v : FVec Ideal S4096x64 .f32) (j : S4096x64.Idx) : fired1 v j = spike (v j) := by
  refine Eq.trans ?_ (spike_word (v j))
  pointwise [fired1]
theorem left1_real (v : FVec Ideal S4096x64 .f32) (hv : ∀ j, IsReal (v j)) (j : S4096x64.Idx) : IsReal (left1 v j) := by
  have e : left1 v j = v j - spike (v j) := by
    rw [← fired1_apply]
    pointwise [left1]
  rw [e]; exact (hv j).sub (IsReal.spike _)

variable (V : Valuation τ sig (Elt Ideal))

/-- The arguments as the network's inputs. -/
def inp : Inputs :=
  inputsOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13))

/-- The two lists of a time step. -/
structure Lists (t : Fin 5) (w1 : IVec S20480 32) (w2 : IVec S40960 32) : Prop where
  one : ∀ n q, w1 (ix1 (nb n q)) = (inp V).hop1 t n q
  two : ∀ i e, w2 (ix1 (pr i e)) = (inp V).hop2 t i e

section Step

variable {V} (hI : (inp V).Good) {t : Fin 5} {w1 : IVec S20480 32} {w2 : IVec S40960 32} (hL : Lists V t w1 w2)

include hI in
theorem own_row (n : Fin 4096) (k : Fin 128) :
    rows0 (F := Ideal) (V (Proc.devRef .tc main_arg0)) (V (Proc.devRef .tc main_arg1)) (ix2 n k) = ((inp V).rows t n).own k :=
  rows0_apply _ _ n k (hI.nodes n)
include hI hL in
theorem nbr_row (n : Fin 4096) (q : Fin 5) (k : Fin 128) :
    rows1 (F := Ideal) (V (Proc.devRef .tc main_arg0)) w1 (ix2 (nb n q) k) = ((inp V).rows t n).nbr q k := by
  rw [rows1_apply _ _ _ _ (by rw [hL.one]; exact hI.hop1 t n q), hL.one]
  rfl
include hI hL in
theorem two_row (i : Fin 20480) (e : Fin 2) (k : Fin 128) :
    rows2 (F := Ideal) (V (Proc.devRef .tc main_arg0)) w2 (ix2 (pr i e) k) = (inp V).x (pick ((inp V).hop2 t i e)) k := by
  rw [rows2_apply _ _ _ _ (by rw [hL.two]; exact hI.hop2 t i e), hL.two]
  rfl

include hI hL in
theorem out0_top (n : Fin 4096) (c : Fin 128) : out0 V w1 w2 (ix2 (rowTop n) c) = top (inp V).W ((inp V).rows t n) c := by
  unfold out0
  rw [layer0_top]
  simp only [own_row (t := t) hI, nbr_row hI hL]
  rfl
include hI hL in
theorem out0_bot (n : Fin 4096) (q : Fin 5) (c : Fin 128) :
    out0 V w1 w2 (ix2 (rowBot (nb n q)) c) = bot (inp V).W ((inp V).rows t n) q c := by
  unfold out0
  rw [layer0_bot]
  simp only [two_row hI hL, nbr_row hI hL]
  rfl

include hI hL in
theorem out0_real (j : S24576x128.Idx) : IsReal (out0 V w1 w2 j) := by
  obtain ⟨r, c, rfl⟩ : ∃ (r : Fin 24576) (c : Fin 128), j = ix2 r c := ⟨j 0, j 1, funext fun a => by fin_cases a <;> rfl⟩
  by_cases h : r.val < 4096
  · rw [show r = rowTop ⟨r.val, h⟩ from rfl, out0_top hI hL]
    exact top_real hI.W (hI.rows t _) c
  · have hr := r.isLt
    rw [show r = rowBot (nb ⟨(r.val - 4096) / 5, by omega⟩ ⟨(r.val - 4096) % 5, by omega⟩) from
      Fin.ext (by show r.val = 4096 + (5 * ((r.val - 4096) / 5) + (r.val - 4096) % 5); omega), out0_bot hI hL]
    exact bot_real hI.W (hI.rows t _) _ c

include hI hL in
theorem out1_apply (n : Fin 4096) (c : Fin 64) :
    out1 V (fired0 (out0 V w1 w2)) (ix2 n c) = mid (inp V).W ((inp V).rows t n) c := by
  unfold out1
  rw [layer1_apply]
  simp only [fired0_apply, out0_top hI hL, out0_bot hI hL]
  rfl

include hI hL in
theorem out1_real (j : S4096x64.Idx) : IsReal (out1 V (fired0 (out0 V w1 w2)) j) := by
  obtain ⟨n, c, rfl⟩ : ∃ (n : Fin 4096) (c : Fin 64), j = ix2 n c := ⟨j 0, j 1, funext fun a => by fin_cases a <;> rfl⟩
  rw [out1_apply hI hL]
  exact mid_real hI.W c

end Step

end Cert.Proof.Ref
-- ==== Proof.RefStage.lean ====
/-
  The reference's spikes at every time step.
-/
module

public import proofs.«01_k».proof.Proof.RefVal

@[expose] public section

noncomputable section

namespace Cert.Proof.Ref

open Cert.ReferenceIdeal Cert.ReferenceIdeal.Gen Cert.ReferenceIdeal.Value

open Idealize.ShloMosaic
open Idealize.ShloMosaic.TcCoe
open Cert.Proof.Net

variable (V : Valuation τ sig (Elt Ideal))

theorem lists0 : Lists V 0 (res_main_v4 V) (res_main_v7 V) where
  one n q := by
    unfold nb
    pointwise [res_main_v4]
    rfl
  two i e := by
    unfold pr
    pointwise [res_main_v7]
    rfl
theorem lists1 : Lists V 1 (res_main_v79 V) (res_main_v82 V) where
  one n q := by
    unfold nb
    pointwise [res_main_v79]
    rfl
  two i e := by
    unfold pr
    pointwise [res_main_v82]
    rfl
theorem lists2 : Lists V 2 (res_main_v154 V) (res_main_v157 V) where
  one n q := by
    unfold nb
    pointwise [res_main_v154]
    rfl
  two i e := by
    unfold pr
    pointwise [res_main_v157]
    rfl
theorem lists3 : Lists V 3 (res_main_v229 V) (res_main_v232 V) where
  one n q := by
    unfold nb
    pointwise [res_main_v229]
    rfl
  two i e := by
    unfold pr
    pointwise [res_main_v232]
    rfl
theorem lists4 : Lists V 4 (res_main_v304 V) (res_main_v307 V) where
  one n q := by
    unfold nb
    pointwise [res_main_v304]
    rfl
  two i e := by
    unfold pr
    pointwise [res_main_v307]
    rfl
theorem zero0 {V : Valuation τ sig (Elt Ideal)} (j : S24576x128.Idx) : IsReal ((res_main_v0 V : FVec Ideal S24576x128 .f32) j) := by
  have e : res_main_v0 V j = (0 : EReal) := by pointwise [res_main_v0]
  exact ⟨0, e.trans EReal.coe_zero.symm⟩
theorem zero1 {V : Valuation τ sig (Elt Ideal)} (j : S4096x64.Idx) : IsReal ((res_main_v1 V : FVec Ideal S4096x64 .f32) j) := by
  have e : res_main_v1 V j = (0 : EReal) := by pointwise [res_main_v1]
  exact ⟨0, e.trans EReal.coe_zero.symm⟩

section Steps

variable {V} (hI : (inp V).Good)

include hI in
theorem s48 : res_main_v48 V = out0 V (res_main_v4 V) (res_main_v7 V) :=
  (v48 V).trans (charge0_eq _ _ zero0)
include hI in
theorem s70 : res_main_v70 V = out1 V (fired0 (out0 V (res_main_v4 V) (res_main_v7 V))) :=
  ((v70 V).trans (charge1_eq _ _ zero1)).trans (congrArg (fun v => out1 V (fired0 v)) (s48 hI))
include hI in
theorem s123 : res_main_v123 V = out0 V (res_main_v79 V) (res_main_v82 V) :=
  (v123 V).trans (charge0_eq _ _ (left0_real _ (s48 hI ▸ out0_real hI (lists0 V))))
include hI in
theorem s145 : res_main_v145 V = out1 V (fired0 (out0 V (res_main_v79 V) (res_main_v82 V))) :=
  ((v145 V).trans (charge1_eq _ _ (left1_real _ (s70 hI ▸ out1_real hI (lists0 V))))).trans (congrArg (fun v => out1 V (fired0 v)) (s123 hI))
include hI in
theorem s198 : res_main_v198 V = out0 V (res_main_v154 V) (res_main_v157 V) :=
  (v198 V).trans (charge0_eq _ _ (left0_real _ (s123 hI ▸ out0_real hI (lists1 V))))
include hI in
theorem s220 : res_main_v220 V = out1 V (fired0 (out0 V (res_main_v154 V) (res_main_v157 V))) :=
  ((v220 V).trans (charge1_eq _ _ (left1_real _ (s145 hI ▸ out1_real hI (lists1 V))))).trans (congrArg (fun v => out1 V (fired0 v)) (s198 hI))
include hI in
theorem s273 : res_main_v273 V = out0 V (res_main_v229 V) (res_main_v232 V) :=
  (v273 V).trans (charge0_eq _ _ (left0_real _ (s198 hI ▸ out0_real hI (lists2 V))))
include hI in
theorem s295 : res_main_v295 V = out1 V (fired0 (out0 V (res_main_v229 V) (res_main_v232 V))) :=
  ((v295 V).trans (charge1_eq _ _ (left1_real _ (s220 hI ▸ out1_real hI (lists2 V))))).trans (congrArg (fun v => out1 V (fired0 v)) (s273 hI))
include hI in
theorem s348 : res_main_v348 V = out0 V (res_main_v304 V) (res_main_v307 V) :=
  (v348 V).trans (charge0_eq _ _ (left0_real _ (s273 hI ▸ out0_real hI (lists3 V))))
include hI in
theorem s370 : res_main_v370 V = out1 V (fired0 (out0 V (res_main_v304 V) (res_main_v307 V))) :=
  ((v370 V).trans (charge1_eq _ _ (left1_real _ (s295 hI ▸ out1_real hI (lists3 V))))).trans (congrArg (fun v => out1 V (fired0 v)) (s348 hI))

/-- The spikes of the second layer. -/
theorem spikes_at {t : Fin 5} {w1 : IVec S20480 32} {w2 : IVec S40960 32} (hL : Lists V t w1 w2) {v : FVec Ideal S4096x64 .f32}
    (h : v = out1 V (fired0 (out0 V w1 w2))) (n : Fin 4096) (c : Fin 64) (hI : (inp V).Good) :
    fired1 v (ix2 n c) = fire (inp V).W ((inp V).rows t n) c := by
  rw [fired1_apply, h, out1_apply hI hL]
  rfl

include hI in
/-- The spikes over time. -/
theorem spikes_over (n : Fin 4096) (t : Fin 5) (c : Fin 64) :
    (res_main_v382 V : FVec Ideal S4096x5x64 .f32) (ix3 n t c) = fire (inp V).W ((inp V).rows t n) c := by
  fin_cases t
  · refine Eq.trans ?_ (spikes_at (lists0 V) (s70 hI) n c hI)
    rw [← v73]
    pointwise [res_main_v382]
  · refine Eq.trans ?_ (spikes_at (lists1 V) (s145 hI) n c hI)
    rw [← v148]
    pointwise [res_main_v382]
  · refine Eq.trans ?_ (spikes_at (lists2 V) (s220 hI) n c hI)
    rw [← v223]
    pointwise [res_main_v382]
  · refine Eq.trans ?_ (spikes_at (lists3 V) (s295 hI) n c hI)
    rw [← v298]
    pointwise [res_main_v382]
  · refine Eq.trans ?_ (spikes_at (lists4 V) (s370 hI) n c hI)
    rw [← v373]
    pointwise [res_main_v382]

end Steps

end Cert.Proof.Ref
-- ==== Proof.Shares.lean ====
/-
  The shares of the delays: they do not change when the logits are shifted, and they are nonnegative real numbers.
-/
module

public import proofs.«01_k».proof.Proof.Finite
public import Mathlib.Data.Finset.Fold

@[expose] public section

noncomputable section

namespace Cert.Proof.Net

open Idealize.ShloMosaic
open scoped NNReal

theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem exp_coe (r : ℝ) : Ideal.exp (r : EReal) = ((Real.exp r : ℝ) : EReal) := rfl

theorem share_coe {d : Fin 4 → EReal} {r : Fin 4 → ℝ} (h : ∀ i, d i = r i) (j : Fin 4) :
    share d j = ((Real.exp (r j) * (1 / ∑ i, Real.exp (r i)) : ℝ) : EReal) := by
  have hp : (∑ i, Real.exp (r i)) ≠ 0 := (Finset.sum_pos (fun i _ => Real.exp_pos (r i)) Finset.univ_nonempty).ne'
  unfold share
  simp only [h, exp_coe]
  rw [sum_coe, div_real _ _ hp, ← EReal.coe_mul]

/-- Shifted logits have the same shares. -/
theorem share_shift {d : Fin 4 → EReal} (hd : ∀ i, IsReal (d i)) {M : EReal} (hM : IsReal M) (j : Fin 4) :
    share (fun i => d i - M) j = share d j := by
  choose r hr using hd
  obtain ⟨m, rfl⟩ := hM
  rw [share_coe (r := fun i => r i - m) (fun i => by rw [hr i, ← EReal.coe_sub]), share_coe hr]
  have hp : (∑ i, Real.exp (r i)) ≠ 0 := (Finset.sum_pos (fun i _ => Real.exp_pos (r i)) Finset.univ_nonempty).ne'
  have hm := (Real.exp_pos m).ne'
  simp only [Real.exp_sub]
  rw [← Finset.sum_div]
  congr 1
  field_simp

/-- A share is a nonnegative real number. -/
theorem share_nonneg {d : Fin 4 → EReal} (hd : ∀ i, IsReal (d i)) (j : Fin 4) : ∃ g : ℝ≥0, share d j = ((g : ℝ) : EReal) := by
  choose r hr using hd
  exact ⟨⟨_, by positivity⟩, share_coe hr j⟩

theorem bits_bot : Ideal.ofBits .f32 0xFF800000#32 = ⊥ := by
  simp [Ideal.ofBits, Ideal.ieee]

/-- The greatest of finitely many real numbers, taken from below all of them, is a real number. -/
theorem greatest_real {ι : Type} (s : Finset ι) (f : ι → EReal) (hf : ∀ i, IsReal (f i)) {i : ι} (hi : i ∈ s) :
    IsReal (max ⊥ (s.fold max ⊥ f)) := by
  rw [max_eq_right bot_le]
  have h1 : s.fold max ⊥ f < ⊤ := (Finset.fold_max_lt _).mpr ⟨bot_lt_top, fun i _ => by
    obtain ⟨r, hr⟩ := hf i
    rw [hr]; exact EReal.coe_lt_top r⟩
  have h2 : ⊥ < s.fold max ⊥ f := (Finset.lt_fold_max _).mpr (Or.inr ⟨i, hi, by
    obtain ⟨r, hr⟩ := hf i
    rw [hr]; exact EReal.bot_lt_coe r⟩)
  exact ⟨_, (EReal.coe_toReal h1.ne h2.ne').symm⟩

theorem spike_nonneg (a : EReal) : ∃ s : ℝ≥0, spike a = ((s : ℝ) : EReal) := by
  unfold spike; split
  · exact ⟨1, by simp⟩
  · exact ⟨0, by simp⟩

/-- The mean over time of the taps of delayed spikes is the spikes times their own weights. -/
theorem pooled_eq {s : Fin 5 → EReal} (hs : ∀ t, ∃ r : ℝ≥0, s t = ((r : ℝ) : EReal)) {d : Fin 4 → EReal} (hd : ∀ i, IsReal (d i))
    (k : Fin 5 → EReal) :
    ((s 0 * share d 0 * k 2 + (s 1 * share d 0 + s 0 * share d 1) * k 3 + (s 2 * share d 0 + s 1 * share d 1) * k 4)
        + (s 0 * share d 0 * k 1 + (s 1 * share d 0 + s 0 * share d 1) * k 2 + (s 2 * share d 0 + s 1 * share d 1) * k 3
          + (s 3 * share d 0 + s 2 * share d 1 + s 0 * share d 2) * k 4)
        + (s 0 * share d 0 * k 0 + (s 1 * share d 0 + s 0 * share d 1) * k 1 + (s 2 * share d 0 + s 1 * share d 1) * k 2
          + (s 3 * share d 0 + s 2 * share d 1 + s 0 * share d 2) * k 3 + (s 4 * share d 0 + s 3 * share d 1 + s 1 * share d 2) * k 4)
        + ((s 1 * share d 0 + s 0 * share d 1) * k 0 + (s 2 * share d 0 + s 1 * share d 1) * k 1
          + (s 3 * share d 0 + s 2 * share d 1 + s 0 * share d 2) * k 2 + (s 4 * share d 0 + s 3 * share d 1 + s 1 * share d 2) * k 3)
        + ((s 2 * share d 0 + s 1 * share d 1) * k 0 + (s 3 * share d 0 + s 2 * share d 1 + s 0 * share d 2) * k 1
          + (s 4 * share d 0 + s 3 * share d 1 + s 1 * share d 2) * k 2)) * fifth
      = pooled s d k := by
  choose r hr using hs
  obtain ⟨g0, h0⟩ := share_nonneg hd 0
  obtain ⟨g1, h1⟩ := share_nonneg hd 1
  obtain ⟨g2, h2⟩ := share_nonneg hd 2
  have hf : fifth = (((⟨1 / 5, by norm_num⟩ : ℝ≥0) : ℝ) : EReal) := rfl
  have h := readout (r 0) (r 1) (r 2) (r 3) (r 4) g0 g1 g2 ⟨1 / 5, by norm_num⟩ (k 0) (k 1) (k 2) (k 3) (k 4)
  simp only [smul_eq, NNReal.coe_add, NNReal.coe_mul, EReal.coe_add, EReal.coe_mul] at h
  rw [mul_comm]
  unfold pooled
  rw [Fin.sum_univ_five]
  simp only [weight, hr, h0, h1, h2, hf]
  exact h

end Cert.Proof.Net
-- ==== Proof.RefOut.lean ====
/-
  The reference's read-out, and its result.
-/
module

public import proofs.«01_k».proof.Proof.RefStage
public import proofs.«01_k».proof.Proof.Shares

@[expose] public section

noncomputable section

namespace Cert.Proof.Ref

open Cert.ReferenceIdeal Cert.ReferenceIdeal.Gen Cert.ReferenceIdeal.Value

open Idealize.ShloMosaic
open Idealize.ShloMosaic.TcCoe
open Cert.Proof.Net
open scoped NNReal

section Layer

variable (s : FVec Ideal S4096x5x64 .f32) (g : FVec Ideal S8x4 .f32) (n : Fin 4096) (c : Fin 64)

/-- A step of the padded spikes that no delay reaches. -/
theorem pad_word : (FloatOps.sitofp .f32 (0#32 : BitVec 32) : Ideal .f32) = 0 := by
  show (((0#32 : BitVec 32).toInt : ℝ) : EReal) = 0
  simp

theorem delayed0 : delayed s g (ix3 n 0 c) = 0 := by
  pointwise [delayed]
  simp [pad_word, S4096x5x64, Fin.forall_fin_succ, grp]
theorem delayed1 : delayed s g (ix3 n 1 c) = 0 := by
  pointwise [delayed]
  simp [pad_word, S4096x5x64, Fin.forall_fin_succ, grp]
theorem delayed2 : delayed s g (ix3 n 2 c) = s (ix3 n 0 c) * g (ix2 (grp c) 0) := by
  pointwise [delayed]
  simp [pad_word, S4096x5x64, Fin.forall_fin_succ, grp]
theorem delayed3 : delayed s g (ix3 n 3 c) = s (ix3 n 1 c) * g (ix2 (grp c) 0) + s (ix3 n 0 c) * g (ix2 (grp c) 1) := by
  pointwise [delayed]
  simp [pad_word, S4096x5x64, Fin.forall_fin_succ, grp]
theorem delayed4 : delayed s g (ix3 n 4 c) = s (ix3 n 2 c) * g (ix2 (grp c) 0) + s (ix3 n 1 c) * g (ix2 (grp c) 1) := by
  pointwise [delayed]
  simp [pad_word, S4096x5x64, Fin.forall_fin_succ, grp]
theorem delayed5 : delayed s g (ix3 n 5 c) = s (ix3 n 3 c) * g (ix2 (grp c) 0) + s (ix3 n 2 c) * g (ix2 (grp c) 1) + s (ix3 n 0 c) * g (ix2 (grp c) 2) := by
  pointwise [delayed]
  simp [pad_word, S4096x5x64, Fin.forall_fin_succ, grp]
theorem delayed6 : delayed s g (ix3 n 6 c) = s (ix3 n 4 c) * g (ix2 (grp c) 0) + s (ix3 n 3 c) * g (ix2 (grp c) 1) + s (ix3 n 1 c) * g (ix2 (grp c) 2) := by
  pointwise [delayed]
  simp [pad_word, S4096x5x64, Fin.forall_fin_succ, grp]
theorem delayed7 : delayed s g (ix3 n 7 c) = 0 := by
  pointwise [delayed]
  simp [pad_word, S4096x5x64, Fin.forall_fin_succ, grp]
theorem delayed8 : delayed s g (ix3 n 8 c) = 0 := by
  pointwise [delayed]
  simp [pad_word, S4096x5x64, Fin.forall_fin_succ, grp]

theorem taps_apply (p : FVec Ideal S4096x9x64 .f32) (kd : FVec Ideal S64x5 .f32) : taps p kd (ix2 n c) =
    ((p (ix3 n 0 c) * kd (ix2 c 0) + p (ix3 n 1 c) * kd (ix2 c 1) + p (ix3 n 2 c) * kd (ix2 c 2) + p (ix3 n 3 c) * kd (ix2 c 3) + p (ix3 n 4 c) * kd (ix2 c 4))
      + (p (ix3 n 1 c) * kd (ix2 c 0) + p (ix3 n 2 c) * kd (ix2 c 1) + p (ix3 n 3 c) * kd (ix2 c 2) + p (ix3 n 4 c) * kd (ix2 c 3) + p (ix3 n 5 c) * kd (ix2 c 4))
      + (p (ix3 n 2 c) * kd (ix2 c 0) + p (ix3 n 3 c) * kd (ix2 c 1) + p (ix3 n 4 c) * kd (ix2 c 2) + p (ix3 n 5 c) * kd (ix2 c 3) + p (ix3 n 6 c) * kd (ix2 c 4))
      + (p (ix3 n 3 c) * kd (ix2 c 0) + p (ix3 n 4 c) * kd (ix2 c 1) + p (ix3 n 5 c) * kd (ix2 c 2) + p (ix3 n 6 c) * kd (ix2 c 3) + p (ix3 n 7 c) * kd (ix2 c 4))
      + (p (ix3 n 4 c) * kd (ix2 c 0) + p (ix3 n 5 c) * kd (ix2 c 1) + p (ix3 n 6 c) * kd (ix2 c 2) + p (ix3 n 7 c) * kd (ix2 c 3) + p (ix3 n 8 c) * kd (ix2 c 4))) * fifth := by
  pointwise [taps]
  rw [div_five, Fin.sum_univ_five]
  rfl

theorem projected_apply (y : FVec Ideal S4096x64 .f32) (wp : FVec Ideal S64x64 .f32) (bp : FVec Ideal S64 .f32) :
    projected y wp bp (ix2 n c) = (∑ k, y (ix2 n k) * wp (ix2 k c)) + bp (ix1 c) := by
  pointwise [projected]

end Layer

variable (V : Valuation τ sig (Elt Ideal))

/-- The shares the reference takes. -/
theorem shares_apply (hI : (inp V).Good) (a : Fin 8) (i : Fin 4) :
    (res_main_v393 V : FVec Ideal S8x4 .f32) (ix2 a i) = share ((inp V).dw a) i := by
  have hM : IsReal (max ⊥ ((Finset.univ.filter fun i : S8x4.Idx => reducesTo_S8x4_S8_d1.drop i = ix1 a).fold max ⊥
      (V (Proc.devRef .tc main_arg10) : S8x4.Idx → EReal))) :=
    greatest_real _ _ (fun i => by
      rw [show i = ix2 (i 0) (i 1) from funext fun b => by fin_cases b <;> rfl]
      exact hI.dw (i 0) (i 1)) (i := ix2 a 0)
      (Finset.mem_filter.mpr ⟨Finset.mem_univ _, funext fun b => by fin_cases b; rfl⟩)
  rw [← share_shift (hI.dw a) hM i]
  pointwise [res_main_v393, res_main_v389]
  rw [bits_bot]
  rfl

/-- The mean of the taps. -/
theorem pool_apply (hI : (inp V).Good) (n : Fin 4096) (c : Fin 64) :
    taps (res_main_v433 V) (V (Proc.devRef .tc main_arg11)) (ix2 n c) = (inp V).pool n c := by
  have hk (j : Fin 5) : (V (Proc.devRef .tc main_arg11) : FVec Ideal S64x5 .f32) (ix2 c j) = (inp V).kd c j := rfl
  have h := pooled_eq (s := fun t => fire (inp V).W ((inp V).rows t n) c) (fun t => spike_nonneg _) (hI.dw (grp c)) ((inp V).kd c)
  rw [taps_apply, v433]
  simp only [delayed0, delayed1, delayed2, delayed3, delayed4, delayed5, delayed6, delayed7, delayed8, zero_mul, zero_add, add_zero,
    spikes_over hI, shares_apply V hI, hk]
  exact h

/-- The reference's result. -/
theorem result_apply (hI : (inp V).Good) (n : Fin 4096) (c : Fin 64) :
    projected (taps (res_main_v433 V) (V (Proc.devRef .tc main_arg11))) (V (Proc.devRef .tc main_arg12)) (V (Proc.devRef .tc main_arg13)) (ix2 n c)
      = (inp V).out n c := by
  rw [projected_apply]
  simp only [pool_apply V hI]
  rfl

end Cert.Proof.Ref
-- ==== Proof.Claims.lean ====
/-
  The claims.
-/
module

public import proofs.«01_k».proof.Proof.PreRows
public import proofs.«01_k».proof.Proof.Frame
public import proofs.«01_k».proof.Proof.P.Frame
public import proofs.«01_k».proof.Proof.KerOut
public import proofs.«01_k».proof.Proof.RefOut
public import proofs.«01_k».proof.Proof.Gen.ReferenceIdeal.Run
public import Idealize.ShloMosaic.Lib.Quiescent

@[expose] public section

noncomputable section

namespace Cert.Proof.Claims

open Idealize.ShloMosaic Idealize.ShloMosaic.TcCoe Idealize.SL.Sem

theorem frame_p : Cert.quiescent_Kernel := fun m ρ hpre =>
  (θ_run Cert.Kernel.defs _ _).mono (fun _ h => ⟨fun c => PTile.kept h c, h.2⟩)
    (PTile.run_main (F := Bits) m ρ fun d =>
      have w := Pre.rows_of _ _ _ _ _ _ _ _ _ _ _ _ _ _ (hpre d)
      PTile.argsOf_ok m d w.1 w.2.1 w.2.2)

theorem frame_pi : Cert.quiescent_KernelIdeal := fun m ρ hpre =>
  (θ_run Cert.KernelIdeal.defs _ _).mono (fun _ h => ⟨fun c => Tile.kept h c, h.2⟩)
    (Tile.run_main (F := Ideal) m ρ fun d =>
      have w := Pre.rows_of _ _ _ _ _ _ _ _ _ _ _ _ _ _ (hpre d)
      Tile.argsOf_ok m d w.1 w.2.1 w.2.2)

theorem frame_pi_pre : Cert.quiescent_KernelIdeal_pre_pre_idx := fun m ρ hpre =>
  (θ_run Cert.KernelIdeal.defs _ _).mono (fun _ h => ⟨fun c => Tile.kept h c, h.2⟩)
    (Tile.run_main (F := Ideal) m ρ fun d =>
      have w := (Pre.facts_of _ _ _ _ _ _ _ _ _ _ _ _ _ _ (hpre d)).1
      Tile.argsOf_ok m d w.1 w.2.1 w.2.2)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_pre_idx := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "fifth" .f32 0x3E4CCCCD#32 ((1 / 5 : ℝ) : EReal) rfl

section Value

open Cert.Proof.Net

variable {m : (ℓ : Loc Cert.KernelIdeal.nD Cert.KernelIdeal.τ Cert.KernelIdeal.sig) → Buf (Elt Ideal) ℓ}

/-- Under the precondition the inputs are good. -/
theorem good (hpre : Cert.Pre_KernelIdeal_pre_idx m) (d : Dev Cert.KernelIdeal.nD) : (Tile.inp m d).Good :=
  have w := Pre.facts_of _ _ _ _ _ _ _ _ _ _ _ _ _ _ (hpre d)
  { x := fun _ _ => w.2.1.real _
    W :=
      { wl0 := fun _ _ => w.2.2.1.real _
        wr0 := fun _ _ => w.2.2.2.1.real _
        b0 := fun _ => w.2.2.2.2.1.real _
        wl1 := fun _ _ => w.2.2.2.2.2.1.real _
        wr1 := fun _ _ => w.2.2.2.2.2.2.1.real _
        b1 := fun _ => w.2.2.2.2.2.2.2.1.real _ }
    dw := fun _ _ => w.2.2.2.2.2.2.2.2.real _
    nodes := fun _ => w.1.1 _
    hop1 := fun _ _ _ => w.1.2.1 _
    hop2 := fun _ _ _ => w.1.2.2 _ }

theorem algebraic : Cert.algebraic_KernelIdeal_ReferenceIdeal_pre_pre_idx := by
  intro m ρ m' ρ' hpre hagree
  refine ⟨fun c i => (Tile.inp m c).out (i 0) (i 1), ?_, ?_⟩
  · refine (θ_run Cert.KernelIdeal.defs _ _).mono (fun r h c => ⟨((h.1 c).1 13).trans ?_, Tile.kept h c⟩)
      (Tile.run_main (F := Ideal) m ρ fun d =>
        have w := (Pre.facts_of _ _ _ _ _ _ _ _ _ _ _ _ _ _ (hpre d)).1
        Tile.argsOf_ok m d w.1 w.2.1 w.2.2)
    rw [Tile.out_eq]
    exact funext fun i => Tile.out_entry m c (i 0) (i 1)
  · refine (θ_run Cert.ReferenceIdeal.defs _ _).mono (fun _ h c => ⟨(h c).1.trans ?_, (h c).2⟩) (Cert.ReferenceIdeal.Value.run (F := Ideal) m' ρ')
    have e : Ref.inp (StableHlo.launchContents m' c) = Tile.inp m c := by
      obtain ⟨h0, h1, h2, h3, h4, h5, h6, h7, h8, h9, h10, h11, h12, h13⟩ := hagree c
      unfold Ref.inp Tile.inp
      rw [← h0, ← h1, ← h2, ← h3, ← h4, ← h5, ← h6, ← h7, ← h8, ← h9, ← h10, ← h11, ← h12, ← h13]
    have hv : Ref.projected (Ref.taps (Cert.ReferenceIdeal.Value.res_main_v433 (StableHlo.launchContents m' c))
          (StableHlo.launchContents m' c (Proc.devRef .tc Cert.ReferenceIdeal.main_arg11)))
          (StableHlo.launchContents m' c (Proc.devRef .tc Cert.ReferenceIdeal.main_arg12))
          (StableHlo.launchContents m' c (Proc.devRef .tc Cert.ReferenceIdeal.main_arg13))
        = fun i => (Tile.inp m c).out (i 0) (i 1) := by
      funext i
      rw [← e]
      exact (congrArg _ (show i = ix2 (i 0) (i 1) from funext fun a => by fin_cases a <;> rfl)).trans
        (Ref.result_apply (StableHlo.launchContents m' c) (e ▸ good hpre c) (i 0) (i 1))
    exact hv

end Value

end Cert.Proof.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_pre_idx
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Pre.rows_facts, Cert.Pre_pre_idx.Gen.facts,
  Claims.frame_p, Claims.frame_pi, Claims.frame_pi_pre, Claims.frame_ri, Claims.frame_ri_pre, Claims.preserves, Claims.algebraic⟩

end Cert.Proof

end
